-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Experts [hPre_expert_range : Cert.Pre_expert_range.Facts] (m : (ℓ : Loc Cert.Experts.nD Cert.Experts.τ Cert.Experts.sig) → Buf (Elt Bits) ℓ) : Prop :=
  ∀ c : Dev Cert.Experts.nD,
    (Cert.Pre_expert_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_expert_range : Cert.Pre_expert_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_expert_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_expert_range [hPre_expert_range : Cert.Pre_expert_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_expert_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_SProj (m : (ℓ : Loc Cert.SProj.nD Cert.SProj.τ Cert.SProj.sig) → Buf (Elt Bits) ℓ) : Prop :=
  True

def Pre_SProjIdeal (m : (ℓ : Loc Cert.SProjIdeal.nD Cert.SProjIdeal.τ Cert.SProjIdeal.sig) → Buf (Elt Ideal) ℓ) : Prop :=
  True

def Pre_SProjRefIdeal (m : (ℓ : Loc Cert.SProjRefIdeal.nD Cert.SProjRefIdeal.τ Cert.SProjRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Combine [hPre_slot_range : Cert.Pre_slot_range.Facts] (m : (ℓ : Loc Cert.Combine.nD Cert.Combine.τ Cert.Combine.sig) → Buf (Elt Bits) ℓ) : Prop :=
  ∀ c : Dev Cert.Combine.nD,
    (Cert.Pre_slot_range.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4)) (m ((c.tc : Thread Cert.Combine.nD Cert.Combine.τ).loc Cert.Combine.main_arg5)) (m ((c.tc : Thread Cert.Combine.nD Cert.Combine.τ).loc Cert.Combine.main_arg6)) (m ((c.tc : Thread Cert.Combine.nD Cert.Combine.τ).loc Cert.Combine.main_arg7)) (m ((c.tc : Thread Cert.Combine.nD Cert.Combine.τ).loc Cert.Combine.main_arg8))) = (fun _ => 1#1)

def Pre_CombineIdeal [hPre_slot_range : Cert.Pre_slot_range.Facts] (m : (ℓ : Loc Cert.CombineIdeal.nD Cert.CombineIdeal.τ Cert.CombineIdeal.sig) → Buf (Elt Ideal) ℓ) : Prop :=
  ∀ c : Dev Cert.CombineIdeal.nD,
    (Cert.Pre_slot_range.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5)) (m ((c.tc : Thread Cert.CombineIdeal.nD Cert.CombineIdeal.τ).loc Cert.CombineIdeal.main_arg6)) (m ((c.tc : Thread Cert.CombineIdeal.nD Cert.CombineIdeal.τ).loc Cert.CombineIdeal.main_arg7)) (m ((c.tc : Thread Cert.CombineIdeal.nD Cert.CombineIdeal.τ).loc Cert.CombineIdeal.main_arg8))) = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_slot_range [hPre_slot_range : Cert.Pre_slot_range.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_slot_range.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4)) (m ((c.tc : Thread Cert.CombineRefIdeal.nD Cert.CombineRefIdeal.τ).loc Cert.CombineRefIdeal.main_arg5)) (m ((c.tc : Thread Cert.CombineRefIdeal.nD Cert.CombineRefIdeal.τ).loc Cert.CombineRefIdeal.main_arg6)) (m ((c.tc : Thread Cert.CombineRefIdeal.nD Cert.CombineRefIdeal.τ).loc Cert.CombineRefIdeal.main_arg7)) (m ((c.tc : Thread Cert.CombineRefIdeal.nD Cert.CombineRefIdeal.τ).loc Cert.CombineRefIdeal.main_arg8))) = (fun _ => 1#1)

def Pre_SCombine [hPre_sample_slot_range : Cert.Pre_sample_slot_range.Facts] (m : (ℓ : Loc Cert.SCombine.nD Cert.SCombine.τ Cert.SCombine.sig) → Buf (Elt Bits) ℓ) : Prop :=
  ∀ c : Dev Cert.SCombine.nD,
    (Cert.Pre_sample_slot_range.fn (F := Bits) (m ((c.tc : Thread Cert.SCombine.nD Cert.SCombine.τ).loc Cert.SCombine.main_arg0)) (m ((c.tc : Thread Cert.SCombine.nD Cert.SCombine.τ).loc Cert.SCombine.main_arg1)) (m ((c.tc : Thread Cert.SCombine.nD Cert.SCombine.τ).loc Cert.SCombine.main_arg2)) (m ((c.tc : Thread Cert.SCombine.nD Cert.SCombine.τ).loc Cert.SCombine.main_arg3)) (m ((c.tc : Thread Cert.SCombine.nD Cert.SCombine.τ).loc Cert.SCombine.main_arg4)) (m ((c.tc : Thread Cert.SCombine.nD Cert.SCombine.τ).loc Cert.SCombine.main_arg5)) (m ((c.tc : Thread Cert.SCombine.nD Cert.SCombine.τ).loc Cert.SCombine.main_arg6)) (m ((c.tc : Thread Cert.SCombine.nD Cert.SCombine.τ).loc Cert.SCombine.main_arg7)) (m ((c.tc : Thread Cert.SCombine.nD Cert.SCombine.τ).loc Cert.SCombine.main_arg8))) = (fun _ => 1#1)

def Pre_SCombineIdeal [hPre_sample_slot_range : Cert.Pre_sample_slot_range.Facts] (m : (ℓ : Loc Cert.SCombineIdeal.nD Cert.SCombineIdeal.τ Cert.SCombineIdeal.sig) → Buf (Elt Ideal) ℓ) : Prop :=
  ∀ c : Dev Cert.SCombineIdeal.nD,
    (Cert.Pre_sample_slot_range.fn (F := Ideal) (m ((c.tc : Thread Cert.SCombineIdeal.nD Cert.SCombineIdeal.τ).loc Cert.SCombineIdeal.main_arg0)) (m ((c.tc : Thread Cert.SCombineIdeal.nD Cert.SCombineIdeal.τ).loc Cert.SCombineIdeal.main_arg1)) (m ((c.tc : Thread Cert.SCombineIdeal.nD Cert.SCombineIdeal.τ).loc Cert.SCombineIdeal.main_arg2)) (m ((c.tc : Thread Cert.SCombineIdeal.nD Cert.SCombineIdeal.τ).loc Cert.SCombineIdeal.main_arg3)) (m ((c.tc : Thread Cert.SCombineIdeal.nD Cert.SCombineIdeal.τ).loc Cert.SCombineIdeal.main_arg4)) (m ((c.tc : Thread Cert.SCombineIdeal.nD Cert.SCombineIdeal.τ).loc Cert.SCombineIdeal.main_arg5)) (m ((c.tc : Thread Cert.SCombineIdeal.nD Cert.SCombineIdeal.τ).loc Cert.SCombineIdeal.main_arg6)) (m ((c.tc : Thread Cert.SCombineIdeal.nD Cert.SCombineIdeal.τ).loc Cert.SCombineIdeal.main_arg7)) (m ((c.tc : Thread Cert.SCombineIdeal.nD Cert.SCombineIdeal.τ).loc Cert.SCombineIdeal.main_arg8))) = (fun _ => 1#1)

def Pre_SCombineRefIdeal (m : (ℓ : Loc Cert.SCombineRefIdeal.nD Cert.SCombineRefIdeal.τ Cert.SCombineRefIdeal.sig) → Buf (Elt Ideal) ℓ) : Prop :=
  True

def Pre_SCombineRefIdeal_sample_slot_range [hPre_sample_slot_range : Cert.Pre_sample_slot_range.Facts] (m : (ℓ : Loc Cert.SCombineRefIdeal.nD Cert.SCombineRefIdeal.τ Cert.SCombineRefIdeal.sig) → Buf (Elt Ideal) ℓ) : Prop :=
  ∀ c : Dev Cert.SCombineRefIdeal.nD,
    (Cert.Pre_sample_slot_range.fn (F := Ideal) (m ((c.tc : Thread Cert.SCombineRefIdeal.nD Cert.SCombineRefIdeal.τ).loc Cert.SCombineRefIdeal.main_arg0)) (m ((c.tc : Thread Cert.SCombineRefIdeal.nD Cert.SCombineRefIdeal.τ).loc Cert.SCombineRefIdeal.main_arg1)) (m ((c.tc : Thread Cert.SCombineRefIdeal.nD Cert.SCombineRefIdeal.τ).loc Cert.SCombineRefIdeal.main_arg2)) (m ((c.tc : Thread Cert.SCombineRefIdeal.nD Cert.SCombineRefIdeal.τ).loc Cert.SCombineRefIdeal.main_arg3)) (m ((c.tc : Thread Cert.SCombineRefIdeal.nD Cert.SCombineRefIdeal.τ).loc Cert.SCombineRefIdeal.main_arg4)) (m ((c.tc : Thread Cert.SCombineRefIdeal.nD Cert.SCombineRefIdeal.τ).loc Cert.SCombineRefIdeal.main_arg5)) (m ((c.tc : Thread Cert.SCombineRefIdeal.nD Cert.SCombineRefIdeal.τ).loc Cert.SCombineRefIdeal.main_arg6)) (m ((c.tc : Thread Cert.SCombineRefIdeal.nD Cert.SCombineRefIdeal.τ).loc Cert.SCombineRefIdeal.main_arg7)) (m ((c.tc : Thread Cert.SCombineRefIdeal.nD Cert.SCombineRefIdeal.τ).loc Cert.SCombineRefIdeal.main_arg8))) = (fun _ => 1#1)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Experts [hExperts : Cert.Experts.Facts] [hPre_expert_range : Cert.Pre_expert_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_expert_range : Cert.Pre_expert_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_expert_range [hExpertsRefIdeal : Cert.ExpertsRefIdeal.Facts] [hPre_expert_range : Cert.Pre_expert_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_expert_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_SProj [hSProj : Cert.SProj.Facts] : Prop :=
  ∀ (m : (ℓ : Loc Cert.SProj.nD Cert.SProj.τ Cert.SProj.sig) → Buf (Elt Bits) ℓ) (g : Dev Cert.SProj.nD → PrngReg), Pre_SProj m →
    θ_run (Cert.SProj.defs (F := Bits)) (onTc (τ := Cert.SProj.τ) (Cert.SProj.main (F := Bits))) ⟨m, fun _ => 0, g⟩ (fun r => (∀ c : Dev Cert.SProj.nD,
      r.2.mem ((c.tc : Thread Cert.SProj.nD Cert.SProj.τ).loc Cert.SProj.main_arg0) = m ((c.tc : Thread Cert.SProj.nD Cert.SProj.τ).loc Cert.SProj.main_arg0)
      ∧ r.2.mem ((c.tc : Thread Cert.SProj.nD Cert.SProj.τ).loc Cert.SProj.main_arg1) = m ((c.tc : Thread Cert.SProj.nD Cert.SProj.τ).loc Cert.SProj.main_arg1)
      ∧ r.2.mem ((c.tc : Thread Cert.SProj.nD Cert.SProj.τ).loc Cert.SProj.main_arg2) = m ((c.tc : Thread Cert.SProj.nD Cert.SProj.τ).loc Cert.SProj.main_arg2)
      ∧ r.2.mem ((c.tc : Thread Cert.SProj.nD Cert.SProj.τ).loc Cert.SProj.main_arg3) = m ((c.tc : Thread Cert.SProj.nD Cert.SProj.τ).loc Cert.SProj.main_arg3))
      ∧ r.2.sem = fun _ => 0)

def quiescent_SProjIdeal [hSProjIdeal : Cert.SProjIdeal.Facts] : Prop :=
  ∀ (m : (ℓ : Loc Cert.SProjIdeal.nD Cert.SProjIdeal.τ Cert.SProjIdeal.sig) → Buf (Elt Ideal) ℓ) (g : Dev Cert.SProjIdeal.nD → PrngReg), Pre_SProjIdeal m →
    θ_run (Cert.SProjIdeal.defs (F := Ideal)) (onTc (τ := Cert.SProjIdeal.τ) (Cert.SProjIdeal.main (F := Ideal))) ⟨m, fun _ => 0, g⟩ (fun r => (∀ c : Dev Cert.SProjIdeal.nD,
      r.2.mem ((c.tc : Thread Cert.SProjIdeal.nD Cert.SProjIdeal.τ).loc Cert.SProjIdeal.main_arg0) = m ((c.tc : Thread Cert.SProjIdeal.nD Cert.SProjIdeal.τ).loc Cert.SProjIdeal.main_arg0)
      ∧ r.2.mem ((c.tc : Thread Cert.SProjIdeal.nD Cert.SProjIdeal.τ).loc Cert.SProjIdeal.main_arg1) = m ((c.tc : Thread Cert.SProjIdeal.nD Cert.SProjIdeal.τ).loc Cert.SProjIdeal.main_arg1)
      ∧ r.2.mem ((c.tc : Thread Cert.SProjIdeal.nD Cert.SProjIdeal.τ).loc Cert.SProjIdeal.main_arg2) = m ((c.tc : Thread Cert.SProjIdeal.nD Cert.SProjIdeal.τ).loc Cert.SProjIdeal.main_arg2)
      ∧ r.2.mem ((c.tc : Thread Cert.SProjIdeal.nD Cert.SProjIdeal.τ).loc Cert.SProjIdeal.main_arg3) = m ((c.tc : Thread Cert.SProjIdeal.nD Cert.SProjIdeal.τ).loc Cert.SProjIdeal.main_arg3))
      ∧ r.2.sem = fun _ => 0)

def quiescent_SProjRefIdeal [hSProjRefIdeal : Cert.SProjRefIdeal.Facts] : Prop :=
  ∀ (m : (ℓ : Loc Cert.SProjRefIdeal.nD Cert.SProjRefIdeal.τ Cert.SProjRefIdeal.sig) → Buf (Elt Ideal) ℓ) (g : Dev Cert.SProjRefIdeal.nD → PrngReg), Pre_SProjRefIdeal m →
    θ_run (Cert.SProjRefIdeal.defs (F := Ideal)) (onTc (τ := Cert.SProjRefIdeal.τ) (Cert.SProjRefIdeal.main (F := Ideal))) ⟨m, fun _ => 0, g⟩ (fun r => (∀ c : Dev Cert.SProjRefIdeal.nD,
      r.2.mem ((c.tc : Thread Cert.SProjRefIdeal.nD Cert.SProjRefIdeal.τ).loc Cert.SProjRefIdeal.main_arg0) = m ((c.tc : Thread Cert.SProjRefIdeal.nD Cert.SProjRefIdeal.τ).loc Cert.SProjRefIdeal.main_arg0)
      ∧ r.2.mem ((c.tc : Thread Cert.SProjRefIdeal.nD Cert.SProjRefIdeal.τ).loc Cert.SProjRefIdeal.main_arg1) = m ((c.tc : Thread Cert.SProjRefIdeal.nD Cert.SProjRefIdeal.τ).loc Cert.SProjRefIdeal.main_arg1)
      ∧ r.2.mem ((c.tc : Thread Cert.SProjRefIdeal.nD Cert.SProjRefIdeal.τ).loc Cert.SProjRefIdeal.main_arg2) = m ((c.tc : Thread Cert.SProjRefIdeal.nD Cert.SProjRefIdeal.τ).loc Cert.SProjRefIdeal.main_arg2)
      ∧ r.2.mem ((c.tc : Thread Cert.SProjRefIdeal.nD Cert.SProjRefIdeal.τ).loc Cert.SProjRefIdeal.main_arg3) = m ((c.tc : Thread Cert.SProjRefIdeal.nD Cert.SProjRefIdeal.τ).loc Cert.SProjRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def quiescent_Combine [hCombine : Cert.Combine.Facts] [hPre_slot_range : Cert.Pre_slot_range.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7)
      ∧ r.2.mem ((c.tc : Thread Cert.Combine.nD Cert.Combine.τ).loc Cert.Combine.main_arg8) = m ((c.tc : Thread Cert.Combine.nD Cert.Combine.τ).loc Cert.Combine.main_arg8))
      ∧ r.2.sem = fun _ => 0)

def quiescent_CombineIdeal [hCombineIdeal : Cert.CombineIdeal.Facts] [hPre_slot_range : Cert.Pre_slot_range.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6)
      ∧ r.2.mem ((c.tc : Thread Cert.CombineRefIdeal.nD Cert.CombineRefIdeal.τ).loc Cert.CombineRefIdeal.main_arg7) = m ((c.tc : Thread Cert.CombineRefIdeal.nD Cert.CombineRefIdeal.τ).loc Cert.CombineRefIdeal.main_arg7)
      ∧ r.2.mem ((c.tc : Thread Cert.CombineRefIdeal.nD Cert.CombineRefIdeal.τ).loc Cert.CombineRefIdeal.main_arg8) = m ((c.tc : Thread Cert.CombineRefIdeal.nD Cert.CombineRefIdeal.τ).loc Cert.CombineRefIdeal.main_arg8))
      ∧ r.2.sem = fun _ => 0)

def quiescent_CombineRefIdeal_pre_slot_range [hCombineRefIdeal : Cert.CombineRefIdeal.Facts] [hPre_slot_range : Cert.Pre_slot_range.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_slot_range m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6)
      ∧ r.2.mem ((c.tc : Thread Cert.CombineRefIdeal.nD Cert.CombineRefIdeal.τ).loc Cert.CombineRefIdeal.main_arg7) = m ((c.tc : Thread Cert.CombineRefIdeal.nD Cert.CombineRefIdeal.τ).loc Cert.CombineRefIdeal.main_arg7)
      ∧ r.2.mem ((c.tc : Thread Cert.CombineRefIdeal.nD Cert.CombineRefIdeal.τ).loc Cert.CombineRefIdeal.main_arg8) = m ((c.tc : Thread Cert.CombineRefIdeal.nD Cert.CombineRefIdeal.τ).loc Cert.CombineRefIdeal.main_arg8))
      ∧ r.2.sem = fun _ => 0)

def quiescent_SCombine [hSCombine : Cert.SCombine.Facts] [hPre_sample_slot_range : Cert.Pre_sample_slot_range.Facts] : Prop :=
  ∀ (m : (ℓ : Loc Cert.SCombine.nD Cert.SCombine.τ Cert.SCombine.sig) → Buf (Elt Bits) ℓ) (g : Dev Cert.SCombine.nD → PrngReg), Pre_SCombine m →
    θ_run (Cert.SCombine.defs (F := Bits)) (onTc (τ := Cert.SCombine.τ) (Cert.SCombine.main (F := Bits))) ⟨m, fun _ => 0, g⟩ (fun r => (∀ c : Dev Cert.SCombine.nD,
      r.2.mem ((c.tc : Thread Cert.SCombine.nD Cert.SCombine.τ).loc Cert.SCombine.main_arg0) = m ((c.tc : Thread Cert.SCombine.nD Cert.SCombine.τ).loc Cert.SCombine.main_arg0)
      ∧ r.2.mem ((c.tc : Thread Cert.SCombine.nD Cert.SCombine.τ).loc Cert.SCombine.main_arg1) = m ((c.tc : Thread Cert.SCombine.nD Cert.SCombine.τ).loc Cert.SCombine.main_arg1)
      ∧ r.2.mem ((c.tc : Thread Cert.SCombine.nD Cert.SCombine.τ).loc Cert.SCombine.main_arg2) = m ((c.tc : Thread Cert.SCombine.nD Cert.SCombine.τ).loc Cert.SCombine.main_arg2)
      ∧ r.2.mem ((c.tc : Thread Cert.SCombine.nD Cert.SCombine.τ).loc Cert.SCombine.main_arg3) = m ((c.tc : Thread Cert.SCombine.nD Cert.SCombine.τ).loc Cert.SCombine.main_arg3)
      ∧ r.2.mem ((c.tc : Thread Cert.SCombine.nD Cert.SCombine.τ).loc Cert.SCombine.main_arg4) = m ((c.tc : Thread Cert.SCombine.nD Cert.SCombine.τ).loc Cert.SCombine.main_arg4)
      ∧ r.2.mem ((c.tc : Thread Cert.SCombine.nD Cert.SCombine.τ).loc Cert.SCombine.main_arg5) = m ((c.tc : Thread Cert.SCombine.nD Cert.SCombine.τ).loc Cert.SCombine.main_arg5)
      ∧ r.2.mem ((c.tc : Thread Cert.SCombine.nD Cert.SCombine.τ).loc Cert.SCombine.main_arg6) = m ((c.tc : Thread Cert.SCombine.nD Cert.SCombine.τ).loc Cert.SCombine.main_arg6)
      ∧ r.2.mem ((c.tc : Thread Cert.SCombine.nD Cert.SCombine.τ).loc Cert.SCombine.main_arg7) = m ((c.tc : Thread Cert.SCombine.nD Cert.SCombine.τ).loc Cert.SCombine.main_arg7)
      ∧ r.2.mem ((c.tc : Thread Cert.SCombine.nD Cert.SCombine.τ).loc Cert.SCombine.main_arg8) = m ((c.tc : Thread Cert.SCombine.nD Cert.SCombine.τ).loc Cert.SCombine.main_arg8))
      ∧ r.2.sem = fun _ => 0)

def quiescent_SCombineIdeal [hSCombineIdeal : Cert.SCombineIdeal.Facts] [hPre_sample_slot_range : Cert.Pre_sample_slot_range.Facts] : Prop :=
  ∀ (m : (ℓ : Loc Cert.SCombineIdeal.nD Cert.SCombineIdeal.τ Cert.SCombineIdeal.sig) → Buf (Elt Ideal) ℓ) (g : Dev Cert.SCombineIdeal.nD → PrngReg), Pre_SCombineIdeal m →
    θ_run (Cert.SCombineIdeal.defs (F := Ideal)) (onTc (τ := Cert.SCombineIdeal.τ) (Cert.SCombineIdeal.main (F := Ideal))) ⟨m, fun _ => 0, g⟩ (fun r => (∀ c : Dev Cert.SCombineIdeal.nD,
      r.2.mem ((c.tc : Thread Cert.SCombineIdeal.nD Cert.SCombineIdeal.τ).loc Cert.SCombineIdeal.main_arg0) = m ((c.tc : Thread Cert.SCombineIdeal.nD Cert.SCombineIdeal.τ).loc Cert.SCombineIdeal.main_arg0)
      ∧ r.2.mem ((c.tc : Thread Cert.SCombineIdeal.nD Cert.SCombineIdeal.τ).loc Cert.SCombineIdeal.main_arg1) = m ((c.tc : Thread Cert.SCombineIdeal.nD Cert.SCombineIdeal.τ).loc Cert.SCombineIdeal.main_arg1)
      ∧ r.2.mem ((c.tc : Thread Cert.SCombineIdeal.nD Cert.SCombineIdeal.τ).loc Cert.SCombineIdeal.main_arg2) = m ((c.tc : Thread Cert.SCombineIdeal.nD Cert.SCombineIdeal.τ).loc Cert.SCombineIdeal.main_arg2)
      ∧ r.2.mem ((c.tc : Thread Cert.SCombineIdeal.nD Cert.SCombineIdeal.τ).loc Cert.SCombineIdeal.main_arg3) = m ((c.tc : Thread Cert.SCombineIdeal.nD Cert.SCombineIdeal.τ).loc Cert.SCombineIdeal.main_arg3)
      ∧ r.2.mem ((c.tc : Thread Cert.SCombineIdeal.nD Cert.SCombineIdeal.τ).loc Cert.SCombineIdeal.main_arg4) = m ((c.tc : Thread Cert.SCombineIdeal.nD Cert.SCombineIdeal.τ).loc Cert.SCombineIdeal.main_arg4)
      ∧ r.2.mem ((c.tc : Thread Cert.SCombineIdeal.nD Cert.SCombineIdeal.τ).loc Cert.SCombineIdeal.main_arg5) = m ((c.tc : Thread Cert.SCombineIdeal.nD Cert.SCombineIdeal.τ).loc Cert.SCombineIdeal.main_arg5)
      ∧ r.2.mem ((c.tc : Thread Cert.SCombineIdeal.nD Cert.SCombineIdeal.τ).loc Cert.SCombineIdeal.main_arg6) = m ((c.tc : Thread Cert.SCombineIdeal.nD Cert.SCombineIdeal.τ).loc Cert.SCombineIdeal.main_arg6)
      ∧ r.2.mem ((c.tc : Thread Cert.SCombineIdeal.nD Cert.SCombineIdeal.τ).loc Cert.SCombineIdeal.main_arg7) = m ((c.tc : Thread Cert.SCombineIdeal.nD Cert.SCombineIdeal.τ).loc Cert.SCombineIdeal.main_arg7)
      ∧ r.2.mem ((c.tc : Thread Cert.SCombineIdeal.nD Cert.SCombineIdeal.τ).loc Cert.SCombineIdeal.main_arg8) = m ((c.tc : Thread Cert.SCombineIdeal.nD Cert.SCombineIdeal.τ).loc Cert.SCombineIdeal.main_arg8))
      ∧ r.2.sem = fun _ => 0)

def quiescent_SCombineRefIdeal [hSCombineRefIdeal : Cert.SCombineRefIdeal.Facts] : Prop :=
  ∀ (m : (ℓ : Loc Cert.SCombineRefIdeal.nD Cert.SCombineRefIdeal.τ Cert.SCombineRefIdeal.sig) → Buf (Elt Ideal) ℓ) (g : Dev Cert.SCombineRefIdeal.nD → PrngReg), Pre_SCombineRefIdeal m →
    θ_run (Cert.SCombineRefIdeal.defs (F := Ideal)) (onTc (τ := Cert.SCombineRefIdeal.τ) (Cert.SCombineRefIdeal.main (F := Ideal))) ⟨m, fun _ => 0, g⟩ (fun r => (∀ c : Dev Cert.SCombineRefIdeal.nD,
      r.2.mem ((c.tc : Thread Cert.SCombineRefIdeal.nD Cert.SCombineRefIdeal.τ).loc Cert.SCombineRefIdeal.main_arg0) = m ((c.tc : Thread Cert.SCombineRefIdeal.nD Cert.SCombineRefIdeal.τ).loc Cert.SCombineRefIdeal.main_arg0)
      ∧ r.2.mem ((c.tc : Thread Cert.SCombineRefIdeal.nD Cert.SCombineRefIdeal.τ).loc Cert.SCombineRefIdeal.main_arg1) = m ((c.tc : Thread Cert.SCombineRefIdeal.nD Cert.SCombineRefIdeal.τ).loc Cert.SCombineRefIdeal.main_arg1)
      ∧ r.2.mem ((c.tc : Thread Cert.SCombineRefIdeal.nD Cert.SCombineRefIdeal.τ).loc Cert.SCombineRefIdeal.main_arg2) = m ((c.tc : Thread Cert.SCombineRefIdeal.nD Cert.SCombineRefIdeal.τ).loc Cert.SCombineRefIdeal.main_arg2)
      ∧ r.2.mem ((c.tc : Thread Cert.SCombineRefIdeal.nD Cert.SCombineRefIdeal.τ).loc Cert.SCombineRefIdeal.main_arg3) = m ((c.tc : Thread Cert.SCombineRefIdeal.nD Cert.SCombineRefIdeal.τ).loc Cert.SCombineRefIdeal.main_arg3)
      ∧ r.2.mem ((c.tc : Thread Cert.SCombineRefIdeal.nD Cert.SCombineRefIdeal.τ).loc Cert.SCombineRefIdeal.main_arg4) = m ((c.tc : Thread Cert.SCombineRefIdeal.nD Cert.SCombineRefIdeal.τ).loc Cert.SCombineRefIdeal.main_arg4)
      ∧ r.2.mem ((c.tc : Thread Cert.SCombineRefIdeal.nD Cert.SCombineRefIdeal.τ).loc Cert.SCombineRefIdeal.main_arg5) = m ((c.tc : Thread Cert.SCombineRefIdeal.nD Cert.SCombineRefIdeal.τ).loc Cert.SCombineRefIdeal.main_arg5)
      ∧ r.2.mem ((c.tc : Thread Cert.SCombineRefIdeal.nD Cert.SCombineRefIdeal.τ).loc Cert.SCombineRefIdeal.main_arg6) = m ((c.tc : Thread Cert.SCombineRefIdeal.nD Cert.SCombineRefIdeal.τ).loc Cert.SCombineRefIdeal.main_arg6)
      ∧ r.2.mem ((c.tc : Thread Cert.SCombineRefIdeal.nD Cert.SCombineRefIdeal.τ).loc Cert.SCombineRefIdeal.main_arg7) = m ((c.tc : Thread Cert.SCombineRefIdeal.nD Cert.SCombineRefIdeal.τ).loc Cert.SCombineRefIdeal.main_arg7)
      ∧ r.2.mem ((c.tc : Thread Cert.SCombineRefIdeal.nD Cert.SCombineRefIdeal.τ).loc Cert.SCombineRefIdeal.main_arg8) = m ((c.tc : Thread Cert.SCombineRefIdeal.nD Cert.SCombineRefIdeal.τ).loc Cert.SCombineRefIdeal.main_arg8))
      ∧ r.2.sem = fun _ => 0)

def quiescent_SCombineRefIdeal_pre_sample_slot_range [hSCombineRefIdeal : Cert.SCombineRefIdeal.Facts] [hPre_sample_slot_range : Cert.Pre_sample_slot_range.Facts] : Prop :=
  ∀ (m : (ℓ : Loc Cert.SCombineRefIdeal.nD Cert.SCombineRefIdeal.τ Cert.SCombineRefIdeal.sig) → Buf (Elt Ideal) ℓ) (g : Dev Cert.SCombineRefIdeal.nD → PrngReg), Pre_SCombineRefIdeal_sample_slot_range m →
    θ_run (Cert.SCombineRefIdeal.defs (F := Ideal)) (onTc (τ := Cert.SCombineRefIdeal.τ) (Cert.SCombineRefIdeal.main (F := Ideal))) ⟨m, fun _ => 0, g⟩ (fun r => (∀ c : Dev Cert.SCombineRefIdeal.nD,
      r.2.mem ((c.tc : Thread Cert.SCombineRefIdeal.nD Cert.SCombineRefIdeal.τ).loc Cert.SCombineRefIdeal.main_arg0) = m ((c.tc : Thread Cert.SCombineRefIdeal.nD Cert.SCombineRefIdeal.τ).loc Cert.SCombineRefIdeal.main_arg0)
      ∧ r.2.mem ((c.tc : Thread Cert.SCombineRefIdeal.nD Cert.SCombineRefIdeal.τ).loc Cert.SCombineRefIdeal.main_arg1) = m ((c.tc : Thread Cert.SCombineRefIdeal.nD Cert.SCombineRefIdeal.τ).loc Cert.SCombineRefIdeal.main_arg1)
      ∧ r.2.mem ((c.tc : Thread Cert.SCombineRefIdeal.nD Cert.SCombineRefIdeal.τ).loc Cert.SCombineRefIdeal.main_arg2) = m ((c.tc : Thread Cert.SCombineRefIdeal.nD Cert.SCombineRefIdeal.τ).loc Cert.SCombineRefIdeal.main_arg2)
      ∧ r.2.mem ((c.tc : Thread Cert.SCombineRefIdeal.nD Cert.SCombineRefIdeal.τ).loc Cert.SCombineRefIdeal.main_arg3) = m ((c.tc : Thread Cert.SCombineRefIdeal.nD Cert.SCombineRefIdeal.τ).loc Cert.SCombineRefIdeal.main_arg3)
      ∧ r.2.mem ((c.tc : Thread Cert.SCombineRefIdeal.nD Cert.SCombineRefIdeal.τ).loc Cert.SCombineRefIdeal.main_arg4) = m ((c.tc : Thread Cert.SCombineRefIdeal.nD Cert.SCombineRefIdeal.τ).loc Cert.SCombineRefIdeal.main_arg4)
      ∧ r.2.mem ((c.tc : Thread Cert.SCombineRefIdeal.nD Cert.SCombineRefIdeal.τ).loc Cert.SCombineRefIdeal.main_arg5) = m ((c.tc : Thread Cert.SCombineRefIdeal.nD Cert.SCombineRefIdeal.τ).loc Cert.SCombineRefIdeal.main_arg5)
      ∧ r.2.mem ((c.tc : Thread Cert.SCombineRefIdeal.nD Cert.SCombineRefIdeal.τ).loc Cert.SCombineRefIdeal.main_arg6) = m ((c.tc : Thread Cert.SCombineRefIdeal.nD Cert.SCombineRefIdeal.τ).loc Cert.SCombineRefIdeal.main_arg6)
      ∧ r.2.mem ((c.tc : Thread Cert.SCombineRefIdeal.nD Cert.SCombineRefIdeal.τ).loc Cert.SCombineRefIdeal.main_arg7) = m ((c.tc : Thread Cert.SCombineRefIdeal.nD Cert.SCombineRefIdeal.τ).loc Cert.SCombineRefIdeal.main_arg7)
      ∧ r.2.mem ((c.tc : Thread Cert.SCombineRefIdeal.nD Cert.SCombineRefIdeal.τ).loc Cert.SCombineRefIdeal.main_arg8) = m ((c.tc : Thread Cert.SCombineRefIdeal.nD Cert.SCombineRefIdeal.τ).loc Cert.SCombineRefIdeal.main_arg8))
      ∧ r.2.sem = fun _ => 0)

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v16)) (v1 : (c : Dev Cert.ProjIdeal.nD) → Buf (Elt Ideal) ((c.tc : Thread Cert.ProjIdeal.nD Cert.ProjIdeal.τ).loc Cert.ProjIdeal.main_v23)) (v2 : (c : Dev Cert.ProjIdeal.nD) → Buf (Elt Ideal) ((c.tc : Thread Cert.ProjIdeal.nD Cert.ProjIdeal.τ).loc Cert.ProjIdeal.main_v26)) (v3 : (c : Dev Cert.ProjIdeal.nD) → Buf (Elt Ideal) ((c.tc : Thread Cert.ProjIdeal.nD Cert.ProjIdeal.τ).loc Cert.ProjIdeal.main_v30)) (v4 : (c : Dev Cert.ProjIdeal.nD) → Buf (Elt Ideal) ((c.tc : Thread Cert.ProjIdeal.nD Cert.ProjIdeal.τ).loc Cert.ProjIdeal.main_v31)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v16) = v0 c
          ∧ r.2.mem ((c.tc : Thread Cert.ProjIdeal.nD Cert.ProjIdeal.τ).loc Cert.ProjIdeal.main_v23) = v1 c
          ∧ r.2.mem ((c.tc : Thread Cert.ProjIdeal.nD Cert.ProjIdeal.τ).loc Cert.ProjIdeal.main_v26) = v2 c
          ∧ r.2.mem ((c.tc : Thread Cert.ProjIdeal.nD Cert.ProjIdeal.τ).loc Cert.ProjIdeal.main_v30) = v3 c
          ∧ r.2.mem ((c.tc : Thread Cert.ProjIdeal.nD Cert.ProjIdeal.τ).loc Cert.ProjIdeal.main_v31) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v13) = v0 c
          ∧ r.2.mem ((c.tc : Thread Cert.ProjRefIdeal.nD Cert.ProjRefIdeal.τ).loc Cert.ProjRefIdeal.main_v18) = v1 c
          ∧ r.2.mem ((c.tc : Thread Cert.ProjRefIdeal.nD Cert.ProjRefIdeal.τ).loc Cert.ProjRefIdeal.main_v20) = v2 c
          ∧ r.2.mem ((c.tc : Thread Cert.ProjRefIdeal.nD Cert.ProjRefIdeal.τ).loc Cert.ProjRefIdeal.main_v23) = v3 c
          ∧ r.2.mem ((c.tc : Thread Cert.ProjRefIdeal.nD Cert.ProjRefIdeal.τ).loc Cert.ProjRefIdeal.main_v24) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Experts_ExpertsIdeal : Prop :=
  True

def algebraic_ExpertsIdeal_ExpertsRefIdeal [hExpertsIdeal : Cert.ExpertsIdeal.Facts] [hExpertsRefIdeal : Cert.ExpertsRefIdeal.Facts] [hPre_expert_range : Cert.Pre_expert_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v39) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_SProj_SProjIdeal : Prop :=
  True

def algebraic_SProjIdeal_SProjRefIdeal [hSProjIdeal : Cert.SProjIdeal.Facts] [hSProjRefIdeal : Cert.SProjRefIdeal.Facts] : Prop :=
  ∀ (m : (ℓ : Loc Cert.SProjIdeal.nD Cert.SProjIdeal.τ Cert.SProjIdeal.sig) → Buf (Elt Ideal) ℓ) (g : Dev Cert.SProjIdeal.nD → PrngReg)
    (m' : (ℓ : Loc Cert.SProjRefIdeal.nD Cert.SProjRefIdeal.τ Cert.SProjRefIdeal.sig) → Buf (Elt Ideal) ℓ) (g' : Dev Cert.SProjRefIdeal.nD → PrngReg), Pre_SProjIdeal m →
    (∀ c : Dev Cert.SProjIdeal.nD,
      m' ((c.tc : Thread Cert.SProjRefIdeal.nD Cert.SProjRefIdeal.τ).loc Cert.SProjRefIdeal.main_arg0) = m ((c.tc : Thread Cert.SProjIdeal.nD Cert.SProjIdeal.τ).loc Cert.SProjIdeal.main_arg0)
      ∧ m' ((c.tc : Thread Cert.SProjRefIdeal.nD Cert.SProjRefIdeal.τ).loc Cert.SProjRefIdeal.main_arg1) = m ((c.tc : Thread Cert.SProjIdeal.nD Cert.SProjIdeal.τ).loc Cert.SProjIdeal.main_arg1)
      ∧ m' ((c.tc : Thread Cert.SProjRefIdeal.nD Cert.SProjRefIdeal.τ).loc Cert.SProjRefIdeal.main_arg2) = m ((c.tc : Thread Cert.SProjIdeal.nD Cert.SProjIdeal.τ).loc Cert.SProjIdeal.main_arg2)
      ∧ m' ((c.tc : Thread Cert.SProjRefIdeal.nD Cert.SProjRefIdeal.τ).loc Cert.SProjRefIdeal.main_arg3) = m ((c.tc : Thread Cert.SProjIdeal.nD Cert.SProjIdeal.τ).loc Cert.SProjIdeal.main_arg3)) →
    ∃ (v0 : (c : Dev Cert.SProjIdeal.nD) → Buf (Elt Ideal) ((c.tc : Thread Cert.SProjIdeal.nD Cert.SProjIdeal.τ).loc Cert.SProjIdeal.main_v16)) (v1 : (c : Dev Cert.SProjIdeal.nD) → Buf (Elt Ideal) ((c.tc : Thread Cert.SProjIdeal.nD Cert.SProjIdeal.τ).loc Cert.SProjIdeal.main_v28)) (v2 : (c : Dev Cert.SProjIdeal.nD) → Buf (Elt Ideal) ((c.tc : Thread Cert.SProjIdeal.nD Cert.SProjIdeal.τ).loc Cert.SProjIdeal.main_v31)) (v3 : (c : Dev Cert.SProjIdeal.nD) → Buf (Elt Ideal) ((c.tc : Thread Cert.SProjIdeal.nD Cert.SProjIdeal.τ).loc Cert.SProjIdeal.main_v32)) (v4 : (c : Dev Cert.SProjIdeal.nD) → Buf (Elt Ideal) ((c.tc : Thread Cert.SProjIdeal.nD Cert.SProjIdeal.τ).loc Cert.SProjIdeal.main_v33)),
      θ_run (Cert.SProjIdeal.defs (F := Ideal)) (onTc (τ := Cert.SProjIdeal.τ) (Cert.SProjIdeal.main (F := Ideal))) ⟨m, fun _ => 0, g⟩ (fun r => ∀ c : Dev Cert.SProjIdeal.nD,
          r.2.mem ((c.tc : Thread Cert.SProjIdeal.nD Cert.SProjIdeal.τ).loc Cert.SProjIdeal.main_v16) = v0 c
          ∧ r.2.mem ((c.tc : Thread Cert.SProjIdeal.nD Cert.SProjIdeal.τ).loc Cert.SProjIdeal.main_v28) = v1 c
          ∧ r.2.mem ((c.tc : Thread Cert.SProjIdeal.nD Cert.SProjIdeal.τ).loc Cert.SProjIdeal.main_v31) = v2 c
          ∧ r.2.mem ((c.tc : Thread Cert.SProjIdeal.nD Cert.SProjIdeal.τ).loc Cert.SProjIdeal.main_v32) = v3 c
          ∧ r.2.mem ((c.tc : Thread Cert.SProjIdeal.nD Cert.SProjIdeal.τ).loc Cert.SProjIdeal.main_v33) = v4 c
          ∧ r.2.mem ((c.tc : Thread Cert.SProjIdeal.nD Cert.SProjIdeal.τ).loc Cert.SProjIdeal.main_arg0) = m ((c.tc : Thread Cert.SProjIdeal.nD Cert.SProjIdeal.τ).loc Cert.SProjIdeal.main_arg0)
          ∧ r.2.mem ((c.tc : Thread Cert.SProjIdeal.nD Cert.SProjIdeal.τ).loc Cert.SProjIdeal.main_arg1) = m ((c.tc : Thread Cert.SProjIdeal.nD Cert.SProjIdeal.τ).loc Cert.SProjIdeal.main_arg1)
          ∧ r.2.mem ((c.tc : Thread Cert.SProjIdeal.nD Cert.SProjIdeal.τ).loc Cert.SProjIdeal.main_arg2) = m ((c.tc : Thread Cert.SProjIdeal.nD Cert.SProjIdeal.τ).loc Cert.SProjIdeal.main_arg2)
          ∧ r.2.mem ((c.tc : Thread Cert.SProjIdeal.nD Cert.SProjIdeal.τ).loc Cert.SProjIdeal.main_arg3) = m ((c.tc : Thread Cert.SProjIdeal.nD Cert.SProjIdeal.τ).loc Cert.SProjIdeal.main_arg3))
      ∧ θ_run (Cert.SProjRefIdeal.defs (F := Ideal)) (onTc (τ := Cert.SProjRefIdeal.τ) (Cert.SProjRefIdeal.main (F := Ideal))) ⟨m', fun _ => 0, g'⟩ (fun r => ∀ c : Dev Cert.SProjRefIdeal.nD,
          r.2.mem ((c.tc : Thread Cert.SProjRefIdeal.nD Cert.SProjRefIdeal.τ).loc Cert.SProjRefIdeal.main_v13) = v0 c
          ∧ r.2.mem ((c.tc : Thread Cert.SProjRefIdeal.nD Cert.SProjRefIdeal.τ).loc Cert.SProjRefIdeal.main_v22) = v1 c
          ∧ r.2.mem ((c.tc : Thread Cert.SProjRefIdeal.nD Cert.SProjRefIdeal.τ).loc Cert.SProjRefIdeal.main_v24) = v2 c
          ∧ r.2.mem ((c.tc : Thread Cert.SProjRefIdeal.nD Cert.SProjRefIdeal.τ).loc Cert.SProjRefIdeal.main_v25) = v3 c
          ∧ r.2.mem ((c.tc : Thread Cert.SProjRefIdeal.nD Cert.SProjRefIdeal.τ).loc Cert.SProjRefIdeal.main_v26) = v4 c
          ∧ r.2.mem ((c.tc : Thread Cert.SProjRefIdeal.nD Cert.SProjRefIdeal.τ).loc Cert.SProjRefIdeal.main_arg0) = m' ((c.tc : Thread Cert.SProjRefIdeal.nD Cert.SProjRefIdeal.τ).loc Cert.SProjRefIdeal.main_arg0)
          ∧ r.2.mem ((c.tc : Thread Cert.SProjRefIdeal.nD Cert.SProjRefIdeal.τ).loc Cert.SProjRefIdeal.main_arg1) = m' ((c.tc : Thread Cert.SProjRefIdeal.nD Cert.SProjRefIdeal.τ).loc Cert.SProjRefIdeal.main_arg1)
          ∧ r.2.mem ((c.tc : Thread Cert.SProjRefIdeal.nD Cert.SProjRefIdeal.τ).loc Cert.SProjRefIdeal.main_arg2) = m' ((c.tc : Thread Cert.SProjRefIdeal.nD Cert.SProjRefIdeal.τ).loc Cert.SProjRefIdeal.main_arg2)
          ∧ r.2.mem ((c.tc : Thread Cert.SProjRefIdeal.nD Cert.SProjRefIdeal.τ).loc Cert.SProjRefIdeal.main_arg3) = m' ((c.tc : Thread Cert.SProjRefIdeal.nD Cert.SProjRefIdeal.τ).loc Cert.SProjRefIdeal.main_arg3))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)) →
    ∃ (v0 : (c : Dev Cert.PostIdeal.nD) → Buf (Elt Ideal) ((c.tc : Thread Cert.PostIdeal.nD Cert.PostIdeal.τ).loc Cert.PostIdeal.main_v10_0)) (v1 : (c : Dev Cert.PostIdeal.nD) → Buf (Elt Ideal) ((c.tc : Thread Cert.PostIdeal.nD Cert.PostIdeal.τ).loc Cert.PostIdeal.main_v10_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v10_0) = v0 c
          ∧ r.2.mem ((c.tc : Thread Cert.PostIdeal.nD Cert.PostIdeal.τ).loc Cert.PostIdeal.main_v10_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v42) = v0 c
          ∧ r.2.mem ((c.tc : Thread Cert.PostRefIdeal.nD Cert.PostRefIdeal.τ).loc Cert.PostRefIdeal.main_v43) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8))

def preserves_Combine_CombineIdeal : Prop :=
  True

def algebraic_CombineIdeal_CombineRefIdeal [hCombineIdeal : Cert.CombineIdeal.Facts] [hCombineRefIdeal : Cert.CombineRefIdeal.Facts] [hPre_slot_range : Cert.Pre_slot_range.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)
      ∧ m' ((c.tc : Thread Cert.CombineRefIdeal.nD Cert.CombineRefIdeal.τ).loc Cert.CombineRefIdeal.main_arg6) = m ((c.tc : Thread Cert.CombineIdeal.nD Cert.CombineIdeal.τ).loc Cert.CombineIdeal.main_arg6)
      ∧ m' ((c.tc : Thread Cert.CombineRefIdeal.nD Cert.CombineRefIdeal.τ).loc Cert.CombineRefIdeal.main_arg7) = m ((c.tc : Thread Cert.CombineIdeal.nD Cert.CombineIdeal.τ).loc Cert.CombineIdeal.main_arg7)
      ∧ m' ((c.tc : Thread Cert.CombineRefIdeal.nD Cert.CombineRefIdeal.τ).loc Cert.CombineRefIdeal.main_arg8) = m ((c.tc : Thread Cert.CombineIdeal.nD Cert.CombineIdeal.τ).loc Cert.CombineIdeal.main_arg8)) →
    ∃ (v0 : (c : Dev Cert.CombineIdeal.nD) → Buf (Elt Ideal) ((c.tc : Thread Cert.CombineIdeal.nD Cert.CombineIdeal.τ).loc Cert.CombineIdeal.main_v11)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v11) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
          ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v48) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5)
          ∧ r.2.mem ((c.tc : Thread Cert.CombineRefIdeal.nD Cert.CombineRefIdeal.τ).loc Cert.CombineRefIdeal.main_arg6) = m' ((c.tc : Thread Cert.CombineRefIdeal.nD Cert.CombineRefIdeal.τ).loc Cert.CombineRefIdeal.main_arg6)
          ∧ r.2.mem ((c.tc : Thread Cert.CombineRefIdeal.nD Cert.CombineRefIdeal.τ).loc Cert.CombineRefIdeal.main_arg7) = m' ((c.tc : Thread Cert.CombineRefIdeal.nD Cert.CombineRefIdeal.τ).loc Cert.CombineRefIdeal.main_arg7)
          ∧ r.2.mem ((c.tc : Thread Cert.CombineRefIdeal.nD Cert.CombineRefIdeal.τ).loc Cert.CombineRefIdeal.main_arg8) = m' ((c.tc : Thread Cert.CombineRefIdeal.nD Cert.CombineRefIdeal.τ).loc Cert.CombineRefIdeal.main_arg8))

def preserves_SCombine_SCombineIdeal : Prop :=
  True

def algebraic_SCombineIdeal_SCombineRefIdeal [hSCombineIdeal : Cert.SCombineIdeal.Facts] [hSCombineRefIdeal : Cert.SCombineRefIdeal.Facts] [hPre_sample_slot_range : Cert.Pre_sample_slot_range.Facts] : Prop :=
  ∀ (m : (ℓ : Loc Cert.SCombineIdeal.nD Cert.SCombineIdeal.τ Cert.SCombineIdeal.sig) → Buf (Elt Ideal) ℓ) (g : Dev Cert.SCombineIdeal.nD → PrngReg)
    (m' : (ℓ : Loc Cert.SCombineRefIdeal.nD Cert.SCombineRefIdeal.τ Cert.SCombineRefIdeal.sig) → Buf (Elt Ideal) ℓ) (g' : Dev Cert.SCombineRefIdeal.nD → PrngReg), Pre_SCombineIdeal m →
    (∀ c : Dev Cert.SCombineIdeal.nD,
      m' ((c.tc : Thread Cert.SCombineRefIdeal.nD Cert.SCombineRefIdeal.τ).loc Cert.SCombineRefIdeal.main_arg0) = m ((c.tc : Thread Cert.SCombineIdeal.nD Cert.SCombineIdeal.τ).loc Cert.SCombineIdeal.main_arg0)
      ∧ m' ((c.tc : Thread Cert.SCombineRefIdeal.nD Cert.SCombineRefIdeal.τ).loc Cert.SCombineRefIdeal.main_arg1) = m ((c.tc : Thread Cert.SCombineIdeal.nD Cert.SCombineIdeal.τ).loc Cert.SCombineIdeal.main_arg1)
      ∧ m' ((c.tc : Thread Cert.SCombineRefIdeal.nD Cert.SCombineRefIdeal.τ).loc Cert.SCombineRefIdeal.main_arg2) = m ((c.tc : Thread Cert.SCombineIdeal.nD Cert.SCombineIdeal.τ).loc Cert.SCombineIdeal.main_arg2)
      ∧ m' ((c.tc : Thread Cert.SCombineRefIdeal.nD Cert.SCombineRefIdeal.τ).loc Cert.SCombineRefIdeal.main_arg3) = m ((c.tc : Thread Cert.SCombineIdeal.nD Cert.SCombineIdeal.τ).loc Cert.SCombineIdeal.main_arg3)
      ∧ m' ((c.tc : Thread Cert.SCombineRefIdeal.nD Cert.SCombineRefIdeal.τ).loc Cert.SCombineRefIdeal.main_arg4) = m ((c.tc : Thread Cert.SCombineIdeal.nD Cert.SCombineIdeal.τ).loc Cert.SCombineIdeal.main_arg4)
      ∧ m' ((c.tc : Thread Cert.SCombineRefIdeal.nD Cert.SCombineRefIdeal.τ).loc Cert.SCombineRefIdeal.main_arg5) = m ((c.tc : Thread Cert.SCombineIdeal.nD Cert.SCombineIdeal.τ).loc Cert.SCombineIdeal.main_arg5)
      ∧ m' ((c.tc : Thread Cert.SCombineRefIdeal.nD Cert.SCombineRefIdeal.τ).loc Cert.SCombineRefIdeal.main_arg6) = m ((c.tc : Thread Cert.SCombineIdeal.nD Cert.SCombineIdeal.τ).loc Cert.SCombineIdeal.main_arg6)
      ∧ m' ((c.tc : Thread Cert.SCombineRefIdeal.nD Cert.SCombineRefIdeal.τ).loc Cert.SCombineRefIdeal.main_arg7) = m ((c.tc : Thread Cert.SCombineIdeal.nD Cert.SCombineIdeal.τ).loc Cert.SCombineIdeal.main_arg7)
      ∧ m' ((c.tc : Thread Cert.SCombineRefIdeal.nD Cert.SCombineRefIdeal.τ).loc Cert.SCombineRefIdeal.main_arg8) = m ((c.tc : Thread Cert.SCombineIdeal.nD Cert.SCombineIdeal.τ).loc Cert.SCombineIdeal.main_arg8)) →
    ∃ (v0 : (c : Dev Cert.SCombineIdeal.nD) → Buf (Elt Ideal) ((c.tc : Thread Cert.SCombineIdeal.nD Cert.SCombineIdeal.τ).loc Cert.SCombineIdeal.main_v11)),
      θ_run (Cert.SCombineIdeal.defs (F := Ideal)) (onTc (τ := Cert.SCombineIdeal.τ) (Cert.SCombineIdeal.main (F := Ideal))) ⟨m, fun _ => 0, g⟩ (fun r => ∀ c : Dev Cert.SCombineIdeal.nD,
          r.2.mem ((c.tc : Thread Cert.SCombineIdeal.nD Cert.SCombineIdeal.τ).loc Cert.SCombineIdeal.main_v11) = v0 c
          ∧ r.2.mem ((c.tc : Thread Cert.SCombineIdeal.nD Cert.SCombineIdeal.τ).loc Cert.SCombineIdeal.main_arg0) = m ((c.tc : Thread Cert.SCombineIdeal.nD Cert.SCombineIdeal.τ).loc Cert.SCombineIdeal.main_arg0)
          ∧ r.2.mem ((c.tc : Thread Cert.SCombineIdeal.nD Cert.SCombineIdeal.τ).loc Cert.SCombineIdeal.main_arg1) = m ((c.tc : Thread Cert.SCombineIdeal.nD Cert.SCombineIdeal.τ).loc Cert.SCombineIdeal.main_arg1)
          ∧ r.2.mem ((c.tc : Thread Cert.SCombineIdeal.nD Cert.SCombineIdeal.τ).loc Cert.SCombineIdeal.main_arg2) = m ((c.tc : Thread Cert.SCombineIdeal.nD Cert.SCombineIdeal.τ).loc Cert.SCombineIdeal.main_arg2)
          ∧ r.2.mem ((c.tc : Thread Cert.SCombineIdeal.nD Cert.SCombineIdeal.τ).loc Cert.SCombineIdeal.main_arg3) = m ((c.tc : Thread Cert.SCombineIdeal.nD Cert.SCombineIdeal.τ).loc Cert.SCombineIdeal.main_arg3)
          ∧ r.2.mem ((c.tc : Thread Cert.SCombineIdeal.nD Cert.SCombineIdeal.τ).loc Cert.SCombineIdeal.main_arg4) = m ((c.tc : Thread Cert.SCombineIdeal.nD Cert.SCombineIdeal.τ).loc Cert.SCombineIdeal.main_arg4)
          ∧ r.2.mem ((c.tc : Thread Cert.SCombineIdeal.nD Cert.SCombineIdeal.τ).loc Cert.SCombineIdeal.main_arg5) = m ((c.tc : Thread Cert.SCombineIdeal.nD Cert.SCombineIdeal.τ).loc Cert.SCombineIdeal.main_arg5)
          ∧ r.2.mem ((c.tc : Thread Cert.SCombineIdeal.nD Cert.SCombineIdeal.τ).loc Cert.SCombineIdeal.main_arg6) = m ((c.tc : Thread Cert.SCombineIdeal.nD Cert.SCombineIdeal.τ).loc Cert.SCombineIdeal.main_arg6)
          ∧ r.2.mem ((c.tc : Thread Cert.SCombineIdeal.nD Cert.SCombineIdeal.τ).loc Cert.SCombineIdeal.main_arg7) = m ((c.tc : Thread Cert.SCombineIdeal.nD Cert.SCombineIdeal.τ).loc Cert.SCombineIdeal.main_arg7)
          ∧ r.2.mem ((c.tc : Thread Cert.SCombineIdeal.nD Cert.SCombineIdeal.τ).loc Cert.SCombineIdeal.main_arg8) = m ((c.tc : Thread Cert.SCombineIdeal.nD Cert.SCombineIdeal.τ).loc Cert.SCombineIdeal.main_arg8))
      ∧ θ_run (Cert.SCombineRefIdeal.defs (F := Ideal)) (onTc (τ := Cert.SCombineRefIdeal.τ) (Cert.SCombineRefIdeal.main (F := Ideal))) ⟨m', fun _ => 0, g'⟩ (fun r => ∀ c : Dev Cert.SCombineRefIdeal.nD,
          r.2.mem ((c.tc : Thread Cert.SCombineRefIdeal.nD Cert.SCombineRefIdeal.τ).loc Cert.SCombineRefIdeal.main_v48) = v0 c
          ∧ r.2.mem ((c.tc : Thread Cert.SCombineRefIdeal.nD Cert.SCombineRefIdeal.τ).loc Cert.SCombineRefIdeal.main_arg0) = m' ((c.tc : Thread Cert.SCombineRefIdeal.nD Cert.SCombineRefIdeal.τ).loc Cert.SCombineRefIdeal.main_arg0)
          ∧ r.2.mem ((c.tc : Thread Cert.SCombineRefIdeal.nD Cert.SCombineRefIdeal.τ).loc Cert.SCombineRefIdeal.main_arg1) = m' ((c.tc : Thread Cert.SCombineRefIdeal.nD Cert.SCombineRefIdeal.τ).loc Cert.SCombineRefIdeal.main_arg1)
          ∧ r.2.mem ((c.tc : Thread Cert.SCombineRefIdeal.nD Cert.SCombineRefIdeal.τ).loc Cert.SCombineRefIdeal.main_arg2) = m' ((c.tc : Thread Cert.SCombineRefIdeal.nD Cert.SCombineRefIdeal.τ).loc Cert.SCombineRefIdeal.main_arg2)
          ∧ r.2.mem ((c.tc : Thread Cert.SCombineRefIdeal.nD Cert.SCombineRefIdeal.τ).loc Cert.SCombineRefIdeal.main_arg3) = m' ((c.tc : Thread Cert.SCombineRefIdeal.nD Cert.SCombineRefIdeal.τ).loc Cert.SCombineRefIdeal.main_arg3)
          ∧ r.2.mem ((c.tc : Thread Cert.SCombineRefIdeal.nD Cert.SCombineRefIdeal.τ).loc Cert.SCombineRefIdeal.main_arg4) = m' ((c.tc : Thread Cert.SCombineRefIdeal.nD Cert.SCombineRefIdeal.τ).loc Cert.SCombineRefIdeal.main_arg4)
          ∧ r.2.mem ((c.tc : Thread Cert.SCombineRefIdeal.nD Cert.SCombineRefIdeal.τ).loc Cert.SCombineRefIdeal.main_arg5) = m' ((c.tc : Thread Cert.SCombineRefIdeal.nD Cert.SCombineRefIdeal.τ).loc Cert.SCombineRefIdeal.main_arg5)
          ∧ r.2.mem ((c.tc : Thread Cert.SCombineRefIdeal.nD Cert.SCombineRefIdeal.τ).loc Cert.SCombineRefIdeal.main_arg6) = m' ((c.tc : Thread Cert.SCombineRefIdeal.nD Cert.SCombineRefIdeal.τ).loc Cert.SCombineRefIdeal.main_arg6)
          ∧ r.2.mem ((c.tc : Thread Cert.SCombineRefIdeal.nD Cert.SCombineRefIdeal.τ).loc Cert.SCombineRefIdeal.main_arg7) = m' ((c.tc : Thread Cert.SCombineRefIdeal.nD Cert.SCombineRefIdeal.τ).loc Cert.SCombineRefIdeal.main_arg7)
          ∧ r.2.mem ((c.tc : Thread Cert.SCombineRefIdeal.nD Cert.SCombineRefIdeal.τ).loc Cert.SCombineRefIdeal.main_arg8) = m' ((c.tc : Thread Cert.SCombineRefIdeal.nD Cert.SCombineRefIdeal.τ).loc Cert.SCombineRefIdeal.main_arg8))

def Claim : Prop :=
  ∃ (hProj : Cert.Proj.Facts) (hProjIdeal : Cert.ProjIdeal.Facts) (hProjRefIdeal : Cert.ProjRefIdeal.Facts) (hExperts : Cert.Experts.Facts) (hExpertsIdeal : Cert.ExpertsIdeal.Facts) (hExpertsRefIdeal : Cert.ExpertsRefIdeal.Facts) (hSProj : Cert.SProj.Facts) (hSProjIdeal : Cert.SProjIdeal.Facts) (hSProjRefIdeal : Cert.SProjRefIdeal.Facts) (hPost : Cert.Post.Facts) (hPostIdeal : Cert.PostIdeal.Facts) (hPostRefIdeal : Cert.PostRefIdeal.Facts) (hCombine : Cert.Combine.Facts) (hCombineIdeal : Cert.CombineIdeal.Facts) (hCombineRefIdeal : Cert.CombineRefIdeal.Facts) (hSCombine : Cert.SCombine.Facts) (hSCombineIdeal : Cert.SCombineIdeal.Facts) (hSCombineRefIdeal : Cert.SCombineRefIdeal.Facts) (hPre_expert_range : Cert.Pre_expert_range.Facts) (hPre_slot_range : Cert.Pre_slot_range.Facts) (hPre_sample_slot_range : Cert.Pre_sample_slot_range.Facts),
    quiescent_Proj (hProj := hProj)
    ∧ quiescent_ProjIdeal (hProjIdeal := hProjIdeal)
    ∧ quiescent_ProjRefIdeal (hProjRefIdeal := hProjRefIdeal)
    ∧ quiescent_Experts (hExperts := hExperts) (hPre_expert_range := hPre_expert_range)
    ∧ quiescent_ExpertsIdeal (hExpertsIdeal := hExpertsIdeal) (hPre_expert_range := hPre_expert_range)
    ∧ quiescent_ExpertsRefIdeal (hExpertsRefIdeal := hExpertsRefIdeal)
    ∧ quiescent_ExpertsRefIdeal_pre_expert_range (hExpertsRefIdeal := hExpertsRefIdeal) (hPre_expert_range := hPre_expert_range)
    ∧ quiescent_SProj (hSProj := hSProj)
    ∧ quiescent_SProjIdeal (hSProjIdeal := hSProjIdeal)
    ∧ quiescent_SProjRefIdeal (hSProjRefIdeal := hSProjRefIdeal)
    ∧ quiescent_Post (hPost := hPost)
    ∧ quiescent_PostIdeal (hPostIdeal := hPostIdeal)
    ∧ quiescent_PostRefIdeal (hPostRefIdeal := hPostRefIdeal)
    ∧ quiescent_Combine (hCombine := hCombine) (hPre_slot_range := hPre_slot_range)
    ∧ quiescent_CombineIdeal (hCombineIdeal := hCombineIdeal) (hPre_slot_range := hPre_slot_range)
    ∧ quiescent_CombineRefIdeal (hCombineRefIdeal := hCombineRefIdeal)
    ∧ quiescent_CombineRefIdeal_pre_slot_range (hCombineRefIdeal := hCombineRefIdeal) (hPre_slot_range := hPre_slot_range)
    ∧ quiescent_SCombine (hSCombine := hSCombine) (hPre_sample_slot_range := hPre_sample_slot_range)
    ∧ quiescent_SCombineIdeal (hSCombineIdeal := hSCombineIdeal) (hPre_sample_slot_range := hPre_sample_slot_range)
    ∧ quiescent_SCombineRefIdeal (hSCombineRefIdeal := hSCombineRefIdeal)
    ∧ quiescent_SCombineRefIdeal_pre_sample_slot_range (hSCombineRefIdeal := hSCombineRefIdeal) (hPre_sample_slot_range := hPre_sample_slot_range)
    ∧ preserves_Proj_ProjIdeal
    ∧ algebraic_ProjIdeal_ProjRefIdeal (hProjIdeal := hProjIdeal) (hProjRefIdeal := hProjRefIdeal)
    ∧ preserves_Experts_ExpertsIdeal
    ∧ algebraic_ExpertsIdeal_ExpertsRefIdeal (hExpertsIdeal := hExpertsIdeal) (hExpertsRefIdeal := hExpertsRefIdeal) (hPre_expert_range := hPre_expert_range)
    ∧ preserves_SProj_SProjIdeal
    ∧ algebraic_SProjIdeal_SProjRefIdeal (hSProjIdeal := hSProjIdeal) (hSProjRefIdeal := hSProjRefIdeal)
    ∧ preserves_Post_PostIdeal
    ∧ algebraic_PostIdeal_PostRefIdeal (hPostIdeal := hPostIdeal) (hPostRefIdeal := hPostRefIdeal)
    ∧ preserves_Combine_CombineIdeal
    ∧ algebraic_CombineIdeal_CombineRefIdeal (hCombineIdeal := hCombineIdeal) (hCombineRefIdeal := hCombineRefIdeal) (hPre_slot_range := hPre_slot_range)
    ∧ preserves_SCombine_SCombineIdeal
    ∧ algebraic_SCombineIdeal_SCombineRefIdeal (hSCombineIdeal := hSCombineIdeal) (hSCombineRefIdeal := hSCombineRefIdeal) (hPre_sample_slot_range := hPre_sample_slot_range)
-- ==== Pre_expert_range.lean ====
abbrev S131072x512 : Shape := ⟨2, ![131072, 512]⟩
abbrev S256 : Shape := ⟨1, ![256]⟩
abbrev S1 : Shape := ⟨1, ![1]⟩
abbrev S64x1024x256 : Shape := ⟨3, ![64, 1024, 256]⟩
abbrev S64x256x1024 : Shape := ⟨3, ![64, 256, 1024]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : IVec S131072x512 32) (main_arg1 : IVec S256 32) (main_arg2 : IVec S1 32) (main_arg3 : FVec F S64x1024x256 .f32) (main_arg4 : FVec F S64x1024x256 .f32) (main_arg5 : FVec F S64x256x1024 .f32) : IVec S_ 1 :=
  let main_c : IVec S_ 32 := constantI S_ 32 0#32
  let main_v0 : IVec S256 32 := broadcastInDim S256 ![] bcast_S_S256 main_c
  let main_v1 : IVec S256 1 := cmpi .sge main_arg1 main_v0
  let main_c_0 : IVec S_ 32 := constantI S_ 32 64#32
  let main_v2 : IVec S256 32 := broadcastInDim S256 ![] bcast_S_S256 main_c_0
  let main_v3 : IVec S256 1 := cmpi .slt main_arg1 main_v2
  let main_v4 : IVec S256 1 := andi main_v1 main_v3
  let main_c_1 : IVec S_ 1 := constantI S_ 1 1#1
  let main_v5 : IVec S_ 1 := (fun x v => Host.reduce IntOp.andi x v reducesTo_S256_S_d0 h_S_) main_v4 main_c_1
  main_v5
-- ==== Pre_sample_slot_range.lean ====
abbrev S128x1024 : Shape := ⟨2, ![128, 1024]⟩
abbrev S8x128 : Shape := ⟨2, ![8, 128]⟩
abbrev S4864x1024 : Shape := ⟨2, ![4864, 1024]⟩
abbrev S1x1024x256 : Shape := ⟨3, ![1, 1024, 256]⟩
abbrev S1x256x1024 : Shape := ⟨3, ![1, 256, 1024]⟩
abbrev S1x1024 : Shape := ⟨2, ![1, 1024]⟩
abbrev S6x128 : Shape := ⟨2, ![6, 128]⟩
abbrev S_ : Shape := ⟨0, ![]⟩

class Facts : Prop where
  slices_S8x128_S6x128_0_0 : S8x128.Slices ![0, 0] S6x128
  bcast_S_S6x128 : S_.BroadcastsInDim S6x128 (![] : Fin 0 → Fin S6x128.rank)
  reducesTo_S6x128_S_d0_1 : S6x128.ReducesTo [0, 1] S_
  h_S_ : 0 < S_.numel

variable [Facts]

def fn {F : FTy → Type} [FloatOps F] (main_arg0 : FVec F S128x1024 .f32) (main_arg1 : IVec S8x128 32) (main_arg2 : FVec F S8x128 .f32) (main_arg3 : FVec F S4864x1024 .f32) (main_arg4 : FVec F S1x1024x256 .f32) (main_arg5 : FVec F S1x1024x256 .f32) (main_arg6 : FVec F S1x256x1024 .f32) (main_arg7 : FVec F S1x1024 .f32) (main_arg8 : FVec F S1x1024 .f32) : IVec S_ 1 :=
  let main_v0 : IVec S6x128 32 := (extractStridedSlice S6x128 ![0, 0] · slices_S8x128_S6x128_0_0) main_arg1
  let main_c : IVec S_ 32 := constantI S_ 32 0#32
  let main_v1 : IVec S6x128 32 := broadcastInDim S6x128 ![] bcast_S_S6x128 main_c
  let main_v2 : IVec S6x128 1 := cmpi .sge main_v0 main_v1
  let main_v3 : IVec S6x128 32 := (extractStridedSlice S6x128 ![0, 0] · slices_S8x128_S6x128_0_0) main_arg1
  let main_c_0 : IVec S_ 32 := constantI S_ 32 4864#32
  let main_v4 : IVec S6x128 32 := broadcastInDim S6x128 ![] bcast_S_S6x128 main_c_0
  let main_v5 : IVec S6x128 1 := cmpi .slt main_v3 main_v4
  let main_v6 : IVec S6x128 1 := andi main_v2 main_v5
  let main_c_1 : IVec S_ 1 := constantI S_ 1 1#1
  let main_v7 : IVec S_ 1 := (fun x v => Host.reduce IntOp.andi x v reducesTo_S6x128_S_d0_1 h_S_) main_v6 main_c_1
  main_v7
-- ==== Pre_slot_range.lean ====
abbrev S16384x1024 : Shape := ⟨2, ![16384, 1024]⟩
abbrev S8x16384 : Shape := ⟨2, ![8, 16384]⟩
abbrev S131072x1024 : Shape := ⟨2, ![131072, 1024]⟩
abbrev S1x1024x256 : Shape := ⟨3, ![1, 1024, 256]⟩
abbrev S1x256x1024 : Shape := ⟨3, ![1, 256, 1024]⟩
abbrev S1x1024 : Shape := ⟨2, ![1, 1024]⟩
abbrev S6x16384 : Shape := ⟨2, ![6, 16384]⟩
abbrev S_ : Shape := ⟨0, ![]⟩

class Facts : Prop where
  slices_S8x16384_S6x16384_0_0 : S8x16384.Slices ![0, 0] S6x16384
  bcast_S_S6x16384 : S_.BroadcastsInDim S6x16384 (![] : Fin 0 → Fin S6x16384.rank)
  reducesTo_S6x16384_S_d0_1 : S6x16384.ReducesTo [0, 1] S_
  h_S_ : 0 < S_.numel

variable [Facts]

def fn {F : FTy → Type} [FloatOps F] (main_arg0 : FVec F S16384x1024 .f32) (main_arg1 : IVec S8x16384 32) (main_arg2 : FVec F S8x16384 .f32) (main_arg3 : FVec F S131072x1024 .f32) (main_arg4 : FVec F S1x1024x256 .f32) (main_arg5 : FVec F S1x1024x256 .f32) (main_arg6 : FVec F S1x256x1024 .f32) (main_arg7 : FVec F S1x1024 .f32) (main_arg8 : FVec F S1x1024 .f32) : IVec S_ 1 :=
  let main_v0 : IVec S6x16384 32 := (extractStridedSlice S6x16384 ![0, 0] · slices_S8x16384_S6x16384_0_0) main_arg1
  let main_c : IVec S_ 32 := constantI S_ 32 0#32
  let main_v1 : IVec S6x16384 32 := broadcastInDim S6x16384 ![] bcast_S_S6x16384 main_c
  let main_v2 : IVec S6x16384 1 := cmpi .sge main_v0 main_v1
  let main_v3 : IVec S6x16384 32 := (extractStridedSlice S6x16384 ![0, 0] · slices_S8x16384_S6x16384_0_0) main_arg1
  let main_c_0 : IVec S_ 32 := constantI S_ 32 131072#32
  let main_v4 : IVec S6x16384 32 := broadcastInDim S6x16384 ![] bcast_S_S6x16384 main_c_0
  let main_v5 : IVec S6x16384 1 := cmpi .slt main_v3 main_v4
  let main_v6 : IVec S6x16384 1 := andi main_v2 main_v5
  let main_c_1 : IVec S_ 1 := constantI S_ 1 1#1
  let main_v7 : IVec S_ 1 := (fun x v => Host.reduce IntOp.andi x v reducesTo_S6x16384_S_d0_1 h_S_) main_v6 main_c_1
  main_v7
-- ==== Proj.lean ====
abbrev S4x4096x1024 : Shape := ⟨3, ![4, 4096, 1024]⟩
abbrev S1x1024x8000 : Shape := ⟨3, ![1, 1024, 8000]⟩
abbrev S1024x8000 : Shape := ⟨2, ![1024, 8000]⟩
abbrev S1024x3072 : Shape := ⟨2, ![1024, 3072]⟩
abbrev S1024x1024 : Shape := ⟨2, ![1024, 1024]⟩
abbrev S1024x8 : Shape := ⟨2, ![1024, 8]⟩
abbrev S1024x256 : Shape := ⟨2, ![1024, 256]⟩
abbrev S1024x48 : Shape := ⟨2, ![1024, 48]⟩
abbrev S1024x2048 : Shape := ⟨2, ![1024, 2048]⟩
abbrev S_ : Shape := ⟨0, ![]⟩
abbrev S1024x64 : Shape := ⟨2, ![1024, 64]⟩
abbrev S1024x8064 : Shape := ⟨2, ![1024, 8064]⟩
abbrev S16384x1024 : Shape := ⟨2, ![16384, 1024]⟩
abbrev S16384x8064 : Shape := ⟨2, ![16384, 8064]⟩
abbrev S512x1024 : Shape := ⟨2, ![512, 1024]⟩
abbrev S1024x2688 : Shape := ⟨2, ![1024, 2688]⟩
abbrev S512x2688 : Shape := ⟨2, ![512, 2688]⟩
abbrev S4x4096x8064 : Shape := ⟨3, ![4, 4096, 8064]⟩
abbrev S4x3x3072 : Shape := ⟨3, ![4, 3, 3072]⟩
abbrev S4x4096x3072 : Shape := ⟨3, ![4, 4096, 3072]⟩
abbrev S4x4099x3072 : Shape := ⟨3, ![4, 4099, 3072]⟩
abbrev S4x4096x256 : Shape := ⟨3, ![4, 4096, 256]⟩
abbrev S4x4096x2x2x64 : Shape := ⟨5, ![4, 4096, 2, 2, 64]⟩
abbrev S1x4x4096x2x2x64 : Shape := ⟨6, ![1, 4, 4096, 2, 2, 64]⟩
abbrev S4x512x2x2x64 : Shape := ⟨5, ![4, 512, 2, 2, 64]⟩
abbrev S1x4x512x2x2x64 : Shape := ⟨6, ![1, 4, 512, 2, 2, 64]⟩
abbrev S1x4x3x3072 : Shape := ⟨4, ![1, 4, 3, 3072]⟩

abbrev nBuf : Space → Nat
  | .hbm => 36
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S1x1024x8000, .f32⟩
  | .hbm, ⟨2, _⟩ => ⟨S1024x8000, .f32⟩
  | .hbm, ⟨3, _⟩ => ⟨S1024x3072, .f32⟩
  | .hbm, ⟨4, _⟩ => ⟨S1024x1024, .f32⟩
  | .hbm, ⟨5, _⟩ => ⟨S1024x8, .f32⟩
  | .hbm, ⟨6, _⟩ => ⟨S1024x8, .f32⟩
  | .hbm, ⟨7, _⟩ => ⟨S1024x1024, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x48, .f32⟩
  | .hbm, ⟨12, _⟩ => ⟨S1024x2048, .f32⟩
  | .hbm, ⟨13, _⟩ => ⟨S_, .f32⟩
  | .hbm, ⟨14, _⟩ => ⟨S1024x64, .f32⟩
  | .hbm, ⟨15, _⟩ => ⟨S1024x8064, .f32⟩
  | .hbm, ⟨16, _⟩ => ⟨S1024x8064, .bf16⟩
  | .hbm, ⟨17, _⟩ => ⟨S16384x1024, .f32⟩
  | .hbm, ⟨18, _⟩ => ⟨S16384x8064, .f32⟩
  | .hbm, ⟨19, _⟩ => ⟨S4x4096x8064, .f32⟩
  | .hbm, ⟨20, _⟩ => ⟨S_, .f32⟩
  | .hbm, ⟨21, _⟩ => ⟨S4x3x3072, .f32⟩
  | .hbm, ⟨22, _⟩ => ⟨S4x4096x3072, .f32⟩
  | .hbm, ⟨23, _⟩ => ⟨S4x4099x3072, .f32⟩
  | .hbm, ⟨24, _⟩ => ⟨S4x3x3072, .f32⟩
  | .hbm, ⟨25, _⟩ => ⟨S4x4096x256, .f32⟩
  | .hbm, ⟨26, _⟩ => ⟨S4x4096x2x2x64, .f32⟩
  | .hbm, ⟨27, _⟩ => ⟨S1x4x4096x2x2x64, .f32⟩
  | .hbm, ⟨28, _⟩ => ⟨S4x4096x256, .f32⟩
  | .hbm, ⟨29, _⟩ => ⟨S4x4096x2x2x64, .f32⟩
  | .hbm, ⟨30, _⟩ => ⟨S1x4x4096x2x2x64, .f32⟩
  | .hbm, ⟨31, _⟩ => ⟨S4x4096x256, .f32⟩
  | .hbm, ⟨32, _⟩ => ⟨S4x4096x2x2x64, .f32⟩
  | .hbm, ⟨33, _⟩ => ⟨S4x512x2x2x64, .f32⟩
  | .hbm, ⟨34, _⟩ => ⟨S1x4x512x2x2x64, .f32⟩
  | .hbm, ⟨35, _⟩ => ⟨S1x4x3x3072, .f32⟩
  | .local _ .vmem, ⟨0, _⟩ => ⟨S512x1024, .f32⟩
  | .local _ .vmem, ⟨1, _⟩ => ⟨S512x1024, .f32⟩
  | .local _ .vmem, ⟨2, _⟩ => ⟨S1024x2688, .bf16⟩
  | .local _ .vmem, ⟨3, _⟩ => ⟨S1024x2688, .bf16⟩
  | .local _ .vmem, ⟨4, _⟩ => ⟨S512x2688, .f32⟩
  | .local _ .vmem, ⟨5, _⟩ => ⟨S512x2688, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S4x4096x1024 : Shape := ⟨3, ![4, 4096, 1024]⟩
abbrev S1x1024x8000 : Shape := ⟨3, ![1, 1024, 8000]⟩
abbrev S1024x8000 : Shape := ⟨2, ![1024, 8000]⟩
abbrev S4x4096x8000 : Shape := ⟨3, ![4, 4096, 8000]⟩
abbrev S4x4096x3072 : Shape := ⟨3, ![4, 4096, 3072]⟩
abbrev S4x4096x8 : Shape := ⟨3, ![4, 4096, 8]⟩
abbrev S4x4096x256 : Shape := ⟨3, ![4, 4096, 256]⟩
abbrev S4x4096x48 : Shape := ⟨3, ![4, 4096, 48]⟩
abbrev S4x4096x2048 : Shape := ⟨3, ![4, 4096, 2048]⟩
abbrev S_ : Shape := ⟨0, ![]⟩
abbrev S4x4096x64 : Shape := ⟨3, ![4, 4096, 64]⟩
abbrev S4x4096x8064 : Shape := ⟨3, ![4, 4096, 8064]⟩
abbrev S4x3x3072 : Shape := ⟨3, ![4, 3, 3072]⟩
abbrev S4x4099x3072 : Shape := ⟨3, ![4, 4099, 3072]⟩
abbrev S4x4096x2x2x64 : Shape := ⟨5, ![4, 4096, 2, 2, 64]⟩
abbrev S1x4x4096x2x2x64 : Shape := ⟨6, ![1, 4, 4096, 2, 2, 64]⟩
abbrev S4x512x2x2x64 : Shape := ⟨5, ![4, 512, 2, 2, 64]⟩
abbrev S1x4x512x2x2x64 : Shape := ⟨6, ![1, 4, 512, 2, 2, 64]⟩
abbrev S1x4x3x3072 : Shape := ⟨4, ![1, 4, 3, 3072]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024x8000, .f32⟩
  | .hbm, ⟨2, _⟩ => ⟨S1024x8000, .f32⟩
  | .hbm, ⟨3, _⟩ => ⟨S4x4096x8000, .f32⟩
  | .hbm, ⟨4, _⟩ => ⟨S4x4096x3072, .f32⟩
  | .hbm, ⟨5, _⟩ => ⟨S4x4096x1024, .f32⟩
  | .hbm, ⟨6, _⟩ => ⟨S4x4096x8, .f32⟩
  | .hbm, ⟨7, _⟩ => ⟨S4x4096x8, .f32⟩
  | .hbm, ⟨8, _⟩ => ⟨S4x4096x1024, .f32⟩
  | .hbm, ⟨9, _⟩ => ⟨S4x4096x256, .f32⟩
  | .hbm, ⟨10, _⟩ => ⟨S4x4096x256, .f32⟩
  | .hbm, ⟨11, _⟩ => ⟨S4x4096x256, .f32⟩
  | .hbm, ⟨12, _⟩ => ⟨S4x4096x48, .f32⟩
  | .hbm, ⟨13, _⟩ => ⟨S4x4096x2048, .f32⟩
  | .hbm, ⟨14, _⟩ => ⟨S_, .f32⟩
  | .hbm, ⟨15, _⟩ => ⟨S4x4096x64, .f32⟩
  | .hbm, ⟨16, _⟩ => ⟨S4x4096x8064, .f32⟩
  | .hbm, ⟨17, _⟩ => ⟨S_, .f32⟩
  | .hbm, ⟨18, _⟩ => ⟨S4x3x3072, .f32⟩
  | .hbm, ⟨19, _⟩ => ⟨S4x4099x3072, .f32⟩
  | .hbm, ⟨20, _⟩ => ⟨S4x3x3072, .f32⟩
  | .hbm, ⟨21, _⟩ => ⟨S4x4096x2x2x64, .f32⟩
  | .hbm, ⟨22, _⟩ => ⟨S1x4x4096x2x2x64, .f32⟩
  | .hbm, ⟨23, _⟩ => ⟨S4x4096x2x2x64, .f32⟩
  | .hbm, ⟨24, _⟩ => ⟨S1x4x4096x2x2x64, .f32⟩
  | .hbm, ⟨25, _⟩ => ⟨S4x4096x2x2x64, .f32⟩
  | .hbm, ⟨26, _⟩ => ⟨S4x512x2x2x64, .f32⟩
  | .hbm, ⟨27, _⟩ => ⟨S1x4x512x2x2x64, .f32⟩
  | .hbm, ⟨28, _⟩ => ⟨S1x4x3x3072, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== Experts.lean ====
abbrev S131072x512 : Shape := ⟨2, ![131072, 512]⟩
abbrev S256 : Shape := ⟨1, ![256]⟩
abbrev S1 : Shape := ⟨1, ![1]⟩
abbrev S64x1024x256 : Shape := ⟨3, ![64, 1024, 256]⟩
abbrev S64x256x1024 : Shape := ⟨3, ![64, 256, 1024]⟩
abbrev S131072x1024 : Shape := ⟨2, ![131072, 1024]⟩
abbrev S512x512 : Shape := ⟨2, ![512, 512]⟩
abbrev S1x1024x256 : Shape := ⟨3, ![1, 1024, 256]⟩
abbrev S1x256x1024 : Shape := ⟨3, ![1, 256, 1024]⟩
abbrev S512x1024 : Shape := ⟨2, ![512, 1024]⟩
abbrev S1024x256 : Shape := ⟨2, ![1024, 256]⟩
abbrev S256x1024 : Shape := ⟨2, ![256, 1024]⟩
abbrev S512x256 : Shape := ⟨2, ![512, 256]⟩

abbrev nBuf : Space → Nat
  | .hbm => 5
  | .vmem => 13
  | .smem => 2
  | _ => 0

abbrev bufTy : (tb : Table) → Fin (tcTables nBuf tb) → BufTy
  | .hbm, ⟨0, _⟩ => ⟨S131072x512, .i32⟩
  | .hbm, ⟨1, _⟩ => ⟨S64x1024x256, .f32⟩
  | .hbm, ⟨2, _⟩ => ⟨S64x1024x256, .f32⟩
  | .hbm, ⟨3, _⟩ => ⟨S64x256x1024, .f32⟩
  | .hbm, ⟨4, _⟩ => ⟨S131072x1024, .f32⟩
  | .local _ .vmem, ⟨0, _⟩ => ⟨S512x512, .i32⟩
  | .local _ .vmem, ⟨1, _⟩ => ⟨S512x512, .i32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S512x1024, .f32⟩
  | .local _ .vmem, ⟨9, _⟩ => ⟨S512x1024, .f32⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S256, .i32⟩
  | .local _ .smem, ⟨1, _⟩ => ⟨S1, .i32⟩
  | _, _ => ⟨S131072x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![256], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S131072x512 : Shape := ⟨2, ![131072, 512]⟩
abbrev S256 : Shape := ⟨1, ![256]⟩
abbrev S1 : Shape := ⟨1, ![1]⟩
abbrev S64x1024x256 : Shape := ⟨3, ![64, 1024, 256]⟩
abbrev S64x256x1024 : Shape := ⟨3, ![64, 256, 1024]⟩
abbrev S_ : Shape := ⟨0, ![]⟩
abbrev S131072x1024 : Shape := ⟨2, ![131072, 1024]⟩
abbrev S256x512x1024 : Shape := ⟨3, ![256, 512, 1024]⟩
abbrev S256x1x1 : Shape := ⟨3, ![256, 1, 1]⟩
abbrev S256x1 : Shape := ⟨2, ![256, 1]⟩
abbrev S256x1024x256 : Shape := ⟨3, ![256, 1024, 256]⟩
abbrev S256x512x256 : Shape := ⟨3, ![256, 512, 256]⟩
abbrev S256x256x1024 : Shape := ⟨3, ![256, 256, 1024]⟩

abbrev nBuf : Space → Nat
  | .hbm => 66
  | .vmem => 0
  | .smem => 0
  | _ => 0

abbrev bufTy : (tb : Table) → Fin (tcTables nBuf tb) → BufTy
  | .hbm, ⟨0, _⟩ => ⟨S131072x512, .i32⟩
  | .hbm, ⟨1, _⟩ => ⟨S256, .i32⟩
  | .hbm, ⟨2, _⟩ => ⟨S1, .i32⟩
  | .hbm, ⟨3, _⟩ => ⟨S64x1024x256, .f32⟩
  | .hbm, ⟨4, _⟩ => ⟨S64x1024x256, .f32⟩
  | .hbm, ⟨5, _⟩ => ⟨S64x256x1024, .f32⟩
  | .hbm, ⟨6, _⟩ => ⟨S_, .i32⟩
  | .hbm, ⟨7, _⟩ => ⟨S131072x512, .i32⟩
  | .hbm, ⟨8, _⟩ => ⟨S131072x512, .i32⟩
  | .hbm, ⟨9, _⟩ => ⟨S131072x512, .f32⟩
  | .hbm, ⟨10, _⟩ => ⟨S_, .i32⟩
  | .hbm, ⟨11, _⟩ => ⟨S131072x512, .i32⟩
  | .hbm, ⟨12, _⟩ => ⟨S131072x512, .i32⟩
  | .hbm, ⟨13, _⟩ => ⟨S131072x512, .f32⟩
  | .hbm, ⟨14, _⟩ => ⟨S131072x1024, .f32⟩
  | .hbm, ⟨15, _⟩ => ⟨S256x512x1024, .f32⟩
  | .hbm, ⟨16, _⟩ => ⟨S256, .i32⟩
  | .hbm, ⟨17, _⟩ => ⟨S256, .i32⟩
  | .hbm, ⟨18, _⟩ => ⟨S256, .i1⟩
  | .hbm, ⟨19, _⟩ => ⟨S256x1x1, .i1⟩
  | .hbm, ⟨20, _⟩ => ⟨S_, .f32⟩
  | .hbm, ⟨21, _⟩ => ⟨S_, .f32⟩
  | .hbm, ⟨22, _⟩ => ⟨S256x512x1024, .i1⟩
  | .hbm, ⟨23, _⟩ => ⟨S256x512x1024, .f32⟩
  | .hbm, ⟨24, _⟩ => ⟨S256x512x1024, .f32⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S256, .i32⟩
  | .hbm, ⟨32, _⟩ => ⟨S256x1, .i32⟩
  | .hbm, ⟨33, _⟩ => ⟨S256x1024x256, .f32⟩
  | .hbm, ⟨34, _⟩ => ⟨S256x512x256, .f32⟩
  | .hbm, ⟨35, _⟩ => ⟨S256x512x256, .f32⟩
  | .hbm, ⟨36, _⟩ => ⟨S256x512x256, .f32⟩
  | .hbm, ⟨37, _⟩ => ⟨S_, .f32⟩
  | .hbm, ⟨38, _⟩ => ⟨S256x512x256, .f32⟩
  | .hbm, ⟨39, _⟩ => ⟨S256x512x256, .f32⟩
  | .hbm, ⟨40, _⟩ => ⟨S_, .f32⟩
  | .hbm, ⟨41, _⟩ => ⟨S256x512x256, .f32⟩
  | .hbm, ⟨42, _⟩ => ⟨S256x512x256, .f32⟩
  | .hbm, ⟨43, _⟩ => ⟨S256x512x256, .f32⟩
  | .hbm, ⟨44, _⟩ => ⟨S_, .i32⟩
  | .hbm, ⟨45, _⟩ => ⟨S256, .i32⟩
  | .hbm, ⟨46, _⟩ => ⟨S256, .i1⟩
  | .hbm, ⟨47, _⟩ => ⟨S_, .i32⟩
  | .hbm, ⟨48, _⟩ => ⟨S256, .i32⟩
  | .hbm, ⟨49, _⟩ => ⟨S256, .i32⟩
  | .hbm, ⟨50, _⟩ => ⟨S256, .i32⟩
  | .hbm, ⟨51, _⟩ => ⟨S256x1, .i32⟩
  | .hbm, ⟨52, _⟩ => ⟨S256x1024x256, .f32⟩
  | .hbm, ⟨53, _⟩ => ⟨S256x512x256, .f32⟩
  | .hbm, ⟨54, _⟩ => ⟨S256x512x256, .f32⟩
  | .hbm, ⟨55, _⟩ => ⟨S_, .i32⟩
  | .hbm, ⟨56, _⟩ => ⟨S256, .i32⟩
  | .hbm, ⟨57, _⟩ => ⟨S256, .i1⟩
  | .hbm, ⟨58, _⟩ => ⟨S_, .i32⟩
  | .hbm, ⟨59, _⟩ => ⟨S256, .i32⟩
  | .hbm, ⟨60, _⟩ => ⟨S256, .i32⟩
  | .hbm, ⟨61, _⟩ => ⟨S256, .i32⟩
  | .hbm, ⟨62, _⟩ => ⟨S256x1, .i32⟩
  | .hbm, ⟨63, _⟩ => ⟨S256x256x1024, .f32⟩
  | .hbm, ⟨64, _⟩ => ⟨S256x512x1024, .f32⟩
  | .hbm, ⟨65, _⟩ => ⟨S131072x1024, .f32⟩
  | _, _ => ⟨S131072x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v21 : Ref sig .tc := ⟨.hbm, 43, rfl⟩
abbrev main_c_3 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩

abbrev nD : Nat := 1
abbrev τ : Topo := Topo.v7x

variable {F : FTy → Type} [FloatOps F]
-- ==== SProj.lean ====
abbrev S32x4x1024 : Shape := ⟨3, ![32, 4, 1024]⟩
abbrev S1x32x512x2x2x64 : Shape := ⟨6, ![1, 32, 512, 2, 2, 64]⟩
abbrev S1x32x3x3072 : Shape := ⟨4, ![1, 32, 3, 3072]⟩
abbrev S1x1024x8000 : Shape := ⟨3, ![1, 1024, 8000]⟩
abbrev S1024x8000 : Shape := ⟨2, ![1024, 8000]⟩
abbrev S1024x3072 : Shape := ⟨2, ![1024, 3072]⟩
abbrev S1024x1024 : Shape := ⟨2, ![1024, 1024]⟩
abbrev S1024x8 : Shape := ⟨2, ![1024, 8]⟩
abbrev S1024x256 : Shape := ⟨2, ![1024, 256]⟩
abbrev S1024x48 : Shape := ⟨2, ![1024, 48]⟩
abbrev S1024x2048 : Shape := ⟨2, ![1024, 2048]⟩
abbrev S_ : Shape := ⟨0, ![]⟩
abbrev S1024x64 : Shape := ⟨2, ![1024, 64]⟩
abbrev S1024x8064 : Shape := ⟨2, ![1024, 8064]⟩
abbrev S128x1024 : Shape := ⟨2, ![128, 1024]⟩
abbrev S128x8064 : Shape := ⟨2, ![128, 8064]⟩
abbrev S1024x2688 : Shape := ⟨2, ![1024, 2688]⟩
abbrev S128x2688 : Shape := ⟨2, ![128, 2688]⟩
abbrev S32x4x8064 : Shape := ⟨3, ![32, 4, 8064]⟩
abbrev S32x3x3072 : Shape := ⟨3, ![32, 3, 3072]⟩
abbrev S32x4x3072 : Shape := ⟨3, ![32, 4, 3072]⟩
abbrev S32x7x3072 : Shape := ⟨3, ![32, 7, 3072]⟩
abbrev S32x512x2x2x64 : Shape := ⟨5, ![32, 512, 2, 2, 64]⟩
abbrev S32x4x256 : Shape := ⟨3, ![32, 4, 256]⟩
abbrev S32x4x2x2x64 : Shape := ⟨5, ![32, 4, 2, 2, 64]⟩
abbrev S32x516x2x2x64 : Shape := ⟨5, ![32, 516, 2, 2, 64]⟩
abbrev S1x32x4x2x2x64 : Shape := ⟨6, ![1, 32, 4, 2, 2, 64]⟩

abbrev nBuf : Space → Nat
  | .hbm => 39
  | .vmem => 5
  | .smem => 0
  | _ => 0

abbrev bufTy : (tb : Table) → Fin (tcTables nBuf tb) → BufTy
  | .hbm, ⟨0, _⟩ => ⟨S32x4x1024, .f32⟩
  | .hbm, ⟨1, _⟩ => ⟨S1x32x512x2x2x64, .f32⟩
  | .hbm, ⟨2, _⟩ => ⟨S1x32x3x3072, .f32⟩
  | .hbm, ⟨3, _⟩ => ⟨S1x1024x8000, .f32⟩
  | .hbm, ⟨4, _⟩ => ⟨S1024x8000, .f32⟩
  | .hbm, ⟨5, _⟩ => ⟨S1024x3072, .f32⟩
  | .hbm, ⟨6, _⟩ => ⟨S1024x1024, .f32⟩
  | .hbm, ⟨7, _⟩ => ⟨S1024x8, .f32⟩
  | .hbm, ⟨8, _⟩ => ⟨S1024x8, .f32⟩
  | .hbm, ⟨9, _⟩ => ⟨S1024x1024, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x48, .f32⟩
  | .hbm, ⟨14, _⟩ => ⟨S1024x2048, .f32⟩
  | .hbm, ⟨15, _⟩ => ⟨S_, .f32⟩
  | .hbm, ⟨16, _⟩ => ⟨S1024x64, .f32⟩
  | .hbm, ⟨17, _⟩ => ⟨S1024x8064, .f32⟩
  | .hbm, ⟨18, _⟩ => ⟨S1024x8064, .bf16⟩
  | .hbm, ⟨19, _⟩ => ⟨S128x1024, .f32⟩
  | .hbm, ⟨20, _⟩ => ⟨S128x8064, .f32⟩
  | .hbm, ⟨21, _⟩ => ⟨S32x4x8064, .f32⟩
  | .hbm, ⟨22, _⟩ => ⟨S32x3x3072, .f32⟩
  | .hbm, ⟨23, _⟩ => ⟨S32x4x3072, .f32⟩
  | .hbm, ⟨24, _⟩ => ⟨S32x7x3072, .f32⟩
  | .hbm, ⟨25, _⟩ => ⟨S32x3x3072, .f32⟩
  | .hbm, ⟨26, _⟩ => ⟨S32x512x2x2x64, .f32⟩
  | .hbm, ⟨27, _⟩ => ⟨S32x4x256, .f32⟩
  | .hbm, ⟨28, _⟩ => ⟨S32x4x2x2x64, .f32⟩
  | .hbm, ⟨29, _⟩ => ⟨S32x516x2x2x64, .f32⟩
  | .hbm, ⟨30, _⟩ => ⟨S32x512x2x2x64, .f32⟩
  | .hbm, ⟨31, _⟩ => ⟨S32x4x256, .f32⟩
  | .hbm, ⟨32, _⟩ => ⟨S32x4x2x2x64, .f32⟩
  | .hbm, ⟨33, _⟩ => ⟨S1x32x4x2x2x64, .f32⟩
  | .hbm, ⟨34, _⟩ => ⟨S32x4x256, .f32⟩
  | .hbm, ⟨35, _⟩ => ⟨S32x4x2x2x64, .f32⟩
  | .hbm, ⟨36, _⟩ => ⟨S1x32x4x2x2x64, .f32⟩
  | .hbm, ⟨37, _⟩ => ⟨S1x32x512x2x2x64, .f32⟩
  | .hbm, ⟨38, _⟩ => ⟨S1x32x3x3072, .f32⟩
  | .local _ .vmem, ⟨0, _⟩ => ⟨S128x1024, .f32⟩
  | .local _ .vmem, ⟨1, _⟩ => ⟨S1024x2688, .bf16⟩
  | .local _ .vmem, ⟨2, _⟩ => ⟨S1024x2688, .bf16⟩
  | .local _ .vmem, ⟨3, _⟩ => ⟨S128x2688, .f32⟩
  | .local _ .vmem, ⟨4, _⟩ => ⟨S128x2688, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SProjRefIdeal.lean ====
abbrev S32x4x1024 : Shape := ⟨3, ![32, 4, 1024]⟩
abbrev S1x32x512x2x2x64 : Shape := ⟨6, ![1, 32, 512, 2, 2, 64]⟩
abbrev S1x32x3x3072 : Shape := ⟨4, ![1, 32, 3, 3072]⟩
abbrev S1x1024x8000 : Shape := ⟨3, ![1, 1024, 8000]⟩
abbrev S1024x8000 : Shape := ⟨2, ![1024, 8000]⟩
abbrev S32x4x8000 : Shape := ⟨3, ![32, 4, 8000]⟩
abbrev S32x4x3072 : Shape := ⟨3, ![32, 4, 3072]⟩
abbrev S32x4x8 : Shape := ⟨3, ![32, 4, 8]⟩
abbrev S32x4x256 : Shape := ⟨3, ![32, 4, 256]⟩
abbrev S32x4x48 : Shape := ⟨3, ![32, 4, 48]⟩
abbrev S32x4x2048 : Shape := ⟨3, ![32, 4, 2048]⟩
abbrev S_ : Shape := ⟨0, ![]⟩
abbrev S32x4x64 : Shape := ⟨3, ![32, 4, 64]⟩
abbrev S32x4x8064 : Shape := ⟨3, ![32, 4, 8064]⟩
abbrev S32x512x2x2x64 : Shape := ⟨5, ![32, 512, 2, 2, 64]⟩
abbrev S32x4x2x2x64 : Shape := ⟨5, ![32, 4, 2, 2, 64]⟩
abbrev S32x516x2x2x64 : Shape := ⟨5, ![32, 516, 2, 2, 64]⟩
abbrev S32x3x3072 : Shape := ⟨3, ![32, 3, 3072]⟩
abbrev S32x7x3072 : Shape := ⟨3, ![32, 7, 3072]⟩
abbrev S1x32x4x2x2x64 : Shape := ⟨6, ![1, 32, 4, 2, 2, 64]⟩

abbrev nBuf : Space → Nat
  | .hbm => 32
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1x32x512x2x2x64, .f32⟩
  | .hbm, ⟨2, _⟩ => ⟨S1x32x3x3072, .f32⟩
  | .hbm, ⟨3, _⟩ => ⟨S1x1024x8000, .f32⟩
  | .hbm, ⟨4, _⟩ => ⟨S1024x8000, .f32⟩
  | .hbm, ⟨5, _⟩ => ⟨S32x4x8000, .f32⟩
  | .hbm, ⟨6, _⟩ => ⟨S32x4x3072, .f32⟩
  | .hbm, ⟨7, _⟩ => ⟨S32x4x1024, .f32⟩
  | .hbm, ⟨8, _⟩ => ⟨S32x4x8, .f32⟩
  | .hbm, ⟨9, _⟩ => ⟨S32x4x8, .f32⟩
  | .hbm, ⟨10, _⟩ => ⟨S32x4x1024, .f32⟩
  | .hbm, ⟨11, _⟩ => ⟨S32x4x256, .f32⟩
  | .hbm, ⟨12, _⟩ => ⟨S32x4x256, .f32⟩
  | .hbm, ⟨13, _⟩ => ⟨S32x4x256, .f32⟩
  | .hbm, ⟨14, _⟩ => ⟨S32x4x48, .f32⟩
  | .hbm, ⟨15, _⟩ => ⟨S32x4x2048, .f32⟩
  | .hbm, ⟨16, _⟩ => ⟨S_, .f32⟩
  | .hbm, ⟨17, _⟩ => ⟨S32x4x64, .f32⟩
  | .hbm, ⟨18, _⟩ => ⟨S32x4x8064, .f32⟩
  | .hbm, ⟨19, _⟩ => ⟨S32x512x2x2x64, .f32⟩
  | .hbm, ⟨20, _⟩ => ⟨S32x4x2x2x64, .f32⟩
  | .hbm, ⟨21, _⟩ => ⟨S32x516x2x2x64, .f32⟩
  | .hbm, ⟨22, _⟩ => ⟨S32x512x2x2x64, .f32⟩
  | .hbm, ⟨23, _⟩ => ⟨S32x3x3072, .f32⟩
  | .hbm, ⟨24, _⟩ => ⟨S32x7x3072, .f32⟩
  | .hbm, ⟨25, _⟩ => ⟨S32x3x3072, .f32⟩
  | .hbm, ⟨26, _⟩ => ⟨S32x4x2x2x64, .f32⟩
  | .hbm, ⟨27, _⟩ => ⟨S1x32x4x2x2x64, .f32⟩
  | .hbm, ⟨28, _⟩ => ⟨S32x4x2x2x64, .f32⟩
  | .hbm, ⟨29, _⟩ => ⟨S1x32x4x2x2x64, .f32⟩
  | .hbm, ⟨30, _⟩ => ⟨S1x32x512x2x2x64, .f32⟩
  | .hbm, ⟨31, _⟩ => ⟨S1x32x3x3072, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Post.lean ====
abbrev S16384x1024 : Shape := ⟨2, ![16384, 1024]⟩
abbrev S4x4096x8064 : Shape := ⟨3, ![4, 4096, 8064]⟩
abbrev S1x1024x1024 : Shape := ⟨3, ![1, 1024, 1024]⟩
abbrev S1x1024 : Shape := ⟨2, ![1, 1024]⟩
abbrev S1x1024x64 : Shape := ⟨3, ![1, 1024, 64]⟩
abbrev S1x64 : Shape := ⟨2, ![1, 64]⟩
abbrev S1024x1024 : Shape := ⟨2, ![1024, 1024]⟩
abbrev S1024 : Shape := ⟨1, ![1024]⟩
abbrev S1024x64 : Shape := ⟨2, ![1024, 64]⟩
abbrev S64x1024 : Shape := ⟨2, ![64, 1024]⟩
abbrev S64 : Shape := ⟨1, ![64]⟩
abbrev S64x1 : Shape := ⟨2, ![64, 1]⟩
abbrev S8x16384 : Shape := ⟨2, ![8, 16384]⟩
abbrev S64x128 : Shape := ⟨2, ![64, 128]⟩
abbrev S256x1024 : Shape := ⟨2, ![256, 1024]⟩
abbrev S1x256x1024 : Shape := ⟨3, ![1, 256, 1024]⟩
abbrev S8x256 : Shape := ⟨2, ![8, 256]⟩
abbrev S256 : Shape := ⟨1, ![256]⟩
abbrev S256x1 : Shape := ⟨2, ![256, 1]⟩
abbrev S64x256 : Shape := ⟨2, ![64, 256]⟩
abbrev S8x8x256 : Shape := ⟨3, ![8, 8, 256]⟩
abbrev S8x1x256 : Shape := ⟨3, ![8, 1, 256]⟩
abbrev S1x256 : Shape := ⟨2, ![1, 256]⟩
abbrev S256x256 : Shape := ⟨2, ![256, 256]⟩
abbrev S2x256 : Shape := ⟨2, ![2, 256]⟩

abbrev nBuf : Space → Nat
  | .hbm => 25
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x4096x8064, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x64, .f32⟩
  | .hbm, ⟨8, _⟩ => ⟨S1x64, .f32⟩
  | .hbm, ⟨9, _⟩ => ⟨S1024x1024, .f32⟩
  | .hbm, ⟨10, _⟩ => ⟨S1024x1024, .bf16⟩
  | .hbm, ⟨11, _⟩ => ⟨S1024, .f32⟩
  | .hbm, ⟨12, _⟩ => ⟨S1024, .f32⟩
  | .hbm, ⟨13, _⟩ => ⟨S1024x64, .f32⟩
  | .hbm, ⟨14, _⟩ => ⟨S64x1024, .f32⟩
  | .hbm, ⟨15, _⟩ => ⟨S64, .f32⟩
  | .hbm, ⟨16, _⟩ => ⟨S1x1024, .f32⟩
  | .hbm, ⟨17, _⟩ => ⟨S1x1024, .f32⟩
  | .hbm, ⟨18, _⟩ => ⟨S64x1, .f32⟩
  | .hbm, ⟨19, _⟩ => ⟨S16384x1024, .f32⟩
  | .hbm, ⟨20, _⟩ => ⟨S16384x1024, .bf16⟩
  | .hbm, ⟨21, _⟩ => ⟨S8x16384, .i32⟩
  | .hbm, ⟨22, _⟩ => ⟨S8x16384, .f32⟩
  | .hbm, ⟨23, _⟩ => ⟨S8x16384, .i32⟩
  | .hbm, ⟨24, _⟩ => ⟨S64x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S64x1024, .f32⟩
  | .local _ .vmem, ⟨14, _⟩ => ⟨S64x1, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S8x256, .i32⟩
  | .local _ .vmem, ⟨20, _⟩ => ⟨S8x256, .i32⟩
  | .local _ .vmem, ⟨21, _⟩ => ⟨S8x256, .f32⟩
  | .local _ .vmem, ⟨22, _⟩ => ⟨S8x256, .f32⟩
  | .local _ .vmem, ⟨23, _⟩ => ⟨S8x256, .i32⟩
  | .local _ .vmem, ⟨24, _⟩ => ⟨S8x256, .i32⟩
  | .local _ .vmem, ⟨25, _⟩ => ⟨S64x128, .f32⟩
  | .local _ .vmem, ⟨26, _⟩ => ⟨S64x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c5_i32 : BitVec 32 := 5#32
  let c0_i32_10 : BitVec 32 := 0#32
  ![v16.toNat, v26.toNat, c5_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c6_i32 : BitVec 32 := 6#32
  let c0_i32_10 : BitVec 32 := 0#32
  ![v16.toNat, v26.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x256 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S64x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PostRefIdeal.lean ====
abbrev S16384x1024 : Shape := ⟨2, ![16384, 1024]⟩
abbrev S4x4096x8064 : Shape := ⟨3, ![4, 4096, 8064]⟩
abbrev S1x1024x1024 : Shape := ⟨3, ![1, 1024, 1024]⟩
abbrev S1x1024 : Shape := ⟨2, ![1, 1024]⟩
abbrev S1x1024x64 : Shape := ⟨3, ![1, 1024, 64]⟩
abbrev S1x64 : Shape := ⟨2, ![1, 64]⟩
abbrev S4x4096x2048 : Shape := ⟨3, ![4, 4096, 2048]⟩
abbrev S_ : Shape := ⟨0, ![]⟩
abbrev S4x4096x1024 : Shape := ⟨3, ![4, 4096, 1024]⟩
abbrev S1024x1024 : Shape := ⟨2, ![1024, 1024]⟩
abbrev S16384 : Shape := ⟨1, ![16384]⟩
abbrev S16384x1 : Shape := ⟨2, ![16384, 1]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x4096x8064, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x64, .f32⟩
  | .hbm, ⟨8, _⟩ => ⟨S1x64, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S_, .f32⟩
  | .hbm, ⟨13, _⟩ => ⟨S4x4096x2048, .f32⟩
  | .hbm, ⟨14, _⟩ => ⟨S4x4096x2048, .f32⟩
  | .hbm, ⟨15, _⟩ => ⟨S_, .f32⟩
  | .hbm, ⟨16, _⟩ => ⟨S4x4096x2048, .f32⟩
  | .hbm, ⟨17, _⟩ => ⟨S4x4096x2048, .f32⟩
  | .hbm, ⟨18, _⟩ => ⟨S4x4096x1024, .f32⟩
  | .hbm, ⟨19, _⟩ => ⟨S4x4096x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S1024x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Combine.lean ====
abbrev S16384x1024 : Shape := ⟨2, ![16384, 1024]⟩
abbrev S8x16384 : Shape := ⟨2, ![8, 16384]⟩
abbrev S131072x1024 : Shape := ⟨2, ![131072, 1024]⟩
abbrev S1x1024x256 : Shape := ⟨3, ![1, 1024, 256]⟩
abbrev S1x256x1024 : Shape := ⟨3, ![1, 256, 1024]⟩
abbrev S1x1024 : Shape := ⟨2, ![1, 1024]⟩
abbrev S16384x8 : Shape := ⟨2, ![16384, 8]⟩
abbrev S1024x256 : Shape := ⟨2, ![1024, 256]⟩
abbrev S256x1024 : Shape := ⟨2, ![256, 1024]⟩
abbrev S1024 : Shape := ⟨1, ![1024]⟩
abbrev S8x128 : Shape := ⟨2, ![8, 128]⟩
abbrev S128x1024 : Shape := ⟨2, ![128, 1024]⟩
abbrev S128x8 : Shape := ⟨2, ![128, 8]⟩
abbrev S6x128x1024 : Shape := ⟨3, ![6, 128, 1024]⟩
abbrev S_ : Shape := ⟨0, ![]⟩
abbrev S1x1 : Shape := ⟨2, ![1, 1]⟩
abbrev S1x1x1024 : Shape := ⟨3, ![1, 1, 1024]⟩
abbrev S128x256 : Shape := ⟨2, ![128, 256]⟩
abbrev S128x1 : Shape := ⟨2, ![128, 1]⟩
abbrev S1x128x1024 : Shape := ⟨3, ![1, 128, 1024]⟩
abbrev S128 : Shape := ⟨1, ![128]⟩

abbrev nBuf : Space → Nat
  | .hbm => 21
  | .vmem => 12
  | .smem => 2
  | _ => 0

abbrev bufTy : (tb : Table) → Fin (tcTables nBuf tb) → BufTy
  | .hbm, ⟨0, _⟩ => ⟨S16384x1024, .f32⟩
  | .hbm, ⟨1, _⟩ => ⟨S8x16384, .i32⟩
  | .hbm, ⟨2, _⟩ => ⟨S8x16384, .f32⟩
  | .hbm, ⟨3, _⟩ => ⟨S131072x1024, .f32⟩
  | .hbm, ⟨4, _⟩ => ⟨S1x1024x256, .f32⟩
  | .hbm, ⟨5, _⟩ => ⟨S1x1024x256, .f32⟩
  | .hbm, ⟨6, _⟩ => ⟨S1x256x1024, .f32⟩
  | .hbm, ⟨7, _⟩ => ⟨S1x1024, .f32⟩
  | .hbm, ⟨8, _⟩ => ⟨S1x1024, .f32⟩
  | .hbm, ⟨9, _⟩ => ⟨S16384x8, .f32⟩
  | .hbm, ⟨10, _⟩ => ⟨S1024x256, .f32⟩
  | .hbm, ⟨11, _⟩ => ⟨S1024x256, .bf16⟩
  | .hbm, ⟨12, _⟩ => ⟨S1024x256, .f32⟩
  | .hbm, ⟨13, _⟩ => ⟨S1024x256, .bf16⟩
  | .hbm, ⟨14, _⟩ => ⟨S256x1024, .f32⟩
  | .hbm, ⟨15, _⟩ => ⟨S256x1024, .bf16⟩
  | .hbm, ⟨16, _⟩ => ⟨S1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x8, .f32⟩
  | .local _ .vmem, ⟨3, _⟩ => ⟨S128x8, .f32⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S1x1024, .f32⟩
  | .local _ .vmem, ⟨8, _⟩ => ⟨S1x1024, .f32⟩
  | .local _ .vmem, ⟨9, _⟩ => ⟨S128x1024, .f32⟩
  | .local _ .vmem, ⟨10, _⟩ => ⟨S128x1024, .f32⟩
  | .local _ .vmem, ⟨11, _⟩ => ⟨S6x128x1024, .f32⟩
  | .local _ .smem, ⟨0, _⟩ => ⟨S8x128, .i32⟩
  | .local _ .smem, ⟨1, _⟩ => ⟨S8x128, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k0_off1 (k0_t1 : Fin k0_t1_loop.trips) : Fin 2 → Nat :=
  let c0_43 : Index := 0#32
  let c0_i32 : BitVec 32 := 0#32
  let c1_i32 : BitVec 32 := 1#32
  let arg13 : BitVec 32 := Scf.iv c0_i32 c1_i32 k0_t1
  let v89 : Index := Scalar.indexCast arg13
  ![0, v89.toNat]
def k0_off2 (k0_t1 : Fin k0_t1_loop.trips) : Fin 3 → Nat :=
  let c0_i32_44 : BitVec 32 := 0#32
  let c0_i32 : BitVec 32 := 0#32
  let c1_i32 : BitVec 32 := 1#32
  let arg13 : BitVec 32 := Scf.iv c0_i32 c1_i32 k0_t1
  let c0_i32_45 : BitVec 32 := 0#32
  ![0, arg13.toNat, 0]
def k0_off3 (v90 : BitVec 32) : Fin 2 → Nat :=
  let c0_i32_46 : BitVec 32 := 0#32
  ![v90.toNat, 0]

def k0_chk1 (v90 : BitVec 32) : Prop :=
  (∀ a, (k0_off3 v90) a + S1x1024.size a ≤ S131072x1024.size a)
theorem k0_off3_inb : ∀ (v90 : BitVec 32) (k0_hw1 : k0_chk1 v90), ∀ a, (k0_off3 v90) a + S1x1024.size a ≤ S131072x1024.size a := fun v90 k0_hw1 => k0_hw1

def k0_off4 (k0_t1 : Fin k0_t1_loop.trips) : Fin 2 → Nat :=
  let c1_47 : Index := 1#32
  let c0_i32 : BitVec 32 := 0#32
  let c1_i32 : BitVec 32 := 1#32
  let arg13 : BitVec 32 := Scf.iv c0_i32 c1_i32 k0_t1
  let v94 : Index := Scalar.indexCast arg13
  ![1, v94.toNat]
def k0_off5 (k0_t1 : Fin k0_t1_loop.trips) : Fin 3 → Nat :=
  let c1_i32_48 : BitVec 32 := 1#32
  let c0_i32 : BitVec 32 := 0#32
  let c1_i32 : BitVec 32 := 1#32
  let arg13 : BitVec 32 := Scf.iv c0_i32 c1_i32 k0_t1
  let c0_i32_49 : BitVec 32 := 0#32
  ![1, arg13.toNat, 0]
def k0_off6 (v95 : BitVec 32) : Fin 2 → Nat :=
  let c0_i32_50 : BitVec 32 := 0#32
  ![v95.toNat, 0]

def k0_chk2 (v95 : BitVec 32) : Prop :=
  (∀ a, (k0_off6 v95) a + S1x1024.size a ≤ S131072x1024.size a)
theorem k0_off6_inb : ∀ (v95 : BitVec 32) (k0_hw2 : k0_chk2 v95), ∀ a, (k0_off6 v95) a + S1x1024.size a ≤ S131072x1024.size a := fun v95 k0_hw2 => k0_hw2

def k0_off7 (k0_t1 : Fin k0_t1_loop.trips) : Fin 2 → Nat :=
  let c2_51 : Index := 2#32
  let c0_i32 : BitVec 32 := 0#32
  let c1_i32 : BitVec 32 := 1#32
  let arg13 : BitVec 32 := Scf.iv c0_i32 c1_i32 k0_t1
  let v99 : Index := Scalar.indexCast arg13
  ![2, v99.toNat]
def k0_off8 (k0_t1 : Fin k0_t1_loop.trips) : Fin 3 → Nat :=
  let c2_i32 : BitVec 32 := 2#32
  let c0_i32 : BitVec 32 := 0#32
  let c1_i32 : BitVec 32 := 1#32
  let arg13 : BitVec 32 := Scf.iv c0_i32 c1_i32 k0_t1
  let c0_i32_52 : BitVec 32 := 0#32
  ![2, arg13.toNat, 0]
def k0_off9 (v100 : BitVec 32) : Fin 2 → Nat :=
  let c0_i32_53 : BitVec 32 := 0#32
  ![v100.toNat, 0]

def k0_chk3 (v100 : BitVec 32) : Prop :=
  (∀ a, (k0_off9 v100) a + S1x1024.size a ≤ S131072x1024.size a)
theorem k0_off9_inb : ∀ (v100 : BitVec 32) (k0_hw3 : k0_chk3 v100), ∀ a, (k0_off9 v100) a + S1x1024.size a ≤ S131072x1024.size a := fun v100 k0_hw3 => k0_hw3

def k0_off10 (k0_t1 : Fin k0_t1_loop.trips) : Fin 2 → Nat :=
  let c3_54 : Index := 3#32
  let c0_i32 : BitVec 32 := 0#32
  let c1_i32 : BitVec 32 := 1#32
  let arg13 : BitVec 32 := Scf.iv c0_i32 c1_i32 k0_t1
  let v104 : Index := Scalar.indexCast arg13
  ![3, v104.toNat]
def k0_off11 (k0_t1 : Fin k0_t1_loop.trips) : Fin 3 → Nat :=
  let c3_i32 : BitVec 32 := 3#32
  let c0_i32 : BitVec 32 := 0#32
  let c1_i32 : BitVec 32 := 1#32
  let arg13 : BitVec 32 := Scf.iv c0_i32 c1_i32 k0_t1
  let c0_i32_55 : BitVec 32 := 0#32
  ![3, arg13.toNat, 0]
def k0_off12 (v105 : BitVec 32) : Fin 2 → Nat :=
  let c0_i32_56 : BitVec 32 := 0#32
  ![v105.toNat, 0]

def k0_chk4 (v105 : BitVec 32) : Prop :=
  (∀ a, (k0_off12 v105) a + S1x1024.size a ≤ S131072x1024.size a)
theorem k0_off12_inb : ∀ (v105 : BitVec 32) (k0_hw4 : k0_chk4 v105), ∀ a, (k0_off12 v105) a + S1x1024.size a ≤ S131072x1024.size a := fun v105 k0_hw4 => k0_hw4

def k0_off13 (k0_t1 : Fin k0_t1_loop.trips) : Fin 2 → Nat :=
  let c4_57 : Index := 4#32
  let c0_i32 : BitVec 32 := 0#32
  let c1_i32 : BitVec 32 := 1#32
  let arg13 : BitVec 32 := Scf.iv c0_i32 c1_i32 k0_t1
  let v109 : Index := Scalar.indexCast arg13
  ![4, v109.toNat]
def k0_off14 (k0_t1 : Fin k0_t1_loop.trips) : Fin 3 → Nat :=
  let c4_i32 : BitVec 32 := 4#32
  let c0_i32 : BitVec 32 := 0#32
  let c1_i32 : BitVec 32 := 1#32
  let arg13 : BitVec 32 := Scf.iv c0_i32 c1_i32 k0_t1
  let c0_i32_58 : BitVec 32 := 0#32
  ![4, arg13.toNat, 0]
def k0_off15 (v110 : BitVec 32) : Fin 2 → Nat :=
  let c0_i32_59 : BitVec 32 := 0#32
  ![v110.toNat, 0]

def k0_chk5 (v110 : BitVec 32) : Prop :=
  (∀ a, (k0_off15 v110) a + S1x1024.size a ≤ S131072x1024.size a)
theorem k0_off15_inb : ∀ (v110 : BitVec 32) (k0_hw5 : k0_chk5 v110), ∀ a, (k0_off15 v110) a + S1x1024.size a ≤ S131072x1024.size a := fun v110 k0_hw5 => k0_hw5

def k0_off16 (k0_t1 : Fin k0_t1_loop.trips) : Fin 2 → Nat :=
  let c5_60 : Index := 5#32
  let c0_i32 : BitVec 32 := 0#32
  let c1_i32 : BitVec 32 := 1#32
  let arg13 : BitVec 32 := Scf.iv c0_i32 c1_i32 k0_t1
  let v114 : Index := Scalar.indexCast arg13
  ![5, v114.toNat]
def k0_off17 (k0_t1 : Fin k0_t1_loop.trips) : Fin 3 → Nat :=
  let c5_i32 : BitVec 32 := 5#32
  let c0_i32 : BitVec 32 := 0#32
  let c1_i32 : BitVec 32 := 1#32
  let arg13 : BitVec 32 := Scf.iv c0_i32 c1_i32 k0_t1
  let c0_i32_61 : BitVec 32 := 0#32
  ![5, arg13.toNat, 0]
def k0_off18 (v115 : BitVec 32) : Fin 2 → Nat :=
  let c0_i32_62 : BitVec 32 := 0#32
  ![v115.toNat, 0]

def k0_chk6 (v115 : BitVec 32) : Prop :=
  (∀ a, (k0_off18 v115) a + S1x1024.size a ≤ S131072x1024.size a)
theorem k0_off18_inb : ∀ (v115 : BitVec 32) (k0_hw6 : k0_chk6 v115), ∀ a, (k0_off18 v115) a + S1x1024.size a ≤ S131072x1024.size a := fun v115 k0_hw6 => k0_hw6

@[reducible] def k0_t2_loop : Scf.Loop 32 :=
  let c0_i32_14 : BitVec 32 := 0#32
  let c128_i32_15 : BitVec 32 := 128#32
  let v25 : BitVec 32 := Scalar.addi c0_i32_14 c128_i32_15
  let c1_i32_16 : BitVec 32 := 1#32
  ⟨c0_i32_14, v25, c1_i32_16⟩
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== CombineRefIdeal.lean ====
abbrev S16384x1024 : Shape := ⟨2, ![16384, 1024]⟩
abbrev S8x16384 : Shape := ⟨2, ![8, 16384]⟩
abbrev S131072x1024 : Shape := ⟨2, ![131072, 1024]⟩
abbrev S1x1024x256 : Shape := ⟨3, ![1, 1024, 256]⟩
abbrev S1x256x1024 : Shape := ⟨3, ![1, 256, 1024]⟩
abbrev S1x1024 : Shape := ⟨2, ![1, 1024]⟩
abbrev S6x16384 : Shape := ⟨2, ![6, 16384]⟩
abbrev S6x16384x1 : Shape := ⟨3, ![6, 16384, 1]⟩
abbrev S_ : Shape := ⟨0, ![]⟩
abbrev S6x16384x1024 : Shape := ⟨3, ![6, 16384, 1024]⟩
abbrev S1024x256 : Shape := ⟨2, ![1024, 256]⟩
abbrev S16384x256 : Shape := ⟨2, ![16384, 256]⟩
abbrev S256x1024 : Shape := ⟨2, ![256, 1024]⟩
abbrev S16384 : Shape := ⟨1, ![16384]⟩
abbrev S16384x1 : Shape := ⟨2, ![16384, 1]⟩
abbrev S1024 : Shape := ⟨1, ![1024]⟩

abbrev nBuf : Space → Nat
  | .hbm => 75
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x16384, .i32⟩
  | .hbm, ⟨2, _⟩ => ⟨S8x16384, .f32⟩
  | .hbm, ⟨3, _⟩ => ⟨S131072x1024, .f32⟩
  | .hbm, ⟨4, _⟩ => ⟨S1x1024x256, .f32⟩
  | .hbm, ⟨5, _⟩ => ⟨S1x1024x256, .f32⟩
  | .hbm, ⟨6, _⟩ => ⟨S1x256x1024, .f32⟩
  | .hbm, ⟨7, _⟩ => ⟨S1x1024, .f32⟩
  | .hbm, ⟨8, _⟩ => ⟨S1x1024, .f32⟩
  | .hbm, ⟨9, _⟩ => ⟨S6x16384, .f32⟩
  | .hbm, ⟨10, _⟩ => ⟨S6x16384x1, .f32⟩
  | .hbm, ⟨11, _⟩ => ⟨S6x16384, .i32⟩
  | .hbm, ⟨12, _⟩ => ⟨S_, .i32⟩
  | .hbm, ⟨13, _⟩ => ⟨S6x16384, .i32⟩
  | .hbm, ⟨14, _⟩ => ⟨S6x16384, .i1⟩
  | .hbm, ⟨15, _⟩ => ⟨S_, .i32⟩
  | .hbm, ⟨16, _⟩ => ⟨S6x16384, .i32⟩
  | .hbm, ⟨17, _⟩ => ⟨S6x16384, .i32⟩
  | .hbm, ⟨18, _⟩ => ⟨S6x16384, .i32⟩
  | .hbm, ⟨19, _⟩ => ⟨S6x16384x1, .i32⟩
  | .hbm, ⟨20, _⟩ => ⟨S6x16384x1024, .f32⟩
  | .hbm, ⟨21, _⟩ => ⟨S6x16384x1024, .f32⟩
  | .hbm, ⟨22, _⟩ => ⟨S6x16384x1024, .f32⟩
  | .hbm, ⟨23, _⟩ => ⟨S_, .f32⟩
  | .hbm, ⟨24, _⟩ => ⟨S16384x1024, .f32⟩
  | .hbm, ⟨25, _⟩ => ⟨S1024x256, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S_, .f32⟩
  | .hbm, ⟨30, _⟩ => ⟨S16384x256, .f32⟩
  | .hbm, ⟨31, _⟩ => ⟨S16384x256, .f32⟩
  | .hbm, ⟨32, _⟩ => ⟨S_, .f32⟩
  | .hbm, ⟨33, _⟩ => ⟨S16384x256, .f32⟩
  | .hbm, ⟨34, _⟩ => ⟨S16384x256, .f32⟩
  | .hbm, ⟨35, _⟩ => ⟨S16384x256, .f32⟩
  | .hbm, ⟨36, _⟩ => ⟨S1024x256, .f32⟩
  | .hbm, ⟨37, _⟩ => ⟨S16384x256, .f32⟩
  | .hbm, ⟨38, _⟩ => ⟨S16384x256, .f32⟩
  | .hbm, ⟨39, _⟩ => ⟨S256x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S1024, .f32⟩
  | .hbm, ⟨68, _⟩ => ⟨S1x1024, .f32⟩
  | .hbm, ⟨69, _⟩ => ⟨S16384x1024, .f32⟩
  | .hbm, ⟨70, _⟩ => ⟨S16384x1024, .f32⟩
  | .hbm, ⟨71, _⟩ => ⟨S1024, .f32⟩
  | .hbm, ⟨72, _⟩ => ⟨S1x1024, .f32⟩
  | .hbm, ⟨73, _⟩ => ⟨S16384x1024, .f32⟩
  | .hbm, ⟨74, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩

abbrev nD : Nat := 1
abbrev τ : Topo := Topo.v7x

variable {F : FTy → Type} [FloatOps F]
-- ==== SCombine.lean ====
abbrev S128x1024 : Shape := ⟨2, ![128, 1024]⟩
abbrev S8x128 : Shape := ⟨2, ![8, 128]⟩
abbrev S4864x1024 : Shape := ⟨2, ![4864, 1024]⟩
abbrev S1x1024x256 : Shape := ⟨3, ![1, 1024, 256]⟩
abbrev S1x256x1024 : Shape := ⟨3, ![1, 256, 1024]⟩
abbrev S1x1024 : Shape := ⟨2, ![1, 1024]⟩
abbrev S128x8 : Shape := ⟨2, ![128, 8]⟩
abbrev S1024x256 : Shape := ⟨2, ![1024, 256]⟩
abbrev S256x1024 : Shape := ⟨2, ![256, 1024]⟩
abbrev S1024 : Shape := ⟨1, ![1024]⟩
abbrev S6x128x1024 : Shape := ⟨3, ![6, 128, 1024]⟩
abbrev S_ : Shape := ⟨0, ![]⟩
abbrev S1x1 : Shape := ⟨2, ![1, 1]⟩
abbrev S1x1x1024 : Shape := ⟨3, ![1, 1, 1024]⟩
abbrev S128x256 : Shape := ⟨2, ![128, 256]⟩
abbrev S128x1 : Shape := ⟨2, ![128, 1]⟩
abbrev S1x128x1024 : Shape := ⟨3, ![1, 128, 1024]⟩
abbrev S128 : Shape := ⟨1, ![128]⟩

abbrev nBuf : Space → Nat
  | .hbm => 21
  | .vmem => 9
  | .smem => 1
  | _ => 0

abbrev bufTy : (tb : Table) → Fin (tcTables nBuf tb) → BufTy
  | .hbm, ⟨0, _⟩ => ⟨S128x1024, .f32⟩
  | .hbm, ⟨1, _⟩ => ⟨S8x128, .i32⟩
  | .hbm, ⟨2, _⟩ => ⟨S8x128, .f32⟩
  | .hbm, ⟨3, _⟩ => ⟨S4864x1024, .f32⟩
  | .hbm, ⟨4, _⟩ => ⟨S1x1024x256, .f32⟩
  | .hbm, ⟨5, _⟩ => ⟨S1x1024x256, .f32⟩
  | .hbm, ⟨6, _⟩ => ⟨S1x256x1024, .f32⟩
  | .hbm, ⟨7, _⟩ => ⟨S1x1024, .f32⟩
  | .hbm, ⟨8, _⟩ => ⟨S1x1024, .f32⟩
  | .hbm, ⟨9, _⟩ => ⟨S128x8, .f32⟩
  | .hbm, ⟨10, _⟩ => ⟨S1024x256, .f32⟩
  | .hbm, ⟨11, _⟩ => ⟨S1024x256, .bf16⟩
  | .hbm, ⟨12, _⟩ => ⟨S1024x256, .f32⟩
  | .hbm, ⟨13, _⟩ => ⟨S1024x256, .bf16⟩
  | .hbm, ⟨14, _⟩ => ⟨S256x1024, .f32⟩
  | .hbm, ⟨15, _⟩ => ⟨S256x1024, .bf16⟩
  | .hbm, ⟨16, _⟩ => ⟨S1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S128x1024, .f32⟩
  | .local _ .vmem, ⟨0, _⟩ => ⟨S128x1024, .f32⟩
  | .local _ .vmem, ⟨1, _⟩ => ⟨S128x8, .f32⟩
  | .local _ .vmem, ⟨2, _⟩ => ⟨S1024x256, .bf16⟩
  | .local _ .vmem, ⟨3, _⟩ => ⟨S1024x256, .bf16⟩
  | .local _ .vmem, ⟨4, _⟩ => ⟨S256x1024, .bf16⟩
  | .local _ .vmem, ⟨5, _⟩ => ⟨S1x1024, .f32⟩
  | .local _ .vmem, ⟨6, _⟩ => ⟨S1x1024, .f32⟩
  | .local _ .vmem, ⟨7, _⟩ => ⟨S128x1024, .f32⟩
  | .local _ .vmem, ⟨8, _⟩ => ⟨S6x128x1024, .f32⟩
  | .local _ .smem, ⟨0, _⟩ => ⟨S8x128, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k0_off1 (k0_t1 : Fin k0_t1_loop.trips) : Fin 2 → Nat :=
  let c0_43 : Index := 0#32
  let c0_i32 : BitVec 32 := 0#32
  let c1_i32 : BitVec 32 := 1#32
  let arg13 : BitVec 32 := Scf.iv c0_i32 c1_i32 k0_t1
  let v89 : Index := Scalar.indexCast arg13
  ![0, v89.toNat]
def k0_off2 (k0_t1 : Fin k0_t1_loop.trips) : Fin 3 → Nat :=
  let c0_i32_44 : BitVec 32 := 0#32
  let c0_i32 : BitVec 32 := 0#32
  let c1_i32 : BitVec 32 := 1#32
  let arg13 : BitVec 32 := Scf.iv c0_i32 c1_i32 k0_t1
  let c0_i32_45 : BitVec 32 := 0#32
  ![0, arg13.toNat, 0]
def k0_off3 (v90 : BitVec 32) : Fin 2 → Nat :=
  let c0_i32_46 : BitVec 32 := 0#32
  ![v90.toNat, 0]

def k0_chk1 (v90 : BitVec 32) : Prop :=
  (∀ a, (k0_off3 v90) a + S1x1024.size a ≤ S4864x1024.size a)
theorem k0_off3_inb : ∀ (v90 : BitVec 32) (k0_hw1 : k0_chk1 v90), ∀ a, (k0_off3 v90) a + S1x1024.size a ≤ S4864x1024.size a := fun v90 k0_hw1 => k0_hw1

def k0_off4 (k0_t1 : Fin k0_t1_loop.trips) : Fin 2 → Nat :=
  let c1_47 : Index := 1#32
  let c0_i32 : BitVec 32 := 0#32
  let c1_i32 : BitVec 32 := 1#32
  let arg13 : BitVec 32 := Scf.iv c0_i32 c1_i32 k0_t1
  let v94 : Index := Scalar.indexCast arg13
  ![1, v94.toNat]
def k0_off5 (k0_t1 : Fin k0_t1_loop.trips) : Fin 3 → Nat :=
  let c1_i32_48 : BitVec 32 := 1#32
  let c0_i32 : BitVec 32 := 0#32
  let c1_i32 : BitVec 32 := 1#32
  let arg13 : BitVec 32 := Scf.iv c0_i32 c1_i32 k0_t1
  let c0_i32_49 : BitVec 32 := 0#32
  ![1, arg13.toNat, 0]
def k0_off6 (v95 : BitVec 32) : Fin 2 → Nat :=
  let c0_i32_50 : BitVec 32 := 0#32
  ![v95.toNat, 0]

def k0_chk2 (v95 : BitVec 32) : Prop :=
  (∀ a, (k0_off6 v95) a + S1x1024.size a ≤ S4864x1024.size a)
theorem k0_off6_inb : ∀ (v95 : BitVec 32) (k0_hw2 : k0_chk2 v95), ∀ a, (k0_off6 v95) a + S1x1024.size a ≤ S4864x1024.size a := fun v95 k0_hw2 => k0_hw2

def k0_off7 (k0_t1 : Fin k0_t1_loop.trips) : Fin 2 → Nat :=
  let c2_51 : Index := 2#32
  let c0_i32 : BitVec 32 := 0#32
  let c1_i32 : BitVec 32 := 1#32
  let arg13 : BitVec 32 := Scf.iv c0_i32 c1_i32 k0_t1
  let v99 : Index := Scalar.indexCast arg13
  ![2, v99.toNat]
def k0_off8 (k0_t1 : Fin k0_t1_loop.trips) : Fin 3 → Nat :=
  let c2_i32 : BitVec 32 := 2#32
  let c0_i32 : BitVec 32 := 0#32
  let c1_i32 : BitVec 32 := 1#32
  let arg13 : BitVec 32 := Scf.iv c0_i32 c1_i32 k0_t1
  let c0_i32_52 : BitVec 32 := 0#32
  ![2, arg13.toNat, 0]
def k0_off9 (v100 : BitVec 32) : Fin 2 → Nat :=
  let c0_i32_53 : BitVec 32 := 0#32
  ![v100.toNat, 0]

def k0_chk3 (v100 : BitVec 32) : Prop :=
  (∀ a, (k0_off9 v100) a + S1x1024.size a ≤ S4864x1024.size a)
theorem k0_off9_inb : ∀ (v100 : BitVec 32) (k0_hw3 : k0_chk3 v100), ∀ a, (k0_off9 v100) a + S1x1024.size a ≤ S4864x1024.size a := fun v100 k0_hw3 => k0_hw3

def k0_off10 (k0_t1 : Fin k0_t1_loop.trips) : Fin 2 → Nat :=
  let c3_54 : Index := 3#32
  let c0_i32 : BitVec 32 := 0#32
  let c1_i32 : BitVec 32 := 1#32
  let arg13 : BitVec 32 := Scf.iv c0_i32 c1_i32 k0_t1
  let v104 : Index := Scalar.indexCast arg13
  ![3, v104.toNat]
def k0_off11 (k0_t1 : Fin k0_t1_loop.trips) : Fin 3 → Nat :=
  let c3_i32 : BitVec 32 := 3#32
  let c0_i32 : BitVec 32 := 0#32
  let c1_i32 : BitVec 32 := 1#32
  let arg13 : BitVec 32 := Scf.iv c0_i32 c1_i32 k0_t1
  let c0_i32_55 : BitVec 32 := 0#32
  ![3, arg13.toNat, 0]
def k0_off12 (v105 : BitVec 32) : Fin 2 → Nat :=
  let c0_i32_56 : BitVec 32 := 0#32
  ![v105.toNat, 0]

def k0_chk4 (v105 : BitVec 32) : Prop :=
  (∀ a, (k0_off12 v105) a + S1x1024.size a ≤ S4864x1024.size a)
theorem k0_off12_inb : ∀ (v105 : BitVec 32) (k0_hw4 : k0_chk4 v105), ∀ a, (k0_off12 v105) a + S1x1024.size a ≤ S4864x1024.size a := fun v105 k0_hw4 => k0_hw4

def k0_off13 (k0_t1 : Fin k0_t1_loop.trips) : Fin 2 → Nat :=
  let c4_57 : Index := 4#32
  let c0_i32 : BitVec 32 := 0#32
  let c1_i32 : BitVec 32 := 1#32
  let arg13 : BitVec 32 := Scf.iv c0_i32 c1_i32 k0_t1
  let v109 : Index := Scalar.indexCast arg13
  ![4, v109.toNat]
def k0_off14 (k0_t1 : Fin k0_t1_loop.trips) : Fin 3 → Nat :=
  let c4_i32 : BitVec 32 := 4#32
  let c0_i32 : BitVec 32 := 0#32
  let c1_i32 : BitVec 32 := 1#32
  let arg13 : BitVec 32 := Scf.iv c0_i32 c1_i32 k0_t1
  let c0_i32_58 : BitVec 32 := 0#32
  ![4, arg13.toNat, 0]
def k0_off15 (v110 : BitVec 32) : Fin 2 → Nat :=
  let c0_i32_59 : BitVec 32 := 0#32
  ![v110.toNat, 0]

def k0_chk5 (v110 : BitVec 32) : Prop :=
  (∀ a, (k0_off15 v110) a + S1x1024.size a ≤ S4864x1024.size a)
theorem k0_off15_inb : ∀ (v110 : BitVec 32) (k0_hw5 : k0_chk5 v110), ∀ a, (k0_off15 v110) a + S1x1024.size a ≤ S4864x1024.size a := fun v110 k0_hw5 => k0_hw5

def k0_off16 (k0_t1 : Fin k0_t1_loop.trips) : Fin 2 → Nat :=
  let c5_60 : Index := 5#32
  let c0_i32 : BitVec 32 := 0#32
  let c1_i32 : BitVec 32 := 1#32
  let arg13 : BitVec 32 := Scf.iv c0_i32 c1_i32 k0_t1
  let v114 : Index := Scalar.indexCast arg13
  ![5, v114.toNat]
def k0_off17 (k0_t1 : Fin k0_t1_loop.trips) : Fin 3 → Nat :=
  let c5_i32 : BitVec 32 := 5#32
  let c0_i32 : BitVec 32 := 0#32
  let c1_i32 : BitVec 32 := 1#32
  let arg13 : BitVec 32 := Scf.iv c0_i32 c1_i32 k0_t1
  let c0_i32_61 : BitVec 32 := 0#32
  ![5, arg13.toNat, 0]
def k0_off18 (v115 : BitVec 32) : Fin 2 → Nat :=
  let c0_i32_62 : BitVec 32 := 0#32
  ![v115.toNat, 0]

def k0_chk6 (v115 : BitVec 32) : Prop :=
  (∀ a, (k0_off18 v115) a + S1x1024.size a ≤ S4864x1024.size a)
theorem k0_off18_inb : ∀ (v115 : BitVec 32) (k0_hw6 : k0_chk6 v115), ∀ a, (k0_off18 v115) a + S1x1024.size a ≤ S4864x1024.size a := fun v115 k0_hw6 => k0_hw6

@[reducible] def k0_t2_loop : Scf.Loop 32 :=
  let c0_i32_14 : BitVec 32 := 0#32
  let c128_i32_15 : BitVec 32 := 128#32
  let v25 : BitVec 32 := Scalar.addi c0_i32_14 c128_i32_15
  let c1_i32_16 : BitVec 32 := 1#32
  ⟨c0_i32_14, v25, c1_i32_16⟩
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SCombineRefIdeal.lean ====
abbrev S128x1024 : Shape := ⟨2, ![128, 1024]⟩
abbrev S8x128 : Shape := ⟨2, ![8, 128]⟩
abbrev S4864x1024 : Shape := ⟨2, ![4864, 1024]⟩
abbrev S1x1024x256 : Shape := ⟨3, ![1, 1024, 256]⟩
abbrev S1x256x1024 : Shape := ⟨3, ![1, 256, 1024]⟩
abbrev S1x1024 : Shape := ⟨2, ![1, 1024]⟩
abbrev S6x128 : Shape := ⟨2, ![6, 128]⟩
abbrev S6x128x1 : Shape := ⟨3, ![6, 128, 1]⟩
abbrev S_ : Shape := ⟨0, ![]⟩
abbrev S6x128x1024 : Shape := ⟨3, ![6, 128, 1024]⟩
abbrev S1024x256 : Shape := ⟨2, ![1024, 256]⟩
abbrev S128x256 : Shape := ⟨2, ![128, 256]⟩
abbrev S256x1024 : Shape := ⟨2, ![256, 1024]⟩
abbrev S128 : Shape := ⟨1, ![128]⟩
abbrev S128x1 : Shape := ⟨2, ![128, 1]⟩
abbrev S1024 : Shape := ⟨1, ![1024]⟩

abbrev nBuf : Space → Nat
  | .hbm => 75
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8x128, .i32⟩
  | .hbm, ⟨2, _⟩ => ⟨S8x128, .f32⟩
  | .hbm, ⟨3, _⟩ => ⟨S4864x1024, .f32⟩
  | .hbm, ⟨4, _⟩ => ⟨S1x1024x256, .f32⟩
  | .hbm, ⟨5, _⟩ => ⟨S1x1024x256, .f32⟩
  | .hbm, ⟨6, _⟩ => ⟨S1x256x1024, .f32⟩
  | .hbm, ⟨7, _⟩ => ⟨S1x1024, .f32⟩
  | .hbm, ⟨8, _⟩ => ⟨S1x1024, .f32⟩
  | .hbm, ⟨9, _⟩ => ⟨S6x128, .f32⟩
  | .hbm, ⟨10, _⟩ => ⟨S6x128x1, .f32⟩
  | .hbm, ⟨11, _⟩ => ⟨S6x128, .i32⟩
  | .hbm, ⟨12, _⟩ => ⟨S_, .i32⟩
  | .hbm, ⟨13, _⟩ => ⟨S6x128, .i32⟩
  | .hbm, ⟨14, _⟩ => ⟨S6x128, .i1⟩
  | .hbm, ⟨15, _⟩ => ⟨S_, .i32⟩
  | .hbm, ⟨16, _⟩ => ⟨S6x128, .i32⟩
  | .hbm, ⟨17, _⟩ => ⟨S6x128, .i32⟩
  | .hbm, ⟨18, _⟩ => ⟨S6x128, .i32⟩
  | .hbm, ⟨19, _⟩ => ⟨S6x128x1, .i32⟩
  | .hbm, ⟨20, _⟩ => ⟨S6x128x1024, .f32⟩
  | .hbm, ⟨21, _⟩ => ⟨S6x128x1024, .f32⟩
  | .hbm, ⟨22, _⟩ => ⟨S6x128x1024, .f32⟩
  | .hbm, ⟨23, _⟩ => ⟨S_, .f32⟩
  | .hbm, ⟨24, _⟩ => ⟨S128x1024, .f32⟩
  | .hbm, ⟨25, _⟩ => ⟨S1024x256, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S_, .f32⟩
  | .hbm, ⟨33, _⟩ => ⟨S128x256, .f32⟩
  | .hbm, ⟨34, _⟩ => ⟨S128x256, .f32⟩
  | .hbm, ⟨35, _⟩ => ⟨S128x256, .f32⟩
  | .hbm, ⟨36, _⟩ => ⟨S1024x256, .f32⟩
  | .hbm, ⟨37, _⟩ => ⟨S128x256, .f32⟩
  | .hbm, ⟨38, _⟩ => ⟨S128x256, .f32⟩
  | .hbm, ⟨39, _⟩ => ⟨S256x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128, .f32⟩
  | .hbm, ⟨48, _⟩ => ⟨S128x1, .f32⟩
  | .hbm, ⟨49, _⟩ => ⟨S_, .f32⟩
  | .hbm, ⟨50, _⟩ => ⟨S128x1, .f32⟩
  | .hbm, ⟨51, _⟩ => ⟨S128x1, .f32⟩
  | .hbm, ⟨52, _⟩ => ⟨S128x1024, .f32⟩
  | .hbm, ⟨53, _⟩ => ⟨S128x1024, .f32⟩
  | .hbm, ⟨54, _⟩ => ⟨S128x1024, .f32⟩
  | .hbm, ⟨55, _⟩ => ⟨S_, .f32⟩
  | .hbm, ⟨56, _⟩ => ⟨S128, .f32⟩
  | .hbm, ⟨57, _⟩ => ⟨S128x1, .f32⟩
  | .hbm, ⟨58, _⟩ => ⟨S_, .f32⟩
  | .hbm, ⟨59, _⟩ => ⟨S128x1, .f32⟩
  | .hbm, ⟨60, _⟩ => ⟨S128x1, .f32⟩
  | .hbm, ⟨61, _⟩ => ⟨S_, .f32⟩
  | .hbm, ⟨62, _⟩ => ⟨S128x1, .f32⟩
  | .hbm, ⟨63, _⟩ => ⟨S128x1, .f32⟩
  | .hbm, ⟨64, _⟩ => ⟨S128x1, .f32⟩
  | .hbm, ⟨65, _⟩ => ⟨S128x1024, .f32⟩
  | .hbm, ⟨66, _⟩ => ⟨S128x1024, .f32⟩
  | .hbm, ⟨67, _⟩ => ⟨S1024, .f32⟩
  | .hbm, ⟨68, _⟩ => ⟨S1x1024, .f32⟩
  | .hbm, ⟨69, _⟩ => ⟨S128x1024, .f32⟩
  | .hbm, ⟨70, _⟩ => ⟨S128x1024, .f32⟩
  | .hbm, ⟨71, _⟩ => ⟨S1024, .f32⟩
  | .hbm, ⟨72, _⟩ => ⟨S1x1024, .f32⟩
  | .hbm, ⟨73, _⟩ => ⟨S128x1024, .f32⟩
  | .hbm, ⟨74, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩

abbrev nD : Nat := 1
abbrev τ : Topo := Topo.v7x

variable {F : FTy → Type} [FloatOps F]
-- ==== Proof.Proj.Array.lean ====
/- The projection kernel's result array: every entry is the inner product of a row of the flattened tokens with a column of
   the reordered weights, whichever block of the grid wrote it. -/
module

public import proofs.«01_k».proof.Proof.Gen.ProjIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- The matrix product of the flattened tokens and the reordered weights, entry by entry. -/
def prod (X : FVec Ideal S16384x1024 .f32) (W : FVec Ideal S1024x8064 .bf16) : FVec Ideal S16384x8064 .f32 :=
  fun i => ∑ k : Fin 1024, X (ix2 (i 0) k) * W (ix2 k (i 1))

/-- Where each window's block lies at a grid point: the rows go with the inner coordinate, the columns with the outer. -/
theorem idx : ∀ t : Fin cfg0.N, win0_0.index t = ![(grid0.coords t 1).val, 0]
    ∧ win0_1.index t = ![0, (grid0.coords t 0).val] ∧ win0_2.index t = ![(grid0.coords t 1).val, (grid0.coords t 0).val] :=
  (by decide +kernel : ∀ t : Fin grid0.N, _)

/-- What the body stores at a place of its block is the product's entry at the place of the array where it lies. -/
theorem point (c : Dev nD) (t : Fin cfg0.N) (y) : k0_pay1 (iblk m c 0 t) (iblk m c 1 t) y
    = prod (V m c main_v14) (V m c main_v13) (((cfg0.win 2).blk t).view.emb y) := by
  pointwise [k0_pay1, prod]
  blk_point [iblk, V, idx t]

/-- The array after the run is the product. -/
theorem final (c : Dev nD) : (dats m 0 c).arrAt 2 (cfgs 0).N = prod (V m c main_v14) (V m c main_v13) := by
  refine (dats m 0 c).arrAt_eq_of_covers 2 _ (by decide +kernel) fun t _ y => ?_
  blk_simp
  rw [after0_2]; frame_out
  exact point m c t y

end Cert.ProjIdeal.Value

end
-- ==== Proof.Proj.Tail.lean ====
/- The projection kernel's five results, and the operands of its call, as composed terms of the host operations around it. -/
module

public import proofs.«01_k».proof.Proof.Proj.Array

@[expose] public section

set_option maxRecDepth 16384

noncomputable section

open Idealize.ShloMosaic Idealize.ShloMosaic.TcCoe Idealize.SL.Sem Idealize.ShloMosaic.StableHlo
open Idealize.ShloMosaic.Pipeline (Dat)

namespace Cert.ProjIdeal.Value

open Cert.ProjIdeal Cert.ProjIdeal.Gen

variable (m : (ℓ : Loc nD τ sig) → Buf (Elt Ideal) ℓ)

/-- The flattened tokens, as the call finds them. -/
theorem V_tokens (c : Dev nD) : V m c main_v14
    = shapeCast S16384x1024 (m ((c : Thread nD τ).loc main_arg0)) shapeCasts_S4x4096x1024_S16384x1024 := by
  show after hostOps0 (fun b => m (c, b)) (Proc.devRef .tc main_v14) = _
  after_results <;> rfl

/-- The weights with their columns reordered and padded. -/
def wcols (w : FVec Ideal S1x1024x8000 .f32) : FVec Ideal S1024x8064 .bf16 :=
  have v0 : FVec Ideal S1024x8000 .f32 := shapeCast S1024x8000 w shapeCasts_S1x1024x8000_S1024x8000
  truncf .bf16 (concatenate S1024x8064 1
    [⟨S1024x3072, extractStridedSlice S1024x3072 ![0, 0] v0 slices_S1024x8000_S1024x3072_0_0⟩,
     ⟨S1024x1024, extractStridedSlice S1024x1024 ![0, 3072] v0 slices_S1024x8000_S1024x1024_0_3072⟩,
     ⟨S1024x1024, extractStridedSlice S1024x1024 ![0, 4112] v0 slices_S1024x8000_S1024x1024_0_4112⟩,
     ⟨S1024x2048, extractStridedSlice S1024x2048 ![0, 5952] v0 slices_S1024x8000_S1024x2048_0_5952⟩,
     ⟨S1024x256, extractStridedSlice S1024x256 ![0, 5136] v0 slices_S1024x8000_S1024x256_0_5136⟩,
     ⟨S1024x256, extractStridedSlice S1024x256 ![0, 5392] v0 slices_S1024x8000_S1024x256_0_5392⟩,
     ⟨S1024x256, extractStridedSlice S1024x256 ![0, 5648] v0 slices_S1024x8000_S1024x256_0_5648⟩,
     ⟨S1024x8, extractStridedSlice S1024x8 ![0, 4096] v0 slices_S1024x8000_S1024x8_0_4096⟩,
     ⟨S1024x8, extractStridedSlice S1024x8 ![0, 4104] v0 slices_S1024x8000_S1024x8_0_4104⟩,
     ⟨S1024x48, extractStridedSlice S1024x48 ![0, 5904] v0 slices_S1024x8000_S1024x48_0_5904⟩,
     ⟨S1024x64, broadcastInDim S1024x64 ![] bcast_S_S1024x64 (constant S_ .f32 0x00000000#32)⟩]
    concatenates_S1024x3072_S1024x1024_S1024x1024_S1024x2048_S1024x256_S1024x256_S1024x256_S1024x8_S1024x8_S1024x48_S1024x64_S1024x8064_d1) bitsLt_bf16_f32

/-- They are what the call finds as its second operand. -/
theorem V_weights (c : Dev nD) : V m c main_v13 = wcols (m ((c : Thread nD τ).loc main_arg1)) := by
  show after hostOps0 (fun b => m (c, b)) (Proc.devRef .tc main_v13) = _
  after_results <;> rfl

/-- The buffers once the host operations after the call have run. -/
abbrev W (c : Dev nD) (b : Ref sig .tc) : Buf (Elt Ideal) ((c : Thread nD τ).loc b) :=
  Pipeline.afterTail₀ cfgs (dats m) 0 (V0 m) [hostOps1] c b

/-- The product as the three-axis array. -/
abbrev p3 (P : FVec Ideal S16384x8064 .f32) : FVec Ideal S4x4096x8064 .f32 := shapeCast S4x4096x8064 P shapeCasts_S16384x8064_S4x4096x8064

variable (U : Valuation τ sig (Elt Ideal))

theorem tail0 : after hostOps1 U (Proc.devRef .tc main_v16) = p3 (U (Proc.devRef .tc main_v15)) := by
  after_results <;> rfl
theorem tail1 : after hostOps1 U (Proc.devRef .tc main_v23)
    = broadcastInDim S1x4x4096x2x2x64 ![1, 2, 3, 4, 5] bcast_S4x4096x2x2x64_S1x4x4096x2x2x64_1_2_3_4_5
        (shapeCast S4x4096x2x2x64 (extractStridedSlice S4x4096x256 ![0, 0, 7168] (p3 (U (Proc.devRef .tc main_v15))) slices_S4x4096x8064_S4x4096x256_0_0_7168) shapeCasts_S4x4096x256_S4x4096x2x2x64) := by
  after_results <;> rfl
theorem tail2 : after hostOps1 U (Proc.devRef .tc main_v26)
    = broadcastInDim S1x4x4096x2x2x64 ![1, 2, 3, 4, 5] bcast_S4x4096x2x2x64_S1x4x4096x2x2x64_1_2_3_4_5
        (shapeCast S4x4096x2x2x64 (extractStridedSlice S4x4096x256 ![0, 0, 7424] (p3 (U (Proc.devRef .tc main_v15))) slices_S4x4096x8064_S4x4096x256_0_0_7424) shapeCasts_S4x4096x256_S4x4096x2x2x64) := by
  after_results <;> rfl
theorem tail3 : after hostOps1 U (Proc.devRef .tc main_v30)
    = broadcastInDim S1x4x512x2x2x64 ![1, 2, 3, 4, 5] bcast_S4x512x2x2x64_S1x4x512x2x2x64_1_2_3_4_5
        (extractStridedSlice S4x512x2x2x64 ![0, 3584, 0, 0, 0] (shapeCast S4x4096x2x2x64 (extractStridedSlice S4x4096x256 ![0, 0, 7680] (p3 (U (Proc.devRef .tc main_v15))) slices_S4x4096x8064_S4x4096x256_0_0_7680) shapeCasts_S4x4096x256_S4x4096x2x2x64) slices_S4x4096x2x2x64_S4x512x2x2x64_0_3584_0_0_0) := by
  after_results <;> rfl
theorem tail4 : after hostOps1 U (Proc.devRef .tc main_v31)
    = broadcastInDim S1x4x3x3072 ![1, 2, 3] bcast_S4x3x3072_S1x4x3x3072_1_2_3
        (extractStridedSlice S4x3x3072 ![0, 4096, 0] (concatenate S4x4099x3072 1 [⟨S4x3x3072, broadcastInDim S4x3x3072 ![] bcast_S_S4x3x3072 (constant S_ .f32 0x00000000#32)⟩,
          ⟨S4x4096x3072, extractStridedSlice S4x4096x3072 ![0, 0, 0] (p3 (U (Proc.devRef .tc main_v15))) slices_S4x4096x8064_S4x4096x3072_0_0_0⟩] concatenates_S4x3x3072_S4x4096x3072_S4x4099x3072_d1) slices_S4x4099x3072_S4x3x3072_0_4096_0) := by
  after_results <;> rfl

/-- The call's result as the later host operations find it. -/
theorem entry (c : Dev nD) : Pipeline.withArrays spec0 c (V0 m c) (fun w => (dats m 0 c).arrAt w (cfgs 0).N) (Proc.devRef .tc main_v15)
    = prod (V m c main_v14) (V m c main_v13) :=
  (Pipeline.withArrays_arr spec0 launch0.win.arr_inj c (V0 m c) _ 2).trans (final m c)

end Cert.ProjIdeal.Value

end
-- ==== Proof.Proj.Equation.lean ====
/- The projection: the kernel's product with the reordered weights, read at an index, against the reference's reordered product. -/
module

public import proofs.«01_k».proof.Proof.Proj.Tail
public import proofs.«01_k».proof.Proof.Gen.ProjRefIdeal.Run

@[expose] public section

set_option maxRecDepth 16384

noncomputable section

open Idealize.ShloMosaic Idealize.ShloMosaic.TcCoe Idealize.SL.Sem Idealize.ShloMosaic.StableHlo

namespace Cert.ProjIdeal.Value

open Cert.ProjIdeal Cert.ProjIdeal.Gen

/-- The kernel's product, from its arguments. -/
abbrev P (x : FVec Ideal S4x4096x1024 .f32) (w : FVec Ideal S1x1024x8000 .f32) : FVec Ideal S16384x8064 .f32 :=
  prod (shapeCast S16384x1024 x shapeCasts_S4x4096x1024_S16384x1024) (wcols w)

/-- The kernel's product as a three-axis array, entry by entry. -/
theorem p3_apply (x : FVec Ideal S4x4096x1024 .f32) (w : FVec Ideal S1x1024x8000 .f32) (b : Fin 4) (t : Fin 4096) (j : Fin 8064) :
    p3 (P x w) (ix3 b t j) = ∑ k : Fin 1024, x (ix3 b t k) * wcols w (ix2 k j) := by
  pointwise [prod]

end Cert.ProjIdeal.Value

namespace Cert.ProjRefIdeal.Value
open Cert.ProjRefIdeal Cert.ProjRefIdeal.Gen
/-- The reference's projection before its columns are reordered. -/
abbrev q (x : FVec Ideal S4x4096x1024 .f32) (w : FVec Ideal S1x1024x8000 .f32) : FVec Ideal S4x4096x8000 .f32 :=
  Host.dotGeneral dot_S4x4096x1024_S1024x8000_S4x4096x8000_2_0_01_1_n_n none x (shapeCast S1024x8000 w shapeCasts_S1x1024x8000_S1024x8000)

/-- … entry by entry. -/
theorem q_apply (x : FVec Ideal S4x4096x1024 .f32) (w : FVec Ideal S1x1024x8000 .f32) (b : Fin 4) (t : Fin 4096) (j : Fin 8000) :
    q x w (ix3 b t j) = ∑ k : Fin 1024, x (ix3 b t k) * w (ix3 0 k j) := by
  pointwise

/-- An array's columns in the order of the kernel's result, with zeros behind them. -/
def reordered (Q : FVec Ideal S4x4096x8000 .f32) : FVec Ideal S4x4096x8064 .f32 :=
  concatenate S4x4096x8064 2
    [⟨S4x4096x3072, extractStridedSlice S4x4096x3072 ![0, 0, 0] Q slices_S4x4096x8000_S4x4096x3072_0_0_0⟩,
     ⟨S4x4096x1024, extractStridedSlice S4x4096x1024 ![0, 0, 3072] Q slices_S4x4096x8000_S4x4096x1024_0_0_3072⟩,
     ⟨S4x4096x1024, extractStridedSlice S4x4096x1024 ![0, 0, 4112] Q slices_S4x4096x8000_S4x4096x1024_0_0_4112⟩,
     ⟨S4x4096x2048, extractStridedSlice S4x4096x2048 ![0, 0, 5952] Q slices_S4x4096x8000_S4x4096x2048_0_0_5952⟩,
     ⟨S4x4096x256, extractStridedSlice S4x4096x256 ![0, 0, 5136] Q slices_S4x4096x8000_S4x4096x256_0_0_5136⟩,
     ⟨S4x4096x256, extractStridedSlice S4x4096x256 ![0, 0, 5392] Q slices_S4x4096x8000_S4x4096x256_0_0_5392⟩,
     ⟨S4x4096x256, extractStridedSlice S4x4096x256 ![0, 0, 5648] Q slices_S4x4096x8000_S4x4096x256_0_0_5648⟩,
     ⟨S4x4096x8, extractStridedSlice S4x4096x8 ![0, 0, 4096] Q slices_S4x4096x8000_S4x4096x8_0_0_4096⟩,
     ⟨S4x4096x8, extractStridedSlice S4x4096x8 ![0, 0, 4104] Q slices_S4x4096x8000_S4x4096x8_0_0_4104⟩,
     ⟨S4x4096x48, extractStridedSlice S4x4096x48 ![0, 0, 5904] Q slices_S4x4096x8000_S4x4096x48_0_0_5904⟩,
     ⟨S4x4096x64, broadcastInDim S4x4096x64 ![] bcast_S_S4x4096x64 (constant S_ .f32 0x00000000#32)⟩]
    concatenates_S4x4096x3072_S4x4096x1024_S4x4096x1024_S4x4096x2048_S4x4096x256_S4x4096x256_S4x4096x256_S4x4096x8_S4x4096x8_S4x4096x48_S4x4096x64_S4x4096x8064_d2

/-- … entry by entry. -/
theorem reordered_apply (Q : FVec Ideal S4x4096x8000 .f32) (b : Fin 4) (t : Fin 4096) (j : Fin 8064) : reordered Q (ix3 b t j) =
    if h : j.val < 3072 then Q (ix3 b t ⟨j.val, by omega⟩)
    else if h : j.val - 3072 < 1024 then Q (ix3 b t ⟨3072 + (j.val - 3072), by omega⟩)
    else if h : j.val - 3072 - 1024 < 1024 then Q (ix3 b t ⟨4112 + (j.val - 3072 - 1024), by omega⟩)
    else if h : j.val - 3072 - 1024 - 1024 < 2048 then Q (ix3 b t ⟨5952 + (j.val - 3072 - 1024 - 1024), by omega⟩)
    else if h : j.val - 3072 - 1024 - 1024 - 2048 < 256 then Q (ix3 b t ⟨5136 + (j.val - 3072 - 1024 - 1024 - 2048), by omega⟩)
    else if h : j.val - 3072 - 1024 - 1024 - 2048 - 256 < 256 then Q (ix3 b t ⟨5392 + (j.val - 3072 - 1024 - 1024 - 2048 - 256), by omega⟩)
    else if h : j.val - 3072 - 1024 - 1024 - 2048 - 256 - 256 < 256 then Q (ix3 b t ⟨5648 + (j.val - 3072 - 1024 - 1024 - 2048 - 256 - 256), by omega⟩)
    else if h : j.val - 3072 - 1024 - 1024 - 2048 - 256 - 256 - 256 < 8 then Q (ix3 b t ⟨4096 + (j.val - 3072 - 1024 - 1024 - 2048 - 256 - 256 - 256), by omega⟩)
    else if h : j.val - 3072 - 1024 - 1024 - 2048 - 256 - 256 - 256 - 8 < 8 then Q (ix3 b t ⟨4104 + (j.val - 3072 - 1024 - 1024 - 2048 - 256 - 256 - 256 - 8), by omega⟩)
    else if h : j.val - 3072 - 1024 - 1024 - 2048 - 256 - 256 - 256 - 8 - 8 < 48 then Q (ix3 b t ⟨5904 + (j.val - 3072 - 1024 - 1024 - 2048 - 256 - 256 - 256 - 8 - 8), by omega⟩)
    else 0 := by
  pointwise [reordered]

end Cert.ProjRefIdeal.Value

namespace Cert.ProjIdeal.Value
open Cert.ProjIdeal Cert.ProjIdeal.Gen
open Cert.ProjRefIdeal.Value (res_main_v13 q q_apply reordered reordered_apply)

variable (m' : (ℓ : Loc Cert.ProjRefIdeal.nD Cert.ProjRefIdeal.τ Cert.ProjRefIdeal.sig) → Buf (Elt Ideal) ℓ)
variable (x : FVec Ideal S4x4096x1024 .f32) (w : FVec Ideal S1x1024x8000 .f32)

/-- A sum of products whose second factor is chosen by a condition that does not mention the index is the sum so chosen. -/
theorem sum_dite {c : Prop} [Decidable c] {n : ℕ} (a : Fin n → EReal) (f : c → Fin n → EReal) (g : ¬c → Fin n → EReal) (R : ¬c → EReal)
    (hR : ∀ h, ∑ k, a k * g h k = R h) :
    (∑ k, a k * if h : c then f h k else g h k) = if h : c then ∑ k, a k * f h k else R h := by
  by_cases h : c
  · simp only [dif_pos h]
  · simp only [dif_neg h]; exact hR h

/-- A column of the reordered weights: which column of the given weights it is, or zero. -/
theorem wcols_apply (k : Fin 1024) (j : Fin 8064) : wcols w (ix2 k j) =
    if h : j.val < 3072 then w (ix3 0 k ⟨j.val, by omega⟩)
    else if h : j.val - 3072 < 1024 then w (ix3 0 k ⟨3072 + (j.val - 3072), by omega⟩)
    else if h : j.val - 3072 - 1024 < 1024 then w (ix3 0 k ⟨4112 + (j.val - 3072 - 1024), by omega⟩)
    else if h : j.val - 3072 - 1024 - 1024 < 2048 then w (ix3 0 k ⟨5952 + (j.val - 3072 - 1024 - 1024), by omega⟩)
    else if h : j.val - 3072 - 1024 - 1024 - 2048 < 256 then w (ix3 0 k ⟨5136 + (j.val - 3072 - 1024 - 1024 - 2048), by omega⟩)
    else if h : j.val - 3072 - 1024 - 1024 - 2048 - 256 < 256 then w (ix3 0 k ⟨5392 + (j.val - 3072 - 1024 - 1024 - 2048 - 256), by omega⟩)
    else if h : j.val - 3072 - 1024 - 1024 - 2048 - 256 - 256 < 256 then w (ix3 0 k ⟨5648 + (j.val - 3072 - 1024 - 1024 - 2048 - 256 - 256), by omega⟩)
    else if h : j.val - 3072 - 1024 - 1024 - 2048 - 256 - 256 - 256 < 8 then w (ix3 0 k ⟨4096 + (j.val - 3072 - 1024 - 1024 - 2048 - 256 - 256 - 256), by omega⟩)
    else if h : j.val - 3072 - 1024 - 1024 - 2048 - 256 - 256 - 256 - 8 < 8 then w (ix3 0 k ⟨4104 + (j.val - 3072 - 1024 - 1024 - 2048 - 256 - 256 - 256 - 8), by omega⟩)
    else if h : j.val - 3072 - 1024 - 1024 - 2048 - 256 - 256 - 256 - 8 - 8 < 48 then w (ix3 0 k ⟨5904 + (j.val - 3072 - 1024 - 1024 - 2048 - 256 - 256 - 256 - 8 - 8), by omega⟩)
    else 0 := by
  pointwise [wcols]

/-- The whole projection: reordering the weights' columns before the product is reordering the product's. -/
theorem eq0 (c : Dev Cert.ProjRefIdeal.nD) (hx : m' ((c.tc : Thread Cert.ProjRefIdeal.nD Cert.ProjRefIdeal.τ).loc Cert.ProjRefIdeal.main_arg0) = x)
    (hw : m' ((c.tc : Thread Cert.ProjRefIdeal.nD Cert.ProjRefIdeal.τ).loc Cert.ProjRefIdeal.main_arg1) = w) :
    p3 (P x w) = res_main_v13 m' c := by
  have hR : res_main_v13 m' c = reordered (q x w) := by subst hx hw; rfl
  rw [hR]
  funext i
  obtain ⟨b, t, j, rfl⟩ : ∃ b t j, i = ix3 b t j := ⟨i 0, i 1, i 2, by funext a; fin_cases a <;> rfl⟩
  rw [p3_apply, reordered_apply]
  simp only [wcols_apply, q_apply]
  iterate 10 refine sum_dite _ _ _ _ fun h => ?_
  exact Finset.sum_eq_zero fun k _ => mul_zero _

/-- The columns of the convolved channels stay where they are. -/
theorem wcols_qkv (k : Fin 1024) (n : ℕ) (hn : n < 3072) :
    wcols w (ix2 k ⟨n, by omega⟩) = w (ix3 0 k ⟨n, by omega⟩) := by
  pointwise [wcols]
  rw [dif_pos hn]

/-- The columns of the compressed keys and values. -/
theorem wcols_kvc (k : Fin 1024) (j : Fin 8064) (j' : Fin 8000) (hj : 7168 ≤ j.val ∧ j.val < 7424) (e : j'.val + 2032 = j.val) :
    wcols w (ix2 k j) = w (ix3 0 k j') := by
  obtain ⟨p, hp⟩ := j
  dsimp only at hj e
  refine (wcols_apply w k _).trans ?_
  dsimp only
  simp only [dif_neg (show ¬p < 3072 by omega), dif_neg (show ¬p - 3072 < 1024 by omega), dif_neg (show ¬p - 3072 - 1024 < 1024 by omega),
    dif_neg (show ¬p - 3072 - 1024 - 1024 < 2048 by omega), dif_pos (show p - 3072 - 1024 - 1024 - 2048 < 256 by omega)]
  exact congrArg (fun j => w (ix3 0 k j)) (Fin.ext (by dsimp only; omega))

/-- The columns of the selected keys and values. -/
theorem wcols_kvs (k : Fin 1024) (j : Fin 8064) (j' : Fin 8000) (hj : 7424 ≤ j.val ∧ j.val < 7680) (e : j'.val + 2032 = j.val) :
    wcols w (ix2 k j) = w (ix3 0 k j') := by
  obtain ⟨p, hp⟩ := j
  dsimp only at hj e
  refine (wcols_apply w k _).trans ?_
  dsimp only
  simp only [dif_neg (show ¬p < 3072 by omega), dif_neg (show ¬p - 3072 < 1024 by omega), dif_neg (show ¬p - 3072 - 1024 < 1024 by omega),
    dif_neg (show ¬p - 3072 - 1024 - 1024 < 2048 by omega), dif_neg (show ¬p - 3072 - 1024 - 1024 - 2048 < 256 by omega), dif_pos (show p - 3072 - 1024 - 1024 - 2048 - 256 < 256 by omega)]
  exact congrArg (fun j => w (ix3 0 k j)) (Fin.ext (by dsimp only; omega))

/-- The columns of the windowed keys and values. -/
theorem wcols_kvw (k : Fin 1024) (j : Fin 8064) (j' : Fin 8000) (hj : 7680 ≤ j.val ∧ j.val < 7936) (e : j'.val + 2032 = j.val) :
    wcols w (ix2 k j) = w (ix3 0 k j') := by
  obtain ⟨p, hp⟩ := j
  dsimp only at hj e
  refine (wcols_apply w k _).trans ?_
  dsimp only
  simp only [dif_neg (show ¬p < 3072 by omega), dif_neg (show ¬p - 3072 < 1024 by omega), dif_neg (show ¬p - 3072 - 1024 < 1024 by omega),
    dif_neg (show ¬p - 3072 - 1024 - 1024 < 2048 by omega), dif_neg (show ¬p - 3072 - 1024 - 1024 - 2048 < 256 by omega), dif_neg (show ¬p - 3072 - 1024 - 1024 - 2048 - 256 < 256 by omega), dif_pos (show p - 3072 - 1024 - 1024 - 2048 - 256 - 256 < 256 by omega)]
  exact congrArg (fun j => w (ix3 0 k j)) (Fin.ext (by dsimp only; omega))

/-- The compressed keys and values. -/
theorem eq1 : broadcastInDim S1x4x4096x2x2x64 ![1, 2, 3, 4, 5] bcast_S4x4096x2x2x64_S1x4x4096x2x2x64_1_2_3_4_5
        (shapeCast S4x4096x2x2x64 (extractStridedSlice S4x4096x256 ![0, 0, 7168] (p3 (P x w)) slices_S4x4096x8064_S4x4096x256_0_0_7168) shapeCasts_S4x4096x256_S4x4096x2x2x64)
    = broadcastInDim S1x4x4096x2x2x64 ![1, 2, 3, 4, 5] bcast_S4x4096x2x2x64_S1x4x4096x2x2x64_1_2_3_4_5
        (shapeCast S4x4096x2x2x64 (extractStridedSlice S4x4096x256 ![0, 0, 5136] (q x w) Cert.ProjRefIdeal.Gen.slices_S4x4096x8000_S4x4096x256_0_0_5136) shapeCasts_S4x4096x256_S4x4096x2x2x64) := by
  funext i
  pointwise [prod]
  refine Finset.sum_congr rfl fun k _ => congrArg _ ?_
  exact wcols_kvc w k _ _ (by idx_bounds i; dsimp only; omega) (by dsimp only; omega)

/-- The selected keys and values. -/
theorem eq2 : broadcastInDim S1x4x4096x2x2x64 ![1, 2, 3, 4, 5] bcast_S4x4096x2x2x64_S1x4x4096x2x2x64_1_2_3_4_5
        (shapeCast S4x4096x2x2x64 (extractStridedSlice S4x4096x256 ![0, 0, 7424] (p3 (P x w)) slices_S4x4096x8064_S4x4096x256_0_0_7424) shapeCasts_S4x4096x256_S4x4096x2x2x64)
    = broadcastInDim S1x4x4096x2x2x64 ![1, 2, 3, 4, 5] bcast_S4x4096x2x2x64_S1x4x4096x2x2x64_1_2_3_4_5
        (shapeCast S4x4096x2x2x64 (extractStridedSlice S4x4096x256 ![0, 0, 5392] (q x w) Cert.ProjRefIdeal.Gen.slices_S4x4096x8000_S4x4096x256_0_0_5392) shapeCasts_S4x4096x256_S4x4096x2x2x64) := by
  funext i
  pointwise [prod]
  refine Finset.sum_congr rfl fun k _ => congrArg _ ?_
  exact wcols_kvs w k _ _ (by idx_bounds i; dsimp only; omega) (by dsimp only; omega)

/-- The windowed keys and values of the last 512 tokens. -/
theorem eq3 : broadcastInDim S1x4x512x2x2x64 ![1, 2, 3, 4, 5] bcast_S4x512x2x2x64_S1x4x512x2x2x64_1_2_3_4_5
        (extractStridedSlice S4x512x2x2x64 ![0, 3584, 0, 0, 0] (shapeCast S4x4096x2x2x64 (extractStridedSlice S4x4096x256 ![0, 0, 7680] (p3 (P x w)) slices_S4x4096x8064_S4x4096x256_0_0_7680) shapeCasts_S4x4096x256_S4x4096x2x2x64) slices_S4x4096x2x2x64_S4x512x2x2x64_0_3584_0_0_0)
    = broadcastInDim S1x4x512x2x2x64 ![1, 2, 3, 4, 5] bcast_S4x512x2x2x64_S1x4x512x2x2x64_1_2_3_4_5
        (extractStridedSlice S4x512x2x2x64 ![0, 3584, 0, 0, 0] (shapeCast S4x4096x2x2x64 (extractStridedSlice S4x4096x256 ![0, 0, 5648] (q x w) Cert.ProjRefIdeal.Gen.slices_S4x4096x8000_S4x4096x256_0_0_5648) shapeCasts_S4x4096x256_S4x4096x2x2x64) slices_S4x4096x2x2x64_S4x512x2x2x64_0_3584_0_0_0) := by
  funext i
  pointwise [prod]
  refine Finset.sum_congr rfl fun k _ => congrArg₂ _ ?_ ?_
  · refine congrArg (fun j => x (ix3 (i 1) j k)) (Fin.ext ?_)
    idx_bounds i; dsimp only; omega
  · exact wcols_kvw w k _ _ (by idx_bounds i; dsimp only; omega) (by dsimp only; omega)

/-- The last three rows of the convolved channels, behind three rows of zeros. -/
theorem eq4 : broadcastInDim S1x4x3x3072 ![1, 2, 3] bcast_S4x3x3072_S1x4x3x3072_1_2_3
        (extractStridedSlice S4x3x3072 ![0, 4096, 0] (concatenate S4x4099x3072 1 [⟨S4x3x3072, broadcastInDim S4x3x3072 ![] bcast_S_S4x3x3072 (constant (F := Ideal) S_ .f32 0x00000000#32)⟩,
          ⟨S4x4096x3072, extractStridedSlice S4x4096x3072 ![0, 0, 0] (p3 (P x w)) slices_S4x4096x8064_S4x4096x3072_0_0_0⟩] concatenates_S4x3x3072_S4x4096x3072_S4x4099x3072_d1) slices_S4x4099x3072_S4x3x3072_0_4096_0)
    = broadcastInDim S1x4x3x3072 ![1, 2, 3] bcast_S4x3x3072_S1x4x3x3072_1_2_3
        (extractStridedSlice S4x3x3072 ![0, 4096, 0] (concatenate S4x4099x3072 1 [⟨S4x3x3072, broadcastInDim S4x3x3072 ![] bcast_S_S4x3x3072 (constant (F := Ideal) S_ .f32 0x00000000#32)⟩,
          ⟨S4x4096x3072, extractStridedSlice S4x4096x3072 ![0, 0, 0] (q x w) Cert.ProjRefIdeal.Gen.slices_S4x4096x8000_S4x4096x3072_0_0_0⟩] concatenates_S4x3x3072_S4x4096x3072_S4x4099x3072_d1) slices_S4x4099x3072_S4x3x3072_0_4096_0) := by
  funext i
  pointwise [prod]
  by_cases h : 4096 + (i 2).val < 3
  · rw [dif_pos h, dif_pos h]
  rw [dif_neg h, dif_neg h]
  refine Finset.sum_congr rfl fun k _ => congrArg₂ _ ?_ (wcols_qkv w k _ (i 3).isLt)
  refine congrArg (fun j => x (ix3 (i 1) j k)) (Fin.ext ?_)
  idx_bounds i; dsimp only; omega

end Cert.ProjIdeal.Value

end
-- ==== Proof.Proj.Claim.lean ====
/- The projection's algebraic claim: the kernel's five results are the reference's. -/
module

public import proofs.«01_k».proof.Defs
public import proofs.«01_k».proof.Proof.Proj.Equation

@[expose] public section

set_option maxRecDepth 16384

noncomputable section

open Idealize.ShloMosaic Idealize.ShloMosaic.TcCoe Idealize.SL.Sem Idealize.ShloMosaic.StableHlo

namespace Cert.ProjIdeal.Value

open Cert.ProjIdeal Cert.ProjIdeal.Gen

variable (m : (ℓ : Loc nD τ sig) → Buf (Elt Ideal) ℓ) (ρ : Dev nD → PrngReg)

/-- The call's result, from the kernel's arguments. -/
theorem entry_args (c : Dev nD) : Pipeline.withArrays spec0 c (V0 m c) (fun w => (dats m 0 c).arrAt w (cfgs 0).N) (Proc.devRef .tc main_v15)
    = P (m ((c : Thread nD τ).loc main_arg0)) (m ((c : Thread nD τ).loc main_arg1)) := by
  rw [entry, V_tokens, V_weights]

/-- The kernel's run: each result at its term of the call's result, the arguments unchanged. -/
theorem run : θ_run (defs (F := Ideal)) (onTc (τ := τ) (main (F := Ideal))) ⟨m, fun _ => 0, ρ⟩ fun r => ∀ c : Dev nD,
      (∀ b : Ref sig .tc, b ∈ [main_v16, main_v23, main_v26, main_v30, main_v31] →
        r.2.mem ((c.tc : Thread nD τ).loc b) = after hostOps1 (Pipeline.withArrays spec0 c (V0 m c) fun w => (dats m 0 c).arrAt w (cfgs 0).N) (Proc.devRef .tc b))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨fun b hb => by
      refine ((h c).2 b (Pipeline.mem_restRefs_of b ?_ ?_)).trans rfl
      all_goals revert b; decide,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩)
    (run_main m ρ)

/-- The kernel and the reference compute the same five arrays. -/
theorem claim : Cert.algebraic_ProjIdeal_ProjRefIdeal (hProjIdeal := Cert.ProjIdeal.Gen.facts) (hProjRefIdeal := Cert.ProjRefIdeal.Gen.facts) := by
  intro m g m' g' _ hm
  let U := fun c : Dev nD => Pipeline.withArrays spec0 c (V0 m c) fun w => (dats m 0 c).arrAt w (cfgs 0).N
  refine ⟨fun c => after hostOps1 (U c) (Proc.devRef .tc main_v16), fun c => after hostOps1 (U c) (Proc.devRef .tc main_v23),
    fun c => after hostOps1 (U c) (Proc.devRef .tc main_v26), fun c => after hostOps1 (U c) (Proc.devRef .tc main_v30),
    fun c => after hostOps1 (U c) (Proc.devRef .tc main_v31), ?_, ?_⟩
  · refine (θ_run _ _ _).mono (fun r h c => ?_) (run m g)
    obtain ⟨hb, h0, h1⟩ := h c
    exact ⟨hb _ (by simp), hb _ (by simp), hb _ (by simp), hb _ (by simp), hb _ (by simp), h0, h1⟩
  · refine (θ_run _ _ _).mono (fun r h c => ?_) (Cert.ProjRefIdeal.Value.run m' g')
    obtain ⟨h1, h2, h3, h4, h5, h6, h7⟩ := h c
    obtain ⟨e0, e1⟩ := hm c
    have hU : U c (Proc.devRef .tc main_v15) = P (m ((c : Thread nD τ).loc main_arg0)) (m ((c : Thread nD τ).loc main_arg1)) := entry_args m c
    refine ⟨h1.trans ?_, h2.trans ?_, h3.trans ?_, h4.trans ?_, h5.trans ?_, h6, h7⟩
    · refine ((tail0 (U c)).trans ?_).symm; rw [hU]; exact eq0 m' _ _ c e0 e1
    · refine ((tail1 (U c)).trans ?_).symm; rw [hU, e0, e1]; exact eq1 _ _
    · refine ((tail2 (U c)).trans ?_).symm; rw [hU, e0, e1]; exact eq2 _ _
    · refine ((tail3 (U c)).trans ?_).symm; rw [hU, e0, e1]; exact eq3 _ _
    · refine ((tail4 (U c)).trans ?_).symm; rw [hU, e0, e1]; exact eq4 _ _

end Cert.ProjIdeal.Value

end
-- ==== Proof.Experts.Body.lean ====
/- The body of the expert kernel, run once: what it leaves in the output block and in the three weight scratches. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.ExpertsIdeal.Run

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of the blocks' experts and the number of blocks in use, as the body is handed them. -/
abbrev tbE : Memref sig .tc .smem S256 .i32 := Memref.whole main_arg1
abbrev tbN : Memref sig .tc .smem S1 .i32 := Memref.whole main_arg2

/-- A table held at half the full share. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

/-- The expert of the block of row `k0_off1 i` (the point's own block), as the body loads it from the table. -/
def expertAt (c : Dev nD) (i : grid0.Coords) (be : Buf (Elt F) (tbE.view.loc (c : Thread nD τ))) : BitVec 32 :=
  View.readAt (Elt F) tbE.view (Rect.unit (s := S256) (k0_off1 i) S1.size (k0_off1_inb i)).toLoadRect be (Shape.Idx.first (numel1_S1 ▸ Nat.one_pos))

/-- The expert of the block before (the first block's own for the first), as the body loads it from the table. -/
def expertBefore (c : Dev nD) (i : grid0.Coords) (be : Buf (Elt F) (tbE.view.loc (c : Thread nD τ))) : BitVec 32 :=
  View.readAt (Elt F) tbE.view (Rect.unit (s := S256) (k0_off2 i) S1.size (k0_off2_inb i)).toLoadRect be (Shape.Idx.first (numel1_S1 ▸ Nat.one_pos))

/-- Whether the body copies the weights into its scratches: at the first block, and where the expert changes. -/
def reload (c : Dev nD) (i : grid0.Coords) (be : Buf (Elt F) (tbE.view.loc (c : Thread nD τ))) : BitVec 1 :=
  Scalar.cmpi .ne (Scalar.extui (Scalar.ori (Scalar.cmpi .eq (BitVec.ofNat 32 (i 0).val) 0#32) (Scalar.cmpi .ne (expertAt c i be) (expertBefore c i be))) : BitVec 32) 0#32

/-- The number of blocks in use, as the body loads it from its table. -/
def usedBlocks (c : Dev nD) (nu : Buf (Elt F) (tbN.view.loc (c : Thread nD τ))) : BitVec 32 :=
  View.readAt (Elt F) tbN.view (Rect.unit (s := S1) ![0] S1.size inb_S1_S1_0).toLoadRect nu (Shape.Idx.first (numel1_S1 ▸ Nat.one_pos))

/-- The two conditions the body's stores stand under exclude each other and one of them holds. -/
theorem cond3_iff (i : grid0.Coords) (u : BitVec 32) : k0_cond3 i u = 1#1 ↔ ¬ k0_cond2 i u = 1#1 := by
  unfold k0_cond3 k0_cond2
  simp only [Scalar.cmpi, Scalar.extui, WordCmp.cmpi_slt_eq, WordCmp.cmpi_sge_eq, WordCmp.cmpi_ne_eq]
  generalize BitVec.ofNat 32 (i 0).val = a
  by_cases h : a.toInt < u.toInt
  · have h' : ¬ u.toInt ≤ a.toInt := by omega
    simp [h, h']
  · have h' : u.toInt ≤ a.toInt := by omega
    simp [h, h']

set_option maxHeartbeats 1000000 in
theorem body_run (c : Dev nD) (i : grid0.Coords) (arg3 : Memref sig .tc .vmem S512x512 .i32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole)
    (be : Buf (Elt F) (tbE.view.loc (c : Thread nD τ))) (nu : Buf (Elt F) (tbN.view.loc (c : Thread nD τ)))
    (x0 : Vec F S512x512 .i32) (x1 x2 : Vec F S1x1024x256 .f32) (x3 : Vec F S1x256x1024 .f32)
    (s0 s1 : Vec F S1024x256 .bf16) (s2 : Vec F S256x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ owns (c : Thread nD τ) arg8 fullShare s0 ∗ owns (c : Thread nD τ) arg9 fullShare s1 ∗ owns (c : Thread nD τ) arg10 fullShare s2
        ∗ tbPt c tbE be ∗ tbPt c tbN nu
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if k0_cond2 i (usedBlocks c nu) = 1#1 then
                k0_pay4 x0 (if reload c i be = 1#1 then k0_pay1 x1 else s0) (if reload c i be = 1#1 then k0_pay2 x2 else s1) (if reload c i be = 1#1 then k0_pay3 x3 else s2) else k0_pay5)
            ∗ owns (c : Thread nD τ) arg8 fullShare (if reload c i be = 1#1 then k0_pay1 x1 else s0) ∗ owns (c : Thread nD τ) arg9 fullShare (if reload c i be = 1#1 then k0_pay2 x2 else s1)
            ∗ owns (c : Thread nD τ) arg10 fullShare (if reload c i be = 1#1 then k0_pay3 x3 else s2)
            ∗ tbPt c tbE be ∗ tbPt c tbN nu) -∗ K ⟨⟩))
      ⊢ wp frame (wpE (defs₀ (F := F)) Variants.none c none) E (cc0_moe_experts i tbE (Memref.isWhole_whole _) tbN (Memref.isWhole_whole _) arg3 harg3 arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%g0, %hg0, S0⟩, ⟨%g1, %hg1, S1⟩, ⟨%g2, %hg2, S2⟩, HT0, HT1, Hk⟩
  obtain rfl := harg3.eq_unread hf0; obtain rfl := harg4.eq_unread hf1; obtain rfl := harg5.eq_unread hf2; obtain rfl := harg6.eq_unread hf3
  obtain rfl := harg8.eq_unread hg0; obtain rfl := harg9.eq_unread hg1; obtain rfl := harg10.eq_unread hg2
  sl_exec
  have e1 : (if reload c i be = 1#1 then k0_pay1 x1 else s0) = body_run.sl.v28 c i arg4 harg4 arg8 harg8 be x1 s0 := by
    unfold body_run.sl.v28
    rw [View.readAt_full]
    show _ = View.read (Elt F) arg8.view (if _ : reload c i be = 1#1 then _ else _)
    by_cases h : reload c i be = 1#1
    · rw [if_pos h, dif_pos h, View.read_writes_full, View.readAt_full, hf1]
    · rw [if_neg h, dif_neg h, hg0]
  have e2 : (if reload c i be = 1#1 then k0_pay2 x2 else s1) = body_run.sl.v30 c i arg5 harg5 arg9 harg9 be x2 s1 := by
    unfold body_run.sl.v30
    rw [View.readAt_full]
    show _ = View.read (Elt F) arg9.view (if _ : reload c i be = 1#1 then _ else _)
    by_cases h : reload c i be = 1#1
    · rw [if_pos h, dif_pos h, View.read_writes_full, View.readAt_full, hf2]
    · rw [if_neg h, dif_neg h, hg1]
  have e3 : (if reload c i be = 1#1 then k0_pay3 x3 else s2) = body_run.sl.v42 c i arg6 harg6 arg10 harg10 be x3 s2 := by
    unfold body_run.sl.v42
    rw [View.readAt_full]
    show _ = View.read (Elt F) arg10.view (if _ : reload c i be = 1#1 then _ else _)
    by_cases h : reload c i be = 1#1
    · rw [if_pos h, dif_pos h, View.read_writes_full, View.readAt_full, hf3]
    · rw [if_neg h, dif_neg h, hg2]
  sl_step; iapply Hk
  isplitl [H0]; · iexists _; iframe H0; ipureintro; exact hf0
  isplitl [H1]; · iexists _; iframe H1; ipureintro; exact hf1
  isplitl [H2]; · iexists _; iframe H2; ipureintro; exact hf2
  isplitl [H3]; · iexists _; iframe H3; ipureintro; exact hf3
  isplitl [H4]
  · iexists _; iframe H4; ipureintro
    rw [e1, e2, e3]
    show View.read (Elt F) arg7.view (if _ : k0_cond3 i (usedBlocks c nu) = 1#1 then _ else if _ : k0_cond2 i (usedBlocks c nu) = 1#1 then _ else _) = _
    by_cases h : k0_cond2 i (usedBlocks c nu) = 1#1
    · have h3 : ¬ k0_cond3 i (usedBlocks c nu) = 1#1 := fun e => (cond3_iff _ _).1 e h
      rw [dif_neg h3, dif_pos h, if_pos h, View.read_writes_full, View.readAt_full, hf0]
    · rw [dif_pos ((cond3_iff _ _).2 h), if_neg h, View.read_writes_full]
  isplitl [S0]
  · iexists _; iframe S0; ipureintro
    rw [e1]; unfold body_run.sl.v28; exact (View.readAt_full _ _ _).symm
  isplitl [S1]
  · iexists _; iframe S1; ipureintro
    rw [e2]; unfold body_run.sl.v30; exact (View.readAt_full _ _ _).symm
  isplitl [S2]
  · iexists _; iframe S2; ipureintro
    rw [e3]; unfold body_run.sl.v42; exact (View.readAt_full _ _ _).symm
  iframe HT0 HT1

end Cert.ExpertsIdeal.Run

end
-- ==== Proof.Experts.Run.lean ====
/- The run of the expert kernel under its two tables: the weight scratches hold the current expert's matrices after every
   point, each output block holds what its point stores, and the arguments end as they began. -/
module

public import proofs.«01_k».proof.Proof.Experts.Body
public import Idealize.ShloMosaic.Lib.Claim

@[expose] public section

set_option maxRecDepth 16384

noncomputable section

namespace Cert.ExpertsIdeal.Run

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- Core `c`'s buffers at the region's entry: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents at the region's entry. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block that the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves, table by table. -/
theorem PhiT0_eq (c : Dev nD) : (Pipeline.ΦT pre0 (tbl m) c : sProp 𝕄) = iprop(tbPt c tbE (tbl m 0) ∗ tbPt c tbN (tbl m 1)) := by
  unfold Pipeline.ΦT Pipeline.prefHeld
  exact bigSep_univ_eq_bigSepL [(0 : Fin 2), (1 : Fin 2)] (by decide) (by decide) _

/-- The three weight scratches. -/
abbrev sc0 : Memref sig .tc .vmem S1024x256 .bf16 := Memref.whole cc0_scratch0
abbrev sc1 : Memref sig .tc .vmem S1024x256 .bf16 := Memref.whole cc0_scratch1
abbrev sc2 : Memref sig .tc .vmem S256x1024 .bf16 := Memref.whole cc0_scratch2

/-- The scoped rest: the three scratches at anything, and the generator register. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; rfl

/-! ## The windows' blocks -/

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev ms (hO : Ok m) (w : Fin 5) (t : Fin (cfgM m hO).N) := (spec0 w).stage ((cfgM m hO).slots t w)

/-- The body at point `t`. -/
abbrev bodyAt0 (a : (pcfg0 (F := F)).Adm) (t : Fin (cfg0 a).N) : Prog (TpuEff nD τ sig (Elt F) Λ₀ .tc) PUnit :=
  cc0_moe_experts (grid0.coords t) tbE (Memref.isWhole_whole _) tbN (Memref.isWhole_whole _) (spec0_0.stage ((cfg0 a).slots t 0)) (hstage0_0 (((cfg0 a).slots t 0).cast nbuf0_0))
    (spec0_1.stage ((cfg0 a).slots t 1)) (hstage0_1 (((cfg0 a).slots t 1).cast nbuf0_1)) (spec0_2.stage ((cfg0 a).slots t 2)) (hstage0_2 (((cfg0 a).slots t 2).cast nbuf0_2))
    (spec0_3.stage ((cfg0 a).slots t 3)) (hstage0_3 (((cfg0 a).slots t 3).cast nbuf0_3)) (spec0_4.stage ((cfg0 a).slots t 4)) (hstage0_4 (((cfg0 a).slots t 4).cast nbuf0_4))
    sc0 (Memref.isWhole_whole _) sc1 (Memref.isWhole_whole _) sc2 (Memref.isWhole_whole _)

/-- What the body leaves in the output block of point `t`: the experts' feed-forward of the point's rows where the block is in use, zero where it is not. -/
def oblk (hO : Ok m) (c : Dev nD) (t : Fin (cfgM m hO).N) : FVec F S512x1024 .f32 :=
  if k0_cond2 (grid0.coords t) (usedBlocks c (tbl m 1)) = 1#1 then
    k0_pay4 (iblk m hO c 0 t) (k0_pay1 (iblk m hO c 1 t)) (k0_pay2 (iblk m hO c 2 t)) (k0_pay3 (iblk m hO c 3 t))
  else k0_pay5

/-- What is held between the points: before the first the scratches at anything; after a point the scratches at the matrices of that point's expert; the tables throughout. -/
def PhiS (hO : Ok m) (c : Dev nD) : (n : ℕ) → n ≤ (cfgM m hO).N → sProp 𝕄
  | 0, _ => iprop(Pipeline.ΦA spec0 c ∗ Pipeline.ΦT pre0 (tbl m) c)
  | n + 1, h => iprop(iprop(iprop(owns (c : Thread nD τ) sc0 fullShare (k0_pay1 (iblk m hO c 1 ⟨n, h⟩)) ∗ owns (c : Thread nD τ) sc1 fullShare (k0_pay2 (iblk m hO c 2 ⟨n, h⟩))
      ∗ owns (c : Thread nD τ) sc2 fullShare (k0_pay3 (iblk m hO c 3 ⟨n, h⟩))) ∗ (∃ r, prngReg c r)) ∗ Pipeline.ΦT pre0 (tbl m) c)

/-- The pipeline's proof data on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => oblk m hO c t
  Φ t := PhiS m hO c t.val (Nat.le_of_lt_succ t.isLt)
  q _ := fullShare
  owed _ := 0

theorem PhiS_succ (hO : Ok m) (c : Dev nD) (n : ℕ) (h : n < (cfgM m hO).N) :
    PhiS m hO c (n + 1) h = iprop(iprop(iprop(owns (c : Thread nD τ) sc0 fullShare (k0_pay1 (iblk m hO c 1 ⟨n, h⟩)) ∗ owns (c : Thread nD τ) sc1 fullShare (k0_pay2 (iblk m hO c 2 ⟨n, h⟩))
      ∗ owns (c : Thread nD τ) sc2 fullShare (k0_pay3 (iblk m hO c 3 ⟨n, h⟩))) ∗ (∃ r, prngReg c r)) ∗ tbPt c tbE (tbl m 0) ∗ tbPt c tbN (tbl m 1)) := by
  rw [← PhiT0_eq]; rfl

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = oblk m hO c t := by dsimp only [dats]; try rfl

theorem before0_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## Where the expert does not change the blocks do not -/

/-- The row the body compares its own block's expert with is the row of the block before. -/
theorem off2_eq : ∀ t : Fin grid0.N, ∀ h : t.val ≠ 0, k0_off2 (grid0.coords t) = k0_off1 (grid0.coords ⟨t.val - 1, by omega⟩) := by decide +kernel

theorem coord_val : ∀ t : Fin grid0.N, (grid0.coords t 0).val = t.val := by decide +kernel

/-- The expert before is the previous point's expert. -/
theorem expertBefore_eq (c : Dev nD) (be : Buf (Elt F) (tbE.view.loc (c : Thread nD τ))) (t : Fin grid0.N) (h : t.val ≠ 0) :
    expertBefore c (grid0.coords t) be = expertAt c (grid0.coords ⟨t.val - 1, by omega⟩) be := by
  unfold expertBefore expertAt
  have key : ∀ (o o' : Fin 1 → Nat) (h : ∀ a, o a + S1.size a ≤ S256.size a) (h' : ∀ a, o' a + S1.size a ≤ S256.size a), o = o' →
      View.readAt (Elt F) tbE.view (Rect.unit (s := S256) o S1.size h).toLoadRect be (Shape.Idx.first (numel1_S1 ▸ Nat.one_pos))
        = View.readAt (Elt F) tbE.view (Rect.unit (s := S256) o' S1.size h').toLoadRect be (Shape.Idx.first (numel1_S1 ▸ Nat.one_pos)) := by
    intro o o' h h' e; subst e; rfl
  exact key _ _ _ _ (off2_eq t h)

/-- Where the weights are not copied the expert is the previous point's. -/
theorem same_of_not_reload (c : Dev nD) (be : Buf (Elt F) (tbE.view.loc (c : Thread nD τ))) (t : Fin grid0.N) (h : t.val ≠ 0)
    (hr : ¬ reload c (grid0.coords t) be = 1#1) : expertAt c (grid0.coords ⟨t.val - 1, by omega⟩) be = expertAt c (grid0.coords t) be := by
  rw [← expertBefore_eq c be t h]
  by_contra hne
  apply hr
  have hne' : expertAt c (grid0.coords t) be ≠ expertBefore c (grid0.coords t) be := fun e => hne e.symm
  unfold reload
  simp only [Scalar.cmpi, Scalar.extui, Scalar.ori, WordCmp.cmpi_ne_eq, WordCmp.cmpi_eq_eq, WordCmp.ori_ofBool, decide_eq_true hne', Bool.or_true]
  decide

/-- At the first point the weights are copied. -/
theorem reload_zero (c : Dev nD) (be : Buf (Elt F) (tbE.view.loc (c : Thread nD τ))) (t : Fin grid0.N) (h : t.val = 0) :
    reload c (grid0.coords t) be = 1#1 := by
  have e : (grid0.coords t 0).val = 0 := (coord_val t).trans h
  unfold reload
  rw [e]
  simp only [Scalar.cmpi, Scalar.extui, Scalar.ori, WordCmp.cmpi_ne_eq, WordCmp.cmpi_eq_eq, WordCmp.ori_ofBool, decide_true, Bool.true_or]
  decide

/-- Windows 1, 2 and 3 show the matrices of the point's expert. -/
theorem index1 (hO : Ok m) (c : Dev nD) (t : Fin (cfgM m hO).N) : ((cfgM m hO).win 1).index t = ![(expertAt c (grid0.coords t) (tbl m 0)).toNat, 0, 0] := rfl
theorem index2 (hO : Ok m) (c : Dev nD) (t : Fin (cfgM m hO).N) : ((cfgM m hO).win 2).index t = ![(expertAt c (grid0.coords t) (tbl m 0)).toNat, 0, 0] := rfl
theorem index3 (hO : Ok m) (c : Dev nD) (t : Fin (cfgM m hO).N) : ((cfgM m hO).win 3).index t = ![(expertAt c (grid0.coords t) (tbl m 0)).toNat, 0, 0] := rfl

theorem fetched1 (hO : Ok m) (c : Dev nD) (t : Fin (cfgM m hO).N) (d) : (dats m hO 0 c).fetched 1 t d = iblk m hO c 1 t := by
  unfold Dat.fetched Dat.blockOf iblk; rw [A_eq]; try rfl
theorem fetched2 (hO : Ok m) (c : Dev nD) (t : Fin (cfgM m hO).N) (d) : (dats m hO 0 c).fetched 2 t d = iblk m hO c 2 t := by
  unfold Dat.fetched Dat.blockOf iblk; rw [A_eq]; try rfl
theorem fetched3 (hO : Ok m) (c : Dev nD) (t : Fin (cfgM m hO).N) (d) : (dats m hO 0 c).fetched 3 t d = iblk m hO c 3 t := by
  unfold Dat.fetched Dat.blockOf iblk; rw [A_eq]; try rfl

/-- Two points of one expert show the same matrices. -/
theorem iblk1_congr (hO : Ok m) (c : Dev nD) (t t' : Fin (cfgM m hO).N) (h : expertAt c (grid0.coords t) (tbl m 0) = expertAt c (grid0.coords t') (tbl m 0)) :
    (iblk m hO c 1 t : Vec F S1x1024x256 .f32) = iblk m hO c 1 t' := by
  have e := (dats m hO 0 c).fetched_congr 1 (t := t) (t' := t') (by rw [index1 m hO c, index1 m hO c, h]) rfl (iblk m hO c 1 t)
  rwa [fetched1, fetched1] at e
theorem iblk2_congr (hO : Ok m) (c : Dev nD) (t t' : Fin (cfgM m hO).N) (h : expertAt c (grid0.coords t) (tbl m 0) = expertAt c (grid0.coords t') (tbl m 0)) :
    (iblk m hO c 2 t : Vec F S1x1024x256 .f32) = iblk m hO c 2 t' := by
  have e := (dats m hO 0 c).fetched_congr 2 (t := t) (t' := t') (by rw [index2 m hO c, index2 m hO c, h]) rfl (iblk m hO c 2 t)
  rwa [fetched2, fetched2] at e
theorem iblk3_congr (hO : Ok m) (c : Dev nD) (t t' : Fin (cfgM m hO).N) (h : expertAt c (grid0.coords t) (tbl m 0) = expertAt c (grid0.coords t') (tbl m 0)) :
    (iblk m hO c 3 t : Vec F S1x256x1024 .f32) = iblk m hO c 3 t' := by
  have e := (dats m hO 0 c).fetched_congr 3 (t := t) (t' := t') (by rw [index3 m hO c, index3 m hO c, h]) rfl (iblk m hO c 3 t)
  rwa [fetched3, fetched3] at e

/-! ## The body obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms m hO 0 t) fullShare ((dats m hO 0 c).before 0 t d))
    ∗ (∃ d, owns (c : Thread nD τ) (ms m hO 1 t) fullShare ((dats m hO 0 c).before 1 t d))
    ∗ (∃ d, owns (c : Thread nD τ) (ms m hO 2 t) fullShare ((dats m hO 0 c).before 2 t d))
    ∗ (∃ d, owns (c : Thread nD τ) (ms m hO 3 t) fullShare ((dats m hO 0 c).before 3 t d))
    ∗ (∃ d, owns (c : Thread nD τ) (ms m hO 4 t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms m hO 0 t) fullShare ((dats m hO 0 c).after 0 t)
    ∗ owns (c : Thread nD τ) (ms m hO 1 t) fullShare ((dats m hO 0 c).after 1 t)
    ∗ owns (c : Thread nD τ) (ms m hO 2 t) fullShare ((dats m hO 0 c).after 2 t)
    ∗ owns (c : Thread nD τ) (ms m hO 3 t) fullShare ((dats m hO 0 c).after 3 t)
    ∗ owns (c : Thread nD τ) (ms m hO 4 t) fullShare ((dats m hO 0 c).after 4 t))

/-- What is held before point `t` gives the scratches, at contents that are the point's own matrices unless the body copies them. -/
theorem Phi_open (hO : Ok m) (c : Dev nD) (t : Fin (cfgM m hO).N) :
    (dats m hO 0 c).Φ t.castSucc ⊢ iprop(∃ s0 s1 s2, ⌜(if reload c (grid0.coords t) (tbl m 0) = 1#1 then k0_pay1 (iblk m hO c 1 t) else s0) = k0_pay1 (iblk m hO c 1 t)
        ∧ (if reload c (grid0.coords t) (tbl m 0) = 1#1 then k0_pay2 (iblk m hO c 2 t) else s1) = k0_pay2 (iblk m hO c 2 t)
        ∧ (if reload c (grid0.coords t) (tbl m 0) = 1#1 then k0_pay3 (iblk m hO c 3 t) else s2) = k0_pay3 (iblk m hO c 3 t)⌝
      ∗ owns (c : Thread nD τ) sc0 fullShare s0 ∗ owns (c : Thread nD τ) sc1 fullShare s1 ∗ owns (c : Thread nD τ) sc2 fullShare s2
      ∗ (∃ r, prngReg c r) ∗ tbPt c tbE (tbl m 0) ∗ tbPt c tbN (tbl m 1)) := by
  rw [← PhiT0_eq]
  rcases t with ⟨n, hn⟩
  cases n with
  | zero =>
    rw [show (dats m hO 0 c).Φ (Fin.castSucc ⟨0, hn⟩) = iprop(Pipeline.ΦA spec0 c ∗ Pipeline.ΦT pre0 (tbl m) c) from rfl, PhiA0_eq]
    have hr := reload_zero c (tbl m 0) ⟨0, hn⟩ rfl
    iintro ⟨⟨⟨⟨%s0, H0⟩, ⟨%s1, H1⟩, ⟨%s2, H2⟩⟩, Hg⟩, HT⟩
    iexists s0, s1, s2
    isplitr
    · ipureintro; exact ⟨if_pos hr, if_pos hr, if_pos hr⟩
    isplitl [H0]; · iexact H0
    isplitl [H1]; · iexact H1
    isplitl [H2]; · iexact H2
    isplitl [Hg]; · iexact Hg
    iexact HT
  | succ n =>
    rw [show (dats m hO 0 c).Φ (Fin.castSucc ⟨n + 1, hn⟩) = PhiS m hO c (n + 1) (Nat.le_of_lt hn) from rfl]
    unfold PhiS
    iintro ⟨⟨⟨H0, H1, H2⟩, Hg⟩, HT⟩
    iexists _, _, _
    isplitr
    rotate_left
    · isplitl [H0]; · iexact H0
      isplitl [H1]; · iexact H1
      isplitl [H2]; · iexact H2
      isplitl [Hg]; · iexact Hg
      iexact HT
    ipureintro
    by_cases hr : reload c (grid0.coords ⟨n + 1, hn⟩) (tbl m 0) = 1#1
    · exact ⟨if_pos hr, if_pos hr, if_pos hr⟩
    · have he := same_of_not_reload c (tbl m 0) ⟨n + 1, hn⟩ (Nat.succ_ne_zero n) hr
      refine ⟨(if_neg hr).trans (congrArg k0_pay1 (iblk1_congr m hO c _ _ he)), (if_neg hr).trans (congrArg k0_pay2 (iblk2_congr m hO c _ _ he)),
        (if_neg hr).trans (congrArg k0_pay3 (iblk3_congr m hO c _ _ he))⟩

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = PhiS m hO c (t.val + 1) t.isLt from rfl, show (dats m hO 0 c).owesAt () t.succ = (dats m hO 0 c).owesAt () t.castSucc from rfl,
    PhiS_succ, after0_0, after0_1, after0_2, after0_3, after0_4]
  iintro ⟨HΦ, Ho, ⟨%d0, H0⟩, ⟨%d1, H1⟩, ⟨%d2, H2⟩, ⟨%d3, H3⟩, ⟨%d4, H4⟩⟩
  ihave HΦ' := (Phi_open m hO c t) $$ HΦ
  icases HΦ' with ⟨%s0, %s1, %s2, %hs, S0, S1, S2, Hg, HT0, HT1⟩
  obtain ⟨h0, h1, h2⟩ := hs
  iapply (body_run c (grid0.coords t) _ _ _ _ _ _ _ _ _ _ _ _ _ _ _ _ (tbl m 0) (tbl m 1) (iblk m hO c 0 t) (iblk m hO c 1 t) (iblk m hO c 2 t) (iblk m hO c 3 t) s0 s1 s2 Set.univ _)
  isplitl [H0]; · iexact H0
  isplitl [H1]; · iexact H1
  isplitl [H2]; · iexact H2
  isplitl [H3]; · iexact H3
  isplitl [H4]; · iexists _; iexact H4
  isplitl [S0]; · iexact S0
  isplitl [S1]; · iexact S1
  isplitl [S2]; · iexact S2
  isplitl [HT0]; · iexact HT0
  isplitl [HT1]; · iexact HT1
  rw [h0, h1, h2]
  iintro ⟨H0, H1, H2, H3, H4, S0, S1, S2, HT0, HT1⟩
  isplitl [S0 S1 S2 Hg HT0 HT1]
  · isplitl [S0 S1 S2 Hg]
    · isplitl [S0 S1 S2]
      · isplitl [S0]; · iexact S0
        isplitl [S1]; · iexact S1
        iexact S2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- No point leaves the output block unstored: one of the two conditions holds. -/
theorem idle4 (hO : Ok m) (t : Fin (cfgM m hO).N) : (cfgM m hO).idle (4 : Fin 5) ((cfgM m hO).grid.coords t) = false := by
  show (!(k0_cond2 (grid0.coords t) ((tbl m).atD 1 ![0]) == 1#1) && !(k0_cond3 (grid0.coords t) ((tbl m).atD 1 ![0]) == 1#1)) = false
  by_cases h : k0_cond2 (grid0.coords t) ((tbl m).atD 1 ![0]) = 1#1
  · rw [h]; rfl
  · rw [(cond3_iff _ _).2 h]; simp

theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  rw [idle4 m hO t]
  exact .rfl

/-! ## The run and the frame -/

theorem hin (hO : Ok m) (c : Dev nD) : iprop(Pipeline.ΦA spec0 c ∗ Pipeline.ΦT pre0 (tbl m) c) ⊢ (dats m hO 0 c).Φ 0 := .rfl

theorem hout (hO : Ok m) (c : Dev nD) : (dats m hO 0 c).Φ (Fin.last (cfgM m hO).N) ⊢ Pipeline.ΦA spec0 c := by
  rw [show (dats m hO 0 c).Φ (Fin.last (cfgM m hO).N) = PhiS m hO c (255 + 1) (Nat.le_of_eq N_0.symm) from rfl, PhiA0_eq]
  unfold PhiS
  iintro ⟨⟨⟨H0, H1, H2⟩, Hg⟩, HT⟩
  isplitl [H0 H1 H2]
  · isplitl [H0]; · iexists _; iexact H0
    isplitl [H1]; · iexists _; iexact H1
    iexists _; iexact H2
  iexact Hg

set_option backward.isDefEq.respectTransparency.types false in
/-- The run: every array ends at what the proof data names, every other buffer as it began, every semaphore at zero. -/
theorem run_main (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- The arguments end as they began, and the result array at what the proof data names. -/
theorem run_all (hO : Ok m) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v0) = (dats m hO 0 c).arrAt 4 (cfgM m hO).N)
      ∧ r.2.sem = fun _ => 0) :=
  (θ_run defs _ _).mono (fun r h => ⟨fun c => ⟨⟨
      (h.1 c).1 0 |>.trans ((dats m hO 0 c).arrAt_in 0 rfl _),
      ((h.1 c).2 main_arg1 (by decide : main_arg1 ∈ Pipeline.restRefs sig spec0)),
      ((h.1 c).2 main_arg2 (by decide : main_arg2 ∈ Pipeline.restRefs sig spec0)),
      (h.1 c).1 1 |>.trans ((dats m hO 0 c).arrAt_in 1 rfl _),
      (h.1 c).1 2 |>.trans ((dats m hO 0 c).arrAt_in 2 rfl _),
      (h.1 c).1 3 |>.trans ((dats m hO 0 c).arrAt_in 3 rfl _)⟩, (h.1 c).1 4⟩, h.2⟩) (run_main m ρ hO)

end Cert.ExpertsIdeal.Run

end
-- ==== Proof.Experts.Range.lean ====
/- The tables that the precondition admits: every block's expert is one of the 64, so every block that the index maps name
   lies inside its array, whatever the number of blocks in use. -/
module

public import proofs.«01_k».proof.Proof.Experts.Run
public import proofs.«01_k».proof.Proof.Gen.Pre_expert_range
public import Idealize.ShloMosaic.Lib.ReduceAll

@[expose] public section

set_option maxRecDepth 16384

noncomputable section

namespace Cert.ExpertsIdeal.Run

open Cert.ExpertsIdeal.Gen
open Idealize.ShloMosaic Idealize.ShloMosaic.TcCoe
open Idealize.SL Idealize.SL.Sem

variable {F : FTy → Type} [FloatOps F]

/-- A word that is at least 0 and below 64, both signed, is below 64 read unsigned. -/
theorem toNat_lt_of_signed (w : BitVec 32) (h0 : IntOp.cmpi .sge w 0#32 = 1#1) (h1 : IntOp.cmpi .slt w 64#32 = 1#1) : w.toNat < 64 := by
  rw [WordCmp.cmpi_sge_eq, WordCmp.ofBool_decide_eq_one_iff] at h0
  rw [WordCmp.cmpi_slt_eq, WordCmp.ofBool_decide_eq_one_iff] at h1
  have e0 : (0#32).toInt = 0 := by decide
  have e1 : (64#32).toInt = 64 := by decide
  rw [e0] at h0; rw [e1] at h1
  rw [BitVec.toInt_eq_toNat_cond] at h0 h1
  have := w.isLt
  split at h0 <;> omega

/-- Under the precondition every entry of the experts' table is below 64. -/
theorem expert_lt (x0 : IVec S131072x512 32) (be : IVec S256 32) (x2 : IVec S1 32) (x3 x4 : FVec F S64x1024x256 .f32) (x5 : FVec F S64x256x1024 .f32)
    (h : Cert.Pre_expert_range.fn (F := F) x0 be x2 x3 x4 x5 = fun _ => 1#1) (k : S256.Idx) : (be k).toNat < 64 := by
  haveI : Subsingleton Cert.Pre_expert_range.S_.Idx := ⟨fun a b => funext fun i => i.elim0⟩
  have e := Host.reduce_andi_all _ _ _ _ _ (congrFun h (fun i => i.elim0)) k
  obtain ⟨e0, e1⟩ := IntOp.andi_eq_one.1 e
  exact toNat_lt_of_signed _ e0 e1

/-- A row block of the rows' array is inside it, whatever the number of blocks in use. -/
theorem row_lt (i : grid0.Coords) (u : BitVec 32) : (Scalar.maxsi (Scalar.minsi (BitVec.ofNat 32 (i 0).val) (Scalar.subi u 1#32)) 0#32).toNat < 256 := by
  have hi : (i 0).val < 256 := (i 0).isLt
  generalize (i 0).val = n at hi
  generalize Scalar.subi u 1#32 = w
  have hnn : (BitVec.ofNat 32 n).toNat = n := by rw [BitVec.toNat_ofNat]; omega
  have hn : (BitVec.ofNat 32 n).toInt = n := by rw [BitVec.toInt_eq_toNat_of_lt (by omega), hnn]
  have e0 : (0#32).toInt = 0 := by decide
  have hw := w.isLt
  have cw := BitVec.toInt_eq_toNat_cond w
  unfold Scalar.maxsi Scalar.minsi IntOp.maxsi IntOp.minsi
  by_cases h1 : (BitVec.ofNat 32 n).slt w = true
  · rw [if_pos h1]
    split
    · omega
    · exact Nat.zero_lt_succ 255
  · rw [if_neg h1]
    rw [BitVec.slt_iff_toInt_lt, hn] at h1
    split
    · rename_i h2
      rw [BitVec.slt_iff_toInt_lt, e0] at h2
      split at cw <;> omega
    · exact Nat.zero_lt_succ 255

/-- The entry of the experts' table that a grid point reads. -/
def entry (i : grid0.Coords) : S256.Idx :=
  (Rect.unit (s := S256) (k0_off1 i) S1.size (k0_off1_inb i)).emb (Shape.Idx.first (numel1_S1.symm ▸ Nat.one_pos))

/-- The side condition of the tables, from their experts' range. -/
theorem ok_of_lt (pf : pre0.Contents (Elt F)) (h : ∀ k : S256.Idx, (pf 0 k : BitVec 32).toNat < 64) : ok0 pf := by
  refine ⟨fun i => ⟨fun a => ?_, .inl rfl⟩, fun i => ⟨fun a => ?_, .inl rfl⟩, fun i => ⟨fun a => ?_, .inl rfl⟩, fun i => ⟨fun a => ?_, .inl rfl⟩⟩
  · match a with
    | 0 =>
      have := row_lt i (pf.at 1 (Rect.unit (s := S1) ![0] S1.size inb_S1_S1_0) numel1_S1)
      show ((Scalar.maxsi (Scalar.minsi (BitVec.ofNat 32 (i 0).val) (Scalar.subi (pf.at 1 (Rect.unit (s := S1) ![0] S1.size inb_S1_S1_0) numel1_S1) 1#32)) 0#32).toNat + 1) * 512 ≤ 131072
      omega
    | 1 => show (0 + 1) * 512 ≤ 512; omega
  · match a with
    | 0 => have := h (entry i); show ((pf 0 (entry i) : BitVec 32).toNat + 1) * 1 ≤ 64; omega
    | 1 => show (0 + 1) * 1024 ≤ 1024; omega
    | 2 => show (0 + 1) * 256 ≤ 256; omega
  · match a with
    | 0 => have := h (entry i); show ((pf 0 (entry i) : BitVec 32).toNat + 1) * 1 ≤ 64; omega
    | 1 => show (0 + 1) * 1024 ≤ 1024; omega
    | 2 => show (0 + 1) * 256 ≤ 256; omega
  · match a with
    | 0 => have := h (entry i); show ((pf 0 (entry i) : BitVec 32).toNat + 1) * 1 ≤ 64; omega
    | 1 => show (0 + 1) * 256 ≤ 256; omega
    | 2 => show (0 + 1) * 1024 ≤ 1024; omega

/-- The side condition of a launch's tables, from the precondition at its memory. -/
theorem ok_of_pre (m : (ℓ : Loc nD τ sig) → Buf (Elt F) ℓ)
    (h : ∀ c : Dev nD, Cert.Pre_expert_range.fn (F := F) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = fun _ => 1#1) : Ok m :=
  ok_of_lt _ fun k => expert_lt _ _ _ _ _ _ (h 0) k

end Cert.ExpertsIdeal.Run

end
-- ==== Proof.Experts.Feed.lean ====
/- The feed-forward of one row by one expert, over the extended reals: the row unpacked from its words, its products with the
   gate and up matrices, the gated activation, and the product with a column of the down matrix. -/
module

public import Idealize.ShloMosaic.Lib.Pipeline.ValueKit

@[expose] public section

noncomputable section

namespace Cert.Feed

open Idealize.ShloMosaic

/-- The numbers that a row of 512 words packs: the low halves are the first 512, the high halves the rest. -/
def unpack (X : Fin 512 → BitVec 32) (k : Fin 1024) : EReal :=
  if h : k.val < 512 then Ideal.ofBits .f32 (X ⟨k.val, h⟩ <<< 16#32) else Ideal.ofBits .f32 (IntOp.andi (X ⟨k.val - 512, by omega⟩) 4294901760#32)

/-- The inner product of a row with a column. -/
def dot (x : Fin 1024 → EReal) (w : Fin 1024 → EReal) : EReal := ∑ k, x k * w k

/-- One entry of an expert's output: the activated gate times the up product, against a column of the down matrix. -/
def feed (x : Fin 1024 → EReal) (g u : Fin 1024 → Fin 256 → EReal) (d : Fin 256 → EReal) : EReal :=
  ∑ f, (dot x fun k => g k f) * Ideal.div 1 (1 + Ideal.exp (-(dot x fun k => g k f))) * (dot x fun k => u k f) * d f

theorem shift_eq (u : ArithUnit) (w : BitVec 32) : IntOp.shli u w 16#32 = w <<< 16#32 := by
  unfold IntOp.shli; rw [if_pos (by decide)]

/-- A sum over 1024 in its two halves. -/
theorem sum_halves (a : Fin 1024 → EReal) :
    ∑ k, a k = ∑ j : Fin 512, a ⟨j.val, by omega⟩ + ∑ j : Fin 512, a ⟨512 + j.val, by omega⟩ :=
  Fin.sum_univ_add (a := 512) (b := 512) a

/-- The inner product of an unpacked row, low halves and high halves apart. -/
theorem dot_unpack (u : ArithUnit) (X : Fin 512 → BitVec 32) (w : Fin 1024 → EReal) :
    dot (unpack X) w = ∑ j : Fin 512, Ideal.ofBits .f32 (IntOp.shli u (X j) 16#32) * w ⟨j.val, by omega⟩
      + ∑ j : Fin 512, Ideal.ofBits .f32 (IntOp.andi (X j) 4294901760#32) * w ⟨512 + j.val, by omega⟩ := by
  unfold dot
  rw [sum_halves]
  refine congrArg₂ _ (Finset.sum_congr rfl fun j _ => ?_) (Finset.sum_congr rfl fun j _ => ?_)
  · rw [shift_eq]
    simp only [unpack, dif_pos j.isLt]
  · have h : ¬ (512 + j.val < 512) := by omega
    have e : (⟨512 + j.val - 512, by omega⟩ : Fin 512) = j := Fin.ext (by simp)
    simp only [unpack, dif_neg h, e]

theorem dot_zero (w : Fin 1024 → EReal) : dot (fun _ => 0) w = 0 := by
  unfold dot; simp only [zero_mul, Finset.sum_const_zero]

/-- A row of zeros gives zero. -/
theorem feed_zero (g u : Fin 1024 → Fin 256 → EReal) (d : Fin 256 → EReal) : feed (fun _ => 0) g u d = 0 := by
  unfold feed; simp only [dot_zero, zero_mul, Finset.sum_const_zero]

/-- The routed experts' output: every row of a block in use through the block's expert, zero in the blocks not in use. -/
def routed (x : (⟨2, ![131072, 512]⟩ : Shape).Idx → BitVec 32) (e : Fin 256 → Fin 64) (used : Fin 256 → Prop) [DecidablePred used]
    (wg wu : (⟨3, ![64, 1024, 256]⟩ : Shape).Idx → EReal) (wd : (⟨3, ![64, 256, 1024]⟩ : Shape).Idx → EReal) (r : Fin 131072) (d : Fin 1024) : EReal :=
  if used ⟨r.val / 512, by omega⟩ then
    feed (unpack fun j => x (ix2 r j)) (fun k f => wg (ix3 (e ⟨r.val / 512, by omega⟩) k f)) (fun k f => wu (ix3 (e ⟨r.val / 512, by omega⟩) k f))
      (fun f => wd (ix3 (e ⟨r.val / 512, by omega⟩) f d))
  else 0

end Cert.Feed

end
-- ==== Proof.Experts.Value.lean ====
/- What the experts' kernel leaves in its result: every entry is the routed feed-forward. -/
module

public import proofs.«01_k».proof.Proof.Experts.Range
public import proofs.«01_k».proof.Proof.Experts.Feed
public import Idealize.ShloMosaic.Lib.Pipeline.Covers

@[expose] public section

set_option maxRecDepth 16384

noncomputable section

namespace Cert.ExpertsIdeal.Run

open Cert.ExpertsIdeal Cert.ExpertsIdeal.Gen Cert.Feed
open Idealize.ShloMosaic Idealize.ShloMosaic.TcCoe Idealize.SL.Sem
open Idealize.ShloMosaic.Pipeline (Dat)

/-- What the body stores in a block in use, at a place: the feed-forward of the place's row against the place's column. -/
theorem pay4_point (X : Vec Ideal S512x512 .i32) (G U : Vec Ideal S1x1024x256 .f32) (D : Vec Ideal S1x256x1024 .f32) (y : S512x1024.Idx) :
    k0_pay4 (F := Ideal) X (k0_pay1 (F := Ideal) G) (k0_pay2 (F := Ideal) U) (k0_pay3 (F := Ideal) D) y
      = feed (unpack fun j => X (ix2 (y 0) j)) (fun k f => G (ix3 0 k f)) (fun k f => U (ix3 0 k f)) (fun f => D (ix3 0 f (y 1))) := by
  pointwise [k0_pay4, k0_pay1, k0_pay2, k0_pay3]
  unfold feed
  refine Finset.sum_congr rfl fun f _ => ?_
  rw [dot_unpack .vector _ fun k => G (ix3 0 k f), dot_unpack .vector _ fun k => U (ix3 0 k f), zero_sub]

/-- What it stores in a block not in use: zero. -/
theorem pay5_point (y : S512x1024.Idx) : k0_pay5 (F := Ideal) y = (0 : EReal) := by
  pointwise [k0_pay5]

variable (m : (ℓ : Loc nD τ sig) → Buf (Elt Ideal) ℓ)

/-! ## The blocks -/

theorem index4 (hO : Ok m) (t : Fin (cfgM m hO).N) : ((cfgM m hO).win 4).index t = ![(grid0.coords t 0).val, 0] := by
  have h : (BitVec.ofNat 32 (grid0.coords t 0).val).toNat = (grid0.coords t 0).val := by
    have : (grid0.coords t 0).val < 256 := (grid0.coords t 0).isLt
    rw [BitVec.toNat_ofNat]; omega
  exact congrArg (fun n => ![n, 0]) h

/-- The body's condition is the comparison of the point with the count. -/
theorem cond2_iff (i : grid0.Coords) (u : BitVec 32) : k0_cond2 i u = 1#1 ↔ IntOp.cmpi .slt (BitVec.ofNat 32 (i 0).val) u = 1#1 := by
  unfold k0_cond2 Scalar.cmpi Scalar.extui
  dsimp only
  generalize IntOp.cmpi .slt (BitVec.ofNat 32 (i 0).val) u = b
  revert b; decide

/-- A grid point below a count, signed, names its own row block. -/
theorem row_of_used (i : grid0.Coords) (u : BitVec 32) (h : k0_cond2 i u = 1#1) :
    (Scalar.maxsi (Scalar.minsi (BitVec.ofNat 32 (i 0).val) (Scalar.subi u 1#32)) 0#32).toNat = (i 0).val := by
  have hi : (i 0).val < 256 := (i 0).isLt
  have hnn : (BitVec.ofNat 32 (i 0).val).toNat = (i 0).val := by rw [BitVec.toNat_ofNat]; omega
  have hn : (BitVec.ofNat 32 (i 0).val).toInt = (i 0).val := by rw [BitVec.toInt_eq_toNat_of_lt (by omega), hnn]
  have hlt : ((i 0).val : ℤ) < u.toInt := by
    have e := (cond2_iff i u).1 h
    rw [WordCmp.cmpi_slt_eq, WordCmp.ofBool_decide_eq_one_iff, hn] at e
    exact e
  have e0 : (0#32).toInt = 0 := by decide
  have hu := u.isLt
  have cu := BitVec.toInt_eq_toNat_cond u
  have hs : (Scalar.subi u 1#32).toNat = u.toNat - 1 := by
    show (u - 1#32).toNat = _
    rw [BitVec.toNat_sub]
    split at cu <;> simp only [BitVec.toNat_ofNat] <;> omega
  have hsi : (Scalar.subi u 1#32).toInt = u.toInt - 1 := by
    rw [BitVec.toInt_eq_toNat_of_lt (by rw [hs]; split at cu <;> omega), hs]
    split at cu <;> omega
  generalize Scalar.subi u 1#32 = w at hs hsi
  unfold Scalar.maxsi Scalar.minsi IntOp.maxsi IntOp.minsi
  by_cases h1 : (BitVec.ofNat 32 (i 0).val).slt w = true
  · rw [if_pos h1]
    split
    · exact hnn
    · rename_i h2
      rw [BitVec.slt_iff_toInt_lt, e0, hn] at h2
      show 0 = _
      omega
  · rw [if_neg h1]
    rw [BitVec.slt_iff_toInt_lt, hn] at h1
    split
    · split at cu <;> omega
    · rename_i h2
      rw [BitVec.slt_iff_toInt_lt, e0] at h2
      show 0 = _
      omega

theorem index0 (hO : Ok m) (t : Fin (cfgM m hO).N) (c : Dev nD) (h : k0_cond2 (grid0.coords t) (usedBlocks c (tbl m 1)) = 1#1) :
    ((cfgM m hO).win 0).index t = ![(grid0.coords t 0).val, 0] :=
  congrArg (fun n => ![n, 0]) (row_of_used (grid0.coords t) (usedBlocks c (tbl m 1)) h)

/-- The result's blocks cover it. -/
theorem covers4 (hO : Ok m) : ((cfgM m hO).win 4).Covers := by
  refine Pipeline.Window.covers_of_index_surj _ rfl (show ∀ a : Fin 2, 0 < S512x1024.size a by decide) fun β => ?_
  have h0 : (β (0 : Fin 2)).val < 256 := (β (0 : Fin 2)).isLt.trans_eq (show (131072 + 512 - 1) / 512 = 256 by norm_num)
  have h1 : (β (1 : Fin 2)).val < 1 := (β (1 : Fin 2)).isLt.trans_eq (show (1024 + 1024 - 1) / 1024 = 1 by norm_num)
  refine ⟨(⟨(β (0 : Fin 2)).val, by rw [N_0]; exact h0⟩ : Fin grid0.N), ?_⟩
  rw [index4]
  show ∀ a : Fin 2, _
  intro a
  match a with
  | 0 => exact coord_val _
  | 1 => show 0 = (β (1 : Fin 2)).val; omega

theorem usedBlocks_eq (c : Dev nD) (nu : IVec S1 32) : usedBlocks (F := Ideal) c nu = nu (ix1 0) :=
  congrArg nu (funext fun a => Fin.ext (by
    have h1 : ∀ (i j : S1.Idx) (a : Fin 1), (i a).val = (j a).val := fun i j a => by
      have h := (i a).isLt; have h' := (j a).isLt
      obtain rfl : a = 0 := Subsingleton.elim _ _
      change (i 0).val < 1 at h; change (j 0).val < 1 at h'; omega
    exact h1 _ _ a))

theorem expertAt_eq (c : Dev nD) (be : IVec S256 32) (i : grid0.Coords) : expertAt (F := Ideal) c i be = be (ix1 (i 0)) := by
  have h : (BitVec.ofNat 32 (i 0).val).toNat = (i 0).val := by
    have : (i 0).val < 256 := (i 0).isLt
    rw [BitVec.toNat_ofNat]; omega
  refine congrArg be (a₂ := ix1 (i 0)) (funext fun a => Fin.ext ?_)
  obtain rfl : a = (0 : Fin 1) := Subsingleton.elim (α := Fin 1) _ _
  show (BitVec.ofNat 32 (i 0).val).toNat + 1 * 0 = (i 0).val
  omega

/-- Window 0's block where the block is in use: the point's own rows. -/
theorem iblk0_at (hO : Ok m) (t : Fin (cfgM m hO).N) (c : Dev nD) (h : k0_cond2 (grid0.coords t) (usedBlocks c (tbl m 1)) = 1#1) (p : Fin 512) (j : Fin 512)
    (r : Fin 131072) (hr : r.val = (grid0.coords t 0).val * 512 + p.val) :
    (iblk m hO c 0 t : Vec Ideal S512x512 .i32) (ix2 p j) = (m ((c : Thread nD τ).loc main_arg0) : IVec S131072x512 32) (ix2 r j) := by
  blk_ext [iblk, V, index0 m hO t c h]

theorem iblk1_at (hO : Ok m) (t : Fin (cfgM m hO).N) (c : Dev nD) (k : Fin 1024) (f : Fin 256) (e : Fin 64) (he : (expertAt c (grid0.coords t) (tbl m 0)).toNat = e.val) :
    (iblk m hO c 1 t : Vec Ideal S1x1024x256 .f32) (ix3 0 k f) = (m ((c : Thread nD τ).loc main_arg3) : FVec Ideal S64x1024x256 .f32) (ix3 e k f) := by
  blk_ext [iblk, V, index1 m hO c t, he]

theorem iblk2_at (hO : Ok m) (t : Fin (cfgM m hO).N) (c : Dev nD) (k : Fin 1024) (f : Fin 256) (e : Fin 64) (he : (expertAt c (grid0.coords t) (tbl m 0)).toNat = e.val) :
    (iblk m hO c 2 t : Vec Ideal S1x1024x256 .f32) (ix3 0 k f) = (m ((c : Thread nD τ).loc main_arg4) : FVec Ideal S64x1024x256 .f32) (ix3 e k f) := by
  blk_ext [iblk, V, index2 m hO c t, he]

theorem iblk3_at (hO : Ok m) (t : Fin (cfgM m hO).N) (c : Dev nD) (f : Fin 256) (d : Fin 1024) (e : Fin 64) (he : (expertAt c (grid0.coords t) (tbl m 0)).toNat = e.val) :
    (iblk m hO c 3 t : Vec Ideal S1x256x1024 .f32) (ix3 0 f d) = (m ((c : Thread nD τ).loc main_arg5) : FVec Ideal S64x256x1024 .f32) (ix3 e f d) := by
  blk_ext [iblk, V, index3 m hO c t, he]

/-! ## The result -/

/-- Whether block `b` is in use. -/
abbrev inUse (nu : IVec S1 32) (b : Fin 256) : Prop := IntOp.cmpi .slt (BitVec.ofNat 32 b.val) (nu (ix1 0)) = 1#1

/-- The result as an array. -/
def result (e : Fin 256 → Fin 64) (c : Dev nD) : FVec Ideal S131072x1024 .f32 := fun i =>
  routed (m ((c : Thread nD τ).loc main_arg0)) e (inUse (m ((c : Thread nD τ).loc main_arg2)))
    (m ((c : Thread nD τ).loc main_arg3)) (m ((c : Thread nD τ).loc main_arg4)) (m ((c : Thread nD τ).loc main_arg5)) (i 0) (i 1)

/-- What the body leaves in the block of a point, at a place, is the result at the place of the array where it lies. -/
theorem point (hO : Ok m) (e : Fin 256 → Fin 64) (he : ∀ b, ((tbl m 0 : IVec S256 32) (ix1 b)).toNat = (e b).val) (c : Dev nD) (t : Fin (cfgM m hO).N)
    (y : S512x1024.Idx) (i : S131072x1024.Idx) (h0 : (i 0).val = (grid0.coords t 0).val * 512 + (y 0).val) (h1 : (i 1).val = (y 1).val) :
    oblk m hO c t y = result m e c i := by
  obtain rfl : c = 0 := Subsingleton.elim _ _
  have hy : (y 0).val < 512 := (y 0).isLt
  have hi : (i 0).val < 131072 := (i 0).isLt
  have hb : (⟨(i 0).val / 512, by omega⟩ : Fin 256) = grid0.coords t 0 := Fin.ext (show (i 0).val / 512 = (grid0.coords t 0).val by omega)
  have hc : k0_cond2 (grid0.coords t) (usedBlocks (0 : Dev nD) (tbl m 1)) = 1#1 ↔ inUse (m (((0 : Dev nD) : Thread nD τ).loc main_arg2)) (grid0.coords t 0) := by
    exact (cond2_iff _ _).trans (iff_of_eq (congrArg (fun u => IntOp.cmpi .slt (BitVec.ofNat 32 (grid0.coords t 0).val) u = 1#1) (usedBlocks_eq 0 (tbl m 1))))
  have hx : (expertAt (0 : Dev nD) (grid0.coords t) (tbl m 0)).toNat = (e (grid0.coords t 0)).val :=
    (congrArg BitVec.toNat (expertAt_eq 0 (tbl m 0) (grid0.coords t))).trans (he _)
  have hd : y 1 = i 1 := Fin.ext h1.symm
  unfold oblk result routed
  by_cases h : k0_cond2 (grid0.coords t) (usedBlocks (0 : Dev nD) (tbl m 1)) = 1#1
  · rw [if_pos h, if_pos (by rw [hb]; exact hc.1 h)]
    refine (pay4_point _ _ _ _ y).trans ?_
    rw [hb, ← hd]
    refine congr (congr (congr (congrArg feed (congrArg unpack (funext fun j => ?_))) (funext fun k => funext fun f => ?_)) (funext fun k => funext fun f => ?_)) (funext fun f => ?_)
    · exact iblk0_at m hO t 0 h (y 0) j (i 0) h0
    · exact iblk1_at m hO t 0 k f _ hx
    · exact iblk2_at m hO t 0 k f _ hx
    · exact iblk3_at m hO t 0 f (y 1) _ hx
  · rw [if_neg h, if_neg (by rw [hb]; exact fun h' => h (hc.2 h'))]
    exact pay5_point y

/-- The array after the run. -/
theorem final (hO : Ok m) (e : Fin 256 → Fin 64) (he : ∀ b, ((tbl m 0 : IVec S256 32) (ix1 b)).toNat = (e b).val) (c : Dev nD) :
    (dats m hO 0 c).arrAt 4 (cfgM m hO).N = result m e c := by
  refine (dats m hO 0 c).arrAt_eq_of_covers 4 _ (covers4 m hO) fun t _ y => ?_
  rw [after0_4]
  refine point m hO e he c t y _ ?_ ?_
  · blk_simp [index4 m hO t]
  · blk_simp [index4 m hO t]

end Cert.ExpertsIdeal.Run

end
-- ==== Proof.Experts.Reference.lean ====
/- What the experts' reference computes: its result, entry by entry, is the routed feed-forward. -/
module

public import proofs.«01_k».proof.Proof.Gen.ExpertsRefIdeal.Run
public import proofs.«01_k».proof.Proof.Experts.Feed
public import Idealize.ShloMosaic.Lib.WordCmp

@[expose] public section

set_option maxRecDepth 16384

noncomputable section

open Idealize.ShloMosaic Idealize.ShloMosaic.TcCoe Idealize.SL.Sem

namespace Cert.ExpertsRefIdeal.Value

open Cert.ExpertsRefIdeal Cert.ExpertsRefIdeal.Gen Cert.Feed

/-! ## One matrix of a stack per block -/

section Stack
variable {α : Type}

/-- The dimension numbers of `w[e]` for a stack `w` of `N` matrices and a vector `e` of `R` indices. -/
abbrev stackDims (N A B R : Nat) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- The gather of whole matrices, read at an index: the matrix that the clamped index names. -/
theorem gather_stack {N A B R w : Nat} (hN : 0 < N) (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (stackDims N A B R wf) x idx (ix3 r a b) = x (ix3 ⟨min (idx (ix2 r 0)).toInt.toNat (N - 1), by omega⟩ a b) := by
  unfold Host.gather
  congr 1
  funext i
  refine Fin.ext ?_
  show (stackDims N A B R wf).start (ix3 r a b) idx i + (stackDims N A B R wf).batchCoord (ix3 r a b) i + (stackDims N A B R wf).offCoord (ix3 r a b) i = _
  rw [GatherDims.batchCoord_eq_zero _ _ _ List.not_mem_nil, Nat.add_zero]
  have h012 : i = 0 ∨ i = 1 ∨ i = 2 := by
    match i with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (stackDims N A B R wf).startIndexMap from List.mem_singleton.mpr rfl)]
    have hsi : (stackDims N A B R wf).siIdx (ix3 r a b) ⟨List.idxOf (0 : Fin 3) (stackDims N A B R wf).startIndexMap,
        List.idxOf_lt_length_iff.2 (List.mem_singleton.mpr rfl)⟩ = ix2 r 0 := by
      funext k; refine Fin.ext ?_
      match k with
      | ⟨0, _⟩ => rfl
      | ⟨1, _⟩ => rfl
    rw [hsi]
    rfl
  · unfold GatherDims.start GatherDims.offCoord
    rw [dif_neg (show (1 : Fin 3) ∉ (stackDims N A B R wf).startIndexMap by simp),
      dif_pos ((GatherDims.mem_sKept _ _).mpr ⟨by simp, List.not_mem_nil⟩), Nat.zero_add]
    rfl
  · unfold GatherDims.start GatherDims.offCoord
    rw [dif_neg (show (2 : Fin 3) ∉ (stackDims N A B R wf).startIndexMap by simp),
      dif_pos ((GatherDims.mem_sKept _ _).mpr ⟨by simp, List.not_mem_nil⟩), Nat.zero_add]
    rfl

end Stack

/-! ## The parts of the result -/

/-- The rows of the blocks in use, zero elsewhere. -/
def rows (x : IVec S131072x512 32) (nu : IVec S1 32) : FVec Ideal S256x512x1024 .f32 :=
  select (broadcastInDim S256x512x1024 ![0, 1, 2] bcast_S256x1x1_S256x512x1024_0_1_2 (broadcastInDim S256x1x1 ![0] bcast_S256_S256x1x1_0
      (cmpi .slt (iotaInDim S256 32 0) (broadcastInDim S256 ![0] bcast_S1_S256_0 nu))))
    (shapeCast _ (concatenate S131072x1024 1
      [⟨S131072x512, bitcastToFloat (F := Ideal) .f32 (Host.shli x (broadcastInDim S131072x512 ![] bcast_S_S131072x512 (constantI S_ 32 16#32)))⟩,
       ⟨S131072x512, bitcastToFloat (F := Ideal) .f32 (andi x (broadcastInDim S131072x512 ![] bcast_S_S131072x512 (constantI S_ 32 4294901760#32)))⟩]
      concatenates_S131072x512_S131072x512_S131072x1024_d1) shapeCasts_S131072x1024_S256x512x1024)
    (broadcastInDim S256x512x1024 ![] bcast_S_S256x512x1024 (id (constant S_ .f32 0x00000000#32)))

/-- The table's entries as the gathers' indices: a negative one counted from the end. -/
def wrapped (be : IVec S256 32) : IVec S256x1 32 :=
  broadcastInDim S256x1 ![0] bcast_S256_S256x1_0 (select (cmpi .slt be (broadcastInDim S256 ![] bcast_S_S256 (constantI S_ 32 0#32)))
    (addi be (broadcastInDim S256 ![] bcast_S_S256 (constantI S_ 32 64#32))) be)

/-- The feed-forward of every block by its three matrices. -/
def ffn (x : FVec Ideal S256x512x1024 .f32) (g u : FVec Ideal S256x1024x256 .f32) (d : FVec Ideal S256x256x1024 .f32) : FVec Ideal S131072x1024 .f32 :=
  have gx : FVec Ideal S256x512x256 .f32 := Host.dotGeneral dot_S256x512x1024_S256x1024x256_S256x512x256_2_1_1_2_0_0 none x g
  have one : FVec Ideal S256x512x256 .f32 := broadcastInDim S256x512x256 ![] bcast_S_S256x512x256 (constant S_ .f32 0x3F800000#32)
  shapeCast _ (Host.dotGeneral dot_S256x512x256_S256x256x1024_S256x512x1024_2_1_1_2_0_0 none
    (mulf (mulf gx (Host.divf one (addf one (Host.exp (Host.negf gx))))) (Host.dotGeneral dot_S256x512x1024_S256x1024x256_S256x512x256_2_1_1_2_0_0 none x u)) d)
    shapeCasts_S256x512x1024_S131072x1024

/-- The gate and up matrices of the blocks' experts. -/
abbrev stackG (w : FVec Ideal S64x1024x256 .f32) (be : IVec S256 32) : FVec Ideal S256x1024x256 .f32 :=
  Host.gather gather_S64x1024x256_S256x1_S256x1024x256_12_0_n_n_0_1_11024256 w (wrapped be)
/-- The down matrices of the blocks' experts. -/
abbrev stackD (w : FVec Ideal S64x256x1024 .f32) (be : IVec S256 32) : FVec Ideal S256x256x1024 .f32 :=
  Host.gather gather_S64x256x1024_S256x1_S256x256x1024_12_0_n_n_0_1_12561024 w (wrapped be)

/-- The run's result is the feed-forward of these parts. -/
theorem res_eq (m : (ℓ : Loc nD τ sig) → Buf (Elt Ideal) ℓ) (c : Dev nD) : res_main_v39 (F := Ideal) m c
    = ffn (rows (m ((c.tc : Thread nD τ).loc main_arg0)) (m ((c.tc : Thread nD τ).loc main_arg2)))
        (stackG (m ((c.tc : Thread nD τ).loc main_arg3)) (m ((c.tc : Thread nD τ).loc main_arg1)))
        (stackG (m ((c.tc : Thread nD τ).loc main_arg4)) (m ((c.tc : Thread nD τ).loc main_arg1)))
        (stackD (m ((c.tc : Thread nD τ).loc main_arg5)) (m ((c.tc : Thread nD τ).loc main_arg1))) := rfl

/-! ## The parts at an index -/

theorem wrapped_at (be : IVec S256 32) (b : Fin 256) (h : (be (ix1 b)).toNat < 64) : wrapped be (ix2 b 0) = be (ix1 b) := by
  have key : Scalar.select (IntOp.cmpi CmpIPredicate.slt (be (ix1 b)) 0#32) (IntOp.addi (be (ix1 b)) 64#32) (be (ix1 b)) = be (ix1 b) := by
    have e : ¬ (be (ix1 b)).toInt < (0#32).toInt := by
      rw [BitVec.toInt_eq_toNat_of_lt (by omega), BitVec.toInt_zero]; omega
    unfold Scalar.select
    rw [WordCmp.cmpi_slt_eq, if_neg]
    show ¬ _ = 1#1
    rw [WordCmp.ofBool_decide_eq_one_iff]; exact e
  pointwise [wrapped]
  exact key

theorem stackG_at (w : FVec Ideal S64x1024x256 .f32) (be : IVec S256 32) (e : Fin 64) (b : Fin 256) (h : (be (ix1 b)).toNat = e.val) (k : Fin 1024) (f : Fin 256) :
    stackG w be (ix3 b k f) = w (ix3 e k f) := by
  refine (gather_stack (by decide) _ w (wrapped be) b k f).trans ?_
  congr 1
  have he := e.isLt
  have hi : ((be (ix1 b)).toInt).toNat = e.val := by rw [BitVec.toInt_eq_toNat_of_lt (by omega)]; exact h
  have : (⟨min (wrapped be (ix2 b 0)).toInt.toNat (64 - 1), by omega⟩ : Fin 64) = e := by
    refine Fin.ext ?_
    show min (wrapped be (ix2 b 0)).toInt.toNat (64 - 1) = e.val
    rw [wrapped_at be b (by omega), hi]; omega
  rw [this]

theorem stackD_at (w : FVec Ideal S64x256x1024 .f32) (be : IVec S256 32) (e : Fin 64) (b : Fin 256) (h : (be (ix1 b)).toNat = e.val) (f : Fin 256) (k : Fin 1024) :
    stackD w be (ix3 b f k) = w (ix3 e f k) := by
  refine (gather_stack (by decide) _ w (wrapped be) b f k).trans ?_
  congr 1
  have he := e.isLt
  have hi : ((be (ix1 b)).toInt).toNat = e.val := by rw [BitVec.toInt_eq_toNat_of_lt (by omega)]; exact h
  have : (⟨min (wrapped be (ix2 b 0)).toInt.toNat (64 - 1), by omega⟩ : Fin 64) = e := by
    refine Fin.ext ?_
    show min (wrapped be (ix2 b 0)).toInt.toNat (64 - 1) = e.val
    rw [wrapped_at be b (by omega), hi]; omega
  rw [this]

/-- Whether block `b` is in use, as both programs compare. -/
abbrev inUse (nu : IVec S1 32) (b : Fin 256) : Prop := IntOp.cmpi .slt (BitVec.ofNat 32 b.val) (nu (ix1 0)) = 1#1

theorem rows_at (x : IVec S131072x512 32) (nu : IVec S1 32) (b : Fin 256) (s : Fin 512) (k : Fin 1024) :
    rows x nu (ix3 b s k) = if inUse nu b then unpack (fun j => x (ix2 ⟨b.val * 512 + s.val, by omega⟩ j)) k else 0 := by
  have key : Scalar.select (IntOp.cmpi .slt (BitVec.ofNat 32 b.val) (nu (ix1 0)))
      (if h : k.val < 512 then Ideal.ofBits .f32 (IntOp.shli .host (x (ix2 ⟨b.val * 512 + s.val, by omega⟩ ⟨k.val, h⟩)) 16#32)
        else Ideal.ofBits .f32 (IntOp.andi (x (ix2 ⟨b.val * 512 + s.val, by omega⟩ ⟨k.val - 512, by omega⟩)) 4294901760#32)) (0 : EReal)
      = if inUse nu b then unpack (fun j => x (ix2 ⟨b.val * 512 + s.val, by omega⟩ j)) k else 0 := by
    unfold Scalar.select unpack inUse
    simp only [shift_eq]
    rfl
  have zero : (id (constant (F := Ideal) S_ .f32 0#32) : FVec Ideal S_ .f32) ix0 = (0 : EReal) := by
    show (constant (F := Ideal) S_ .f32 0#32) ix0 = (0 : EReal)
    pointwise
  refine Eq.trans ?_ key
  rw [← zero]
  pointwise [rows]

theorem ffn_at (x : FVec Ideal S256x512x1024 .f32) (g u : FVec Ideal S256x1024x256 .f32) (d : FVec Ideal S256x256x1024 .f32) (r : Fin 131072) (j : Fin 1024) :
    ffn x g u d (ix2 r j) = feed (fun k => x (ix3 ⟨r.val / 512, by omega⟩ ⟨r.val % 512, Nat.mod_lt _ (by decide)⟩ k)) (fun k f => g (ix3 ⟨r.val / 512, by omega⟩ k f))
      (fun k f => u (ix3 ⟨r.val / 512, by omega⟩ k f)) (fun f => d (ix3 ⟨r.val / 512, by omega⟩ f j)) := by
  pointwise [ffn, feed, dot]

/-- The result is the routed feed-forward, whatever the experts' table holds in range. -/
theorem value (x : IVec S131072x512 32) (be : IVec S256 32) (nu : IVec S1 32) (wg wu : FVec Ideal S64x1024x256 .f32) (wd : FVec Ideal S64x256x1024 .f32)
    (e : Fin 256 → Fin 64) (he : ∀ b, (be (ix1 b)).toNat = (e b).val) (r : Fin 131072) (j : Fin 1024) :
    ffn (rows x nu) (stackG wg be) (stackG wu be) (stackD wd be) (ix2 r j) = routed x e (inUse nu) wg wu wd r j := by
  have hr : (⟨(⟨r.val / 512, by omega⟩ : Fin 256).val * 512 + (⟨r.val % 512, Nat.mod_lt _ (by decide)⟩ : Fin 512).val, by omega⟩ : Fin 131072) = r :=
    Fin.ext (show r.val / 512 * 512 + r.val % 512 = r.val by omega)
  rw [ffn_at]
  unfold routed
  simp only [rows_at, stackG_at _ be (e _) _ (he _), stackD_at _ be (e _) _ (he _)]
  split
  · rw [hr]
  · exact feed_zero _ _ _

end Cert.ExpertsRefIdeal.Value

end
-- ==== Proof.Experts.Claim.lean ====
/- The experts' claims: the kernel's frames under the table's range, its reference's frames, and that both compute the same
   function over the extended reals. -/
module

public import proofs.«01_k».proof.Defs
public import proofs.«01_k».proof.Proof.Experts.Value
public import proofs.«01_k».proof.Proof.Experts.Reference
public import proofs.«01_k».proof.Proof.Gen.Experts.Skeleton

@[expose] public section

set_option maxRecDepth 16384

noncomputable section

namespace Cert.Experts.Claims

open Idealize.ShloMosaic Idealize.ShloMosaic.TcCoe Idealize.SL.Sem
open Cert.ExpertsIdeal.Gen Cert.Experts.Gen

/-! ## The kernel at the bits is the kernel at the ideal instance, read at the bits -/

section Transfer
variable {F : FTy → Type} [FloatOps F]

/-- The two prints' bodies are one. -/
theorem bodies_eq : (@Cert.Experts.defs₀ F _ _) = (@Cert.ExpertsIdeal.defs₀ F _ _) :=
  congrArg Defs.onTc (funext fun l => funext fun a => match l, a with
    | 0, (_, _) => rfl
    | ⟨_ + 1, h⟩, _ => absurd h (Nat.not_lt.2 (Nat.le_add_left _ _)))

/-- So are their body tables. -/
theorem defs_eq : (@Cert.Experts.defs F _ _) = (@Cert.ExpertsIdeal.defs F _ _) :=
  congrArg (Pipeline.defs Cert.ExpertsIdeal.pcfgs) bodies_eq

end Transfer

/-- The kernel runs from tables in range and leaves its arguments alone. -/
theorem frame : Cert.quiescent_Experts (hExperts := Cert.Experts.Gen.facts) (hPre_expert_range := Cert.Pre_expert_range.Gen.facts) := by
  intro m ρ hpre
  rw [defs_eq]
  exact (θ_run _ _ _).mono (fun r h => ⟨fun c => (h.1 c).1, h.2⟩)
    (Cert.ExpertsIdeal.Run.run_all (F := Bits) m ρ (Cert.ExpertsIdeal.Run.ok_of_pre (F := Bits) m hpre))

/-- So does the idealized kernel. -/
theorem frameIdeal : Cert.quiescent_ExpertsIdeal (hExpertsIdeal := Cert.ExpertsIdeal.Gen.facts) (hPre_expert_range := Cert.Pre_expert_range.Gen.facts) := by
  intro m ρ hpre
  exact (θ_run _ _ _).mono (fun r h => ⟨fun c => (h.1 c).1, h.2⟩)
    (Cert.ExpertsIdeal.Run.run_all (F := Ideal) m ρ (Cert.ExpertsIdeal.Run.ok_of_pre (F := Ideal) m hpre))

/-- The reference runs and leaves its arguments alone; it declares no semaphore. -/
theorem frameRef : Cert.quiescent_ExpertsRefIdeal (hExpertsRefIdeal := Cert.ExpertsRefIdeal.Gen.facts) := fun m ρ _ =>
  (θ_run Cert.ExpertsRefIdeal.defs _ _).mono (fun r h => ⟨fun c => (h c).2, Idealize.ShloMosaic.sem_eq_zero_of_no_sems (by decide) r.2⟩)
    (Cert.ExpertsRefIdeal.Value.run (F := Ideal) m ρ)

/-- In particular from tables in range. -/
theorem frameRef_pre : Cert.quiescent_ExpertsRefIdeal_pre_expert_range (hExpertsRefIdeal := Cert.ExpertsRefIdeal.Gen.facts)
    (hPre_expert_range := Cert.Pre_expert_range.Gen.facts) := fun m ρ _ => frameRef m ρ trivial

/-- The kernel and the reference compute the same array. -/
theorem algebraic : Cert.algebraic_ExpertsIdeal_ExpertsRefIdeal (hExpertsIdeal := Cert.ExpertsIdeal.Gen.facts) (hExpertsRefIdeal := Cert.ExpertsRefIdeal.Gen.facts)
    (hPre_expert_range := Cert.Pre_expert_range.Gen.facts) := by
  intro m g m' g' hpre hm
  have hlt := Cert.ExpertsIdeal.Run.expert_lt _ _ _ _ _ _ (hpre 0)
  let e : Fin 256 → Fin 64 := fun b => ⟨_, hlt (ix1 b)⟩
  refine ⟨fun c => Cert.ExpertsIdeal.Run.result m e c, ?_, ?_⟩
  · refine (θ_run _ _ _).mono (fun r h c => ?_) (Cert.ExpertsIdeal.Run.run_all (F := Ideal) m g (Cert.ExpertsIdeal.Run.ok_of_pre (F := Ideal) m hpre))
    exact ⟨(h.1 c).2.trans (Cert.ExpertsIdeal.Run.final m _ e (fun b => rfl) c), (h.1 c).1⟩
  · refine (θ_run _ _ _).mono (fun r h c => ?_) (Cert.ExpertsRefIdeal.Value.run (F := Ideal) m' g')
    obtain rfl : c = 0 := Subsingleton.elim _ _
    refine ⟨(h 0).1.trans ?_, (h 0).2⟩
    obtain ⟨e0, e1, e2, e3, e4, e5⟩ := hm 0
    rw [Cert.ExpertsRefIdeal.Value.res_eq, e0, e1, e2, e3, e4, e5]
    funext i
    have hi : i = ix2 (i 0) (i 1) := funext fun a => by
      match a with
      | 0 => rfl
      | 1 => rfl
    refine (congrArg _ hi).trans ?_
    exact Cert.ExpertsRefIdeal.Value.value _ _ _ _ _ _ e (fun b => rfl) (i 0) (i 1)

end Cert.Experts.Claims

end
-- ==== Proof.SProj.Array.lean ====
/- The sample projection's call: its result array as a product, its operands, and the program's five results as terms of the
   call's result and the arguments. -/
module

public import proofs.«01_k».proof.Proof.Gen.SProjIdeal.Frame
public import proofs.«01_k».proof.Proof.Proj.Equation

@[expose] public section

set_option maxRecDepth 16384

noncomputable section

open Idealize.ShloMosaic Idealize.ShloMosaic.TcCoe Idealize.SL.Sem Idealize.ShloMosaic.StableHlo
open Idealize.ShloMosaic.Pipeline (Dat)
open Cert.ProjIdeal.Value (wcols)

namespace Cert.SProjIdeal.Value

open Cert.SProjIdeal Cert.SProjIdeal.Gen

variable (m : (ℓ : Loc nD τ sig) → Buf (Elt Ideal) ℓ)

/-- The product of the sample's 128 tokens with the reordered weights, entry by entry. -/
def prod (X : FVec Ideal S128x1024 .f32) (W : FVec Ideal S1024x8064 .bf16) : FVec Ideal S128x8064 .f32 :=
  fun i => ∑ k : Fin 1024, X (ix2 (i 0) k) * W (ix2 k (i 1))

/-- Where each window's block lies at a grid point: all the tokens, and the point's columns. -/
theorem idx : ∀ t : Fin cfg0.N, win0_0.index t = ![(grid0.coords t 1).val, 0]
    ∧ win0_1.index t = ![0, (grid0.coords t 0).val] ∧ win0_2.index t = ![(grid0.coords t 1).val, (grid0.coords t 0).val] :=
  (by decide +kernel : ∀ t : Fin grid0.N, _)

/-- What the body stores at a place of its block is the product's entry at the place of the array where it lies. -/
theorem point (c : Dev nD) (t : Fin cfg0.N) (y) : k0_pay1 (iblk m c 0 t) (iblk m c 1 t) y
    = prod (V m c main_v14) (V m c main_v13) (((cfg0.win 2).blk t).view.emb y) := by
  pointwise [k0_pay1, prod]
  blk_point [iblk, V, idx t]

/-- The array after the run is the product. -/
theorem final (c : Dev nD) : (dats m 0 c).arrAt 2 (cfgs 0).N = prod (V m c main_v14) (V m c main_v13) := by
  refine (dats m 0 c).arrAt_eq_of_covers 2 _ (by decide +kernel) fun t _ y => ?_
  blk_simp
  rw [after0_2]; frame_out
  exact point m c t y

/-- The flattened tokens, as the call finds them. -/
theorem V_tokens (c : Dev nD) : V m c main_v14
    = shapeCast S128x1024 (m ((c : Thread nD τ).loc main_arg0)) shapeCasts_S32x4x1024_S128x1024 := by
  show after hostOps0 (fun b => m (c, b)) (Proc.devRef .tc main_v14) = _
  after_results <;> rfl

/-- The reordered weights are those of the prompt's projection. -/
theorem V_weights (c : Dev nD) : V m c main_v13 = wcols (m ((c : Thread nD τ).loc main_arg3)) := by
  show after hostOps0 (fun b => m (c, b)) (Proc.devRef .tc main_v13) = _
  after_results <;> rfl

/-- The call's result as the later host operations find it, from the arguments. -/
theorem entry (c : Dev nD) : Pipeline.withArrays spec0 c (V0 m c) (fun w => (dats m 0 c).arrAt w (cfgs 0).N) (Proc.devRef .tc main_v15)
    = prod (shapeCast S128x1024 (m ((c : Thread nD τ).loc main_arg0)) shapeCasts_S32x4x1024_S128x1024) (wcols (m ((c : Thread nD τ).loc main_arg3))) := by
  rw [← V_tokens, ← V_weights]
  exact (Pipeline.withArrays_arr spec0 launch0.win.arr_inj c (V0 m c) _ 2).trans (final m c)

/-- The product as the three-axis array. -/
abbrev p3 (P : FVec Ideal S128x8064 .f32) : FVec Ideal S32x4x8064 .f32 := shapeCast S32x4x8064 P shapeCasts_S128x8064_S32x4x8064

variable (U : Valuation τ sig (Elt Ideal))

theorem tail0 : after hostOps1 U (Proc.devRef .tc main_v16) = p3 (U (Proc.devRef .tc main_v15)) := by
  after_results <;> rfl
theorem tail1 : after hostOps1 U (Proc.devRef .tc main_v28)
    = broadcastInDim S1x32x4x2x2x64 ![1, 2, 3, 4, 5] bcast_S32x4x2x2x64_S1x32x4x2x2x64_1_2_3_4_5
        (shapeCast S32x4x2x2x64 (extractStridedSlice S32x4x256 ![0, 0, 7168] (p3 (U (Proc.devRef .tc main_v15))) slices_S32x4x8064_S32x4x256_0_0_7168) shapeCasts_S32x4x256_S32x4x2x2x64) := by
  after_results <;> rfl
theorem tail2 : after hostOps1 U (Proc.devRef .tc main_v31)
    = broadcastInDim S1x32x4x2x2x64 ![1, 2, 3, 4, 5] bcast_S32x4x2x2x64_S1x32x4x2x2x64_1_2_3_4_5
        (shapeCast S32x4x2x2x64 (extractStridedSlice S32x4x256 ![0, 0, 7424] (p3 (U (Proc.devRef .tc main_v15))) slices_S32x4x8064_S32x4x256_0_0_7424) shapeCasts_S32x4x256_S32x4x2x2x64) := by
  after_results <;> rfl

/-- A window of keys and values: the last 512 of the given rows and the new ones behind them. -/
abbrev window (old : FVec Ideal S1x32x512x2x2x64 .f32) (rows : FVec Ideal S32x4x256 .f32) : FVec Ideal S1x32x512x2x2x64 .f32 :=
  broadcastInDim S1x32x512x2x2x64 ![1, 2, 3, 4, 5] bcast_S32x512x2x2x64_S1x32x512x2x2x64_1_2_3_4_5
    (extractStridedSlice S32x512x2x2x64 ![0, 4, 0, 0, 0] (concatenate S32x516x2x2x64 1
      [⟨S32x512x2x2x64, shapeCast S32x512x2x2x64 old shapeCasts_S1x32x512x2x2x64_S32x512x2x2x64⟩,
       ⟨S32x4x2x2x64, shapeCast S32x4x2x2x64 rows shapeCasts_S32x4x256_S32x4x2x2x64⟩]
      concatenates_S32x512x2x2x64_S32x4x2x2x64_S32x516x2x2x64_d1) slices_S32x516x2x2x64_S32x512x2x2x64_0_4_0_0_0)

theorem tail3 : after hostOps1 U (Proc.devRef .tc main_v32)
    = window (U (Proc.devRef .tc main_arg1)) (extractStridedSlice S32x4x256 ![0, 0, 7680] (p3 (U (Proc.devRef .tc main_v15))) slices_S32x4x8064_S32x4x256_0_0_7680) := by
  after_results <;> rfl

/-- The state of the convolution: the last three of the given rows and the new ones behind them. -/
abbrev state (old : FVec Ideal S1x32x3x3072 .f32) (rows : FVec Ideal S32x4x3072 .f32) : FVec Ideal S1x32x3x3072 .f32 :=
  broadcastInDim S1x32x3x3072 ![1, 2, 3] bcast_S32x3x3072_S1x32x3x3072_1_2_3
    (extractStridedSlice S32x3x3072 ![0, 4, 0] (concatenate S32x7x3072 1
      [⟨S32x3x3072, shapeCast S32x3x3072 old shapeCasts_S1x32x3x3072_S32x3x3072⟩, ⟨S32x4x3072, rows⟩]
      concatenates_S32x3x3072_S32x4x3072_S32x7x3072_d1) slices_S32x7x3072_S32x3x3072_0_4_0)

theorem tail4 : after hostOps1 U (Proc.devRef .tc main_v33)
    = state (U (Proc.devRef .tc main_arg2)) (extractStridedSlice S32x4x3072 ![0, 0, 0] (p3 (U (Proc.devRef .tc main_v15))) slices_S32x4x8064_S32x4x3072_0_0_0) := by
  after_results <;> rfl

/-- The two carried arrays as the later host operations find them: as at the start. -/
theorem kept (c : Dev nD) (b : Ref sig .tc) (hb : b = main_arg1 ∨ b = main_arg2) :
    Pipeline.withArrays spec0 c (V0 m c) (fun w => (dats m 0 c).arrAt w (cfgs 0).N) (Proc.devRef .tc b) = m ((c : Thread nD τ).loc b) := by
  rcases hb with rfl | rfl
  · refine (Pipeline.withArrays_of_ne spec0 c (V0 m c) _ main_arg1 (by decide)).trans ?_
    show after hostOps0 (fun b => m (c, b)) (Proc.devRef .tc main_arg1) = _
    after_results <;> rfl
  · refine (Pipeline.withArrays_of_ne spec0 c (V0 m c) _ main_arg2 (by decide)).trans ?_
    show after hostOps0 (fun b => m (c, b)) (Proc.devRef .tc main_arg2) = _
    after_results <;> rfl

end Cert.SProjIdeal.Value

end
-- ==== Proof.SProj.Claim.lean ====
/- The sample projection's algebraic claim: the kernel's five results are the reference's. -/
module

public import proofs.«01_k».proof.Defs
public import proofs.«01_k».proof.Proof.SProj.Array
public import proofs.«01_k».proof.Proof.Gen.SProjRefIdeal.Run

@[expose] public section

set_option maxRecDepth 16384

noncomputable section

open Idealize.ShloMosaic Idealize.ShloMosaic.TcCoe Idealize.SL.Sem Idealize.ShloMosaic.StableHlo
open Cert.ProjIdeal.Value (wcols wcols_apply wcols_qkv wcols_kvc wcols_kvs wcols_kvw sum_dite)

namespace Cert.SProjIdeal.Value

open Cert.SProjIdeal Cert.SProjIdeal.Gen

/-- The kernel's product, from its arguments. -/
abbrev P (x : FVec Ideal S32x4x1024 .f32) (w : FVec Ideal S1x1024x8000 .f32) : FVec Ideal S128x8064 .f32 :=
  prod (shapeCast S128x1024 x shapeCasts_S32x4x1024_S128x1024) (wcols w)

/-- The reference's projection before its columns are reordered. -/
abbrev q (x : FVec Ideal S32x4x1024 .f32) (w : FVec Ideal S1x1024x8000 .f32) : FVec Ideal Cert.SProjRefIdeal.S32x4x8000 .f32 :=
  Host.dotGeneral Cert.SProjRefIdeal.dot_S32x4x1024_S1024x8000_S32x4x8000_2_0_01_1_n_n none x (shapeCast S1024x8000 w shapeCasts_S1x1024x8000_S1024x8000)

variable (x : FVec Ideal S32x4x1024 .f32) (w : FVec Ideal S1x1024x8000 .f32)

/-- The kernel's product as a three-axis array, entry by entry. -/
theorem p3_apply (b : Fin 32) (t : Fin 4) (j : Fin 8064) : p3 (P x w) (ix3 b t j) = ∑ k : Fin 1024, x (ix3 b t k) * wcols w (ix2 k j) := by
  pointwise [prod]

/-- The reference's projection, entry by entry. -/
theorem q_apply (b : Fin 32) (t : Fin 4) (j : Fin 8000) : q x w (ix3 b t j) = ∑ k : Fin 1024, x (ix3 b t k) * w (ix3 0 k j) := by
  pointwise

/-- The reference's projection with its columns in the order of the kernel's result, and zeros behind them. -/
def reordered (Q : FVec Ideal Cert.SProjRefIdeal.S32x4x8000 .f32) : FVec Ideal S32x4x8064 .f32 :=
  concatenate S32x4x8064 2
    [⟨S32x4x3072, extractStridedSlice S32x4x3072 ![0, 0, 0] Q Cert.SProjRefIdeal.Gen.slices_S32x4x8000_S32x4x3072_0_0_0⟩,
     ⟨Cert.SProjRefIdeal.S32x4x1024, extractStridedSlice Cert.SProjRefIdeal.S32x4x1024 ![0, 0, 3072] Q Cert.SProjRefIdeal.Gen.slices_S32x4x8000_S32x4x1024_0_0_3072⟩,
     ⟨Cert.SProjRefIdeal.S32x4x1024, extractStridedSlice Cert.SProjRefIdeal.S32x4x1024 ![0, 0, 4112] Q Cert.SProjRefIdeal.Gen.slices_S32x4x8000_S32x4x1024_0_0_4112⟩,
     ⟨Cert.SProjRefIdeal.S32x4x2048, extractStridedSlice Cert.SProjRefIdeal.S32x4x2048 ![0, 0, 5952] Q Cert.SProjRefIdeal.Gen.slices_S32x4x8000_S32x4x2048_0_0_5952⟩,
     ⟨S32x4x256, extractStridedSlice S32x4x256 ![0, 0, 5136] Q Cert.SProjRefIdeal.Gen.slices_S32x4x8000_S32x4x256_0_0_5136⟩,
     ⟨S32x4x256, extractStridedSlice S32x4x256 ![0, 0, 5392] Q Cert.SProjRefIdeal.Gen.slices_S32x4x8000_S32x4x256_0_0_5392⟩,
     ⟨S32x4x256, extractStridedSlice S32x4x256 ![0, 0, 5648] Q Cert.SProjRefIdeal.Gen.slices_S32x4x8000_S32x4x256_0_0_5648⟩,
     ⟨Cert.SProjRefIdeal.S32x4x8, extractStridedSlice Cert.SProjRefIdeal.S32x4x8 ![0, 0, 4096] Q Cert.SProjRefIdeal.Gen.slices_S32x4x8000_S32x4x8_0_0_4096⟩,
     ⟨Cert.SProjRefIdeal.S32x4x8, extractStridedSlice Cert.SProjRefIdeal.S32x4x8 ![0, 0, 4104] Q Cert.SProjRefIdeal.Gen.slices_S32x4x8000_S32x4x8_0_0_4104⟩,
     ⟨Cert.SProjRefIdeal.S32x4x48, extractStridedSlice Cert.SProjRefIdeal.S32x4x48 ![0, 0, 5904] Q Cert.SProjRefIdeal.Gen.slices_S32x4x8000_S32x4x48_0_0_5904⟩,
     ⟨Cert.SProjRefIdeal.S32x4x64, broadcastInDim Cert.SProjRefIdeal.S32x4x64 ![] Cert.SProjRefIdeal.Gen.bcast_S_S32x4x64 (constant S_ .f32 0x00000000#32)⟩]
    Cert.SProjRefIdeal.Gen.concatenates_S32x4x3072_S32x4x1024_S32x4x1024_S32x4x2048_S32x4x256_S32x4x256_S32x4x256_S32x4x8_S32x4x8_S32x4x48_S32x4x64_S32x4x8064_d2

/-- The whole projection: reordering the weights' columns before the product is reordering the product's. -/
theorem eq0 : p3 (P x w) = reordered (q x w) := by
  funext i
  obtain ⟨b, t, j, rfl⟩ : ∃ b t j, i = ix3 b t j := ⟨i 0, i 1, i 2, by funext a; fin_cases a <;> rfl⟩
  rw [p3_apply]
  simp only [wcols_apply]
  pointwise [reordered]
  iterate 10 refine sum_dite _ _ _ _ fun h => ?_
  exact Finset.sum_eq_zero fun k _ => mul_zero _

/-- The channels of the convolution. -/
theorem cols_qkv : extractStridedSlice S32x4x3072 ![0, 0, 0] (p3 (P x w)) slices_S32x4x8064_S32x4x3072_0_0_0
    = extractStridedSlice S32x4x3072 ![0, 0, 0] (q x w) Cert.SProjRefIdeal.Gen.slices_S32x4x8000_S32x4x3072_0_0_0 := by
  funext i
  pointwise [prod]
  exact Finset.sum_congr rfl fun k _ => congrArg _ (wcols_qkv w k _ (i 2).isLt)

/-- The compressed keys and values. -/
theorem cols_kvc : extractStridedSlice S32x4x256 ![0, 0, 7168] (p3 (P x w)) slices_S32x4x8064_S32x4x256_0_0_7168
    = extractStridedSlice S32x4x256 ![0, 0, 5136] (q x w) Cert.SProjRefIdeal.Gen.slices_S32x4x8000_S32x4x256_0_0_5136 := by
  funext i
  pointwise [prod]
  exact Finset.sum_congr rfl fun k _ => congrArg _ (wcols_kvc w k _ _ (by idx_bounds i; dsimp only; omega) (by dsimp only; omega))

/-- The selected keys and values. -/
theorem cols_kvs : extractStridedSlice S32x4x256 ![0, 0, 7424] (p3 (P x w)) slices_S32x4x8064_S32x4x256_0_0_7424
    = extractStridedSlice S32x4x256 ![0, 0, 5392] (q x w) Cert.SProjRefIdeal.Gen.slices_S32x4x8000_S32x4x256_0_0_5392 := by
  funext i
  pointwise [prod]
  exact Finset.sum_congr rfl fun k _ => congrArg _ (wcols_kvs w k _ _ (by idx_bounds i; dsimp only; omega) (by dsimp only; omega))

/-- The windowed keys and values. -/
theorem cols_kvw : extractStridedSlice S32x4x256 ![0, 0, 7680] (p3 (P x w)) slices_S32x4x8064_S32x4x256_0_0_7680
    = extractStridedSlice S32x4x256 ![0, 0, 5648] (q x w) Cert.SProjRefIdeal.Gen.slices_S32x4x8000_S32x4x256_0_0_5648 := by
  funext i
  pointwise [prod]
  exact Finset.sum_congr rfl fun k _ => congrArg _ (wcols_kvw w k _ _ (by idx_bounds i; dsimp only; omega) (by dsimp only; omega))

variable (m : (ℓ : Loc nD τ sig) → Buf (Elt Ideal) ℓ) (ρ : Dev nD → PrngReg)

/-- The kernel's run: each result at its term of the call's result, the arguments unchanged. -/
theorem run : θ_run (defs (F := Ideal)) (onTc (τ := τ) (main (F := Ideal))) ⟨m, fun _ => 0, ρ⟩ fun r => ∀ c : Dev nD,
      (∀ b : Ref sig .tc, b ∈ [main_v16, main_v28, main_v31, main_v32, main_v33] →
        r.2.mem ((c.tc : Thread nD τ).loc b) = after hostOps1 (Pipeline.withArrays spec0 c (V0 m c) fun w => (dats m 0 c).arrAt w (cfgs 0).N) (Proc.devRef .tc b))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨fun b hb => by
      refine ((h c).2 b (Pipeline.mem_restRefs_of b ?_ ?_)).trans rfl
      all_goals revert b; decide,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩)
    (run_main m ρ)

/-- The kernel and the reference compute the same five arrays. -/
theorem claim : Cert.algebraic_SProjIdeal_SProjRefIdeal (hSProjIdeal := Cert.SProjIdeal.Gen.facts) (hSProjRefIdeal := Cert.SProjRefIdeal.Gen.facts) := by
  intro m g m' g' _ hm
  let U := fun c : Dev nD => Pipeline.withArrays spec0 c (V0 m c) fun w => (dats m 0 c).arrAt w (cfgs 0).N
  refine ⟨fun c => after hostOps1 (U c) (Proc.devRef .tc main_v16), fun c => after hostOps1 (U c) (Proc.devRef .tc main_v28),
    fun c => after hostOps1 (U c) (Proc.devRef .tc main_v31), fun c => after hostOps1 (U c) (Proc.devRef .tc main_v32),
    fun c => after hostOps1 (U c) (Proc.devRef .tc main_v33), ?_, ?_⟩
  · refine (θ_run _ _ _).mono (fun r h c => ?_) (run m g)
    obtain ⟨hb, h0⟩ := h c
    exact ⟨hb _ (by simp), hb _ (by simp), hb _ (by simp), hb _ (by simp), hb _ (by simp), h0⟩
  · refine (θ_run _ _ _).mono (fun r h c => ?_) (Cert.SProjRefIdeal.Value.run m' g')
    obtain ⟨h1, h2, h3, h4, h5, h6⟩ := h c
    obtain ⟨e0, e1, e2, e3⟩ := hm c
    have hU : U c (Proc.devRef .tc main_v15) = P (m ((c : Thread nD τ).loc main_arg0)) (m ((c : Thread nD τ).loc main_arg3)) := entry m c
    have k1 : U c (Proc.devRef .tc main_arg1) = m ((c : Thread nD τ).loc main_arg1) := kept m c _ (.inl rfl)
    have k2 : U c (Proc.devRef .tc main_arg2) = m ((c : Thread nD τ).loc main_arg2) := kept m c _ (.inr rfl)
    refine ⟨h1.trans ?_, h2.trans ?_, h3.trans ?_, h4.trans ?_, h5.trans ?_, h6⟩
    · refine ((tail0 (U c)).trans ?_).symm; rw [hU, e0, e3]; exact eq0 _ _
    · refine ((tail1 (U c)).trans ?_).symm; rw [hU, e0, e3, cols_kvc]
    · refine ((tail2 (U c)).trans ?_).symm; rw [hU, e0, e3, cols_kvs]
    · refine ((tail3 (U c)).trans ?_).symm; rw [hU, k1, e0, e1, e3, cols_kvw]
    · refine ((tail4 (U c)).trans ?_).symm; rw [hU, k2, e0, e2, e3, cols_qkv]

end Cert.SProjIdeal.Value

end
-- ==== Proof.Post.Block.lean ====
/- The output projection's arithmetic: what one grid point computes from its blocks, in plain sums. -/
module

public import proofs.«01_k».proof.Proof.Gen.PostIdeal.Skeleton
public import Idealize.ShloMosaic.Lib.Pipeline.ValueKit

@[expose] public section

set_option maxRecDepth 16384

noncomputable section

open Idealize.ShloMosaic Idealize.ShloMosaic.TcCoe

namespace Cert.PostIdeal.Value

open Cert.PostIdeal Cert.PostIdeal.Gen

/-- The logistic function. -/
def gate (z : EReal) : EReal := Ideal.div 1 (1 + Ideal.exp (0 - z))

/-- A row less its mean, over the square root of its variance and a small constant, at one of its places. -/
def normalized (y : Fin 1024 → EReal) (j : Fin 1024) : EReal :=
  (y j - Ideal.div (∑ x, y x) (Ideal.ofBits FTy.f32 1149239296#32))
    * Ideal.rsqrt (Ideal.div (∑ x, (y x - Ideal.div (∑ x, y x) (Ideal.ofBits FTy.f32 1149239296#32))
          * (y x - Ideal.div (∑ x, y x) (Ideal.ofBits FTy.f32 1149239296#32))) (Ideal.ofBits FTy.f32 1149239296#32)
        + Ideal.ofBits FTy.f32 925353388#32)

/-- The body's sum before the normalization, at a place of its block: the scaled token and the gated branches' product. -/
theorem pay2_apply (x3 x4 : Vec Ideal S1x256x1024 .f32) (x0 x1 x2 : Vec Ideal S256x1024 .f32) (x5 : Vec Ideal S1024x1024 .bf16)
    (a : Fin 256) (j : Fin 1024) : k0_pay2 (F := Ideal) x3 x1 x4 x2 x0 x5 (ix2 a j)
      = Ideal.ofBits FTy.f32 1066940400#32 * x0 (ix2 a j)
        + ∑ k : Fin 1024, (gate (x3 (ix3 0 a k)) * x1 (ix2 a k) + gate (x4 (ix3 0 a k)) * x2 (ix2 a k)) * x5 (ix2 k j) := by
  pointwise [k0_pay2, gate]

/-- The body's normalization, at a place of its block. -/
theorem pay3_apply (v : FVec Ideal S256x1024 .f32) (x6 x7 : Vec Ideal S1x1024 .f32) (a : Fin 256) (j : Fin 1024) :
    k0_pay3 (F := Ideal) v x6 x7 (ix2 a j) = normalized (fun k => v (ix2 a k)) j * x6 (ix2 0 j) + x7 (ix2 0 j) := by
  pointwise [k0_pay3, normalized]

/-- Rounding changes nothing: the second result's block is the first's. -/
theorem pay4_eq (v : FVec Ideal S256x1024 .f32) (x6 x7 : Vec Ideal S1x1024 .f32) (i : S256x1024.Idx) :
    k0_pay4 (F := Ideal) v x6 x7 i = k0_pay3 (F := Ideal) v x6 x7 i := rfl

end Cert.PostIdeal.Value

end
-- ==== Proof.Post.Array.lean ====
/- The output projection's two arrays after the run: every row is the normalized sum of its token and its gated branches'
   product, whichever point of the grid wrote it. -/
module

public import proofs.«01_k».proof.Proof.Gen.PostIdeal.Value
public import proofs.«01_k».proof.Proof.Post.Block

@[expose] public section

set_option maxRecDepth 16384

noncomputable section

open Idealize.ShloMosaic Idealize.ShloMosaic.TcCoe Idealize.SL.Sem
open Idealize.ShloMosaic.Pipeline (Dat)

namespace Cert.PostIdeal.Value

open Cert.PostIdeal Cert.PostIdeal.Gen

variable (m : (ℓ : Loc nD τ sig) → Buf (Elt Ideal) ℓ)

/-- A merge gate's column of the projected tokens, for the row `r` of the flattened tokens. -/
def gcol (P : FVec Ideal S4x4096x8064 .f32) (o : ℕ) (ho : o + 1024 ≤ 8064) (r : Fin 16384) (k : Fin 1024) : EReal :=
  gate (P (ix3 ⟨r.val / 4096, by omega⟩ ⟨r.val % 4096, by omega⟩ ⟨o + k.val, by omega⟩))

/-- The sum that is normalized. -/
def presum (X O1 O2 : FVec Ideal S16384x1024 .f32) (P : FVec Ideal S4x4096x8064 .f32) (W : FVec Ideal S1024x1024 .bf16)
    (r : Fin 16384) (j : Fin 1024) : EReal :=
  Ideal.ofBits FTy.f32 1066940400#32 * X (ix2 r j)
    + ∑ k : Fin 1024, (gcol P 5120 (by omega) r k * O1 (ix2 r k) + gcol P 6144 (by omega) r k * O2 (ix2 r k)) * W (ix2 k j)

/-- The normalized sums, scaled and shifted. -/
def merged (X O1 O2 : FVec Ideal S16384x1024 .f32) (P : FVec Ideal S4x4096x8064 .f32) (W : FVec Ideal S1024x1024 .bf16)
    (G B : FVec Ideal S1x1024 .f32) : FVec Ideal S16384x1024 .f32 :=
  fun i => normalized (presum X O1 O2 P W (i 0)) (i 1) * G (ix2 0 (i 1)) + B (ix2 0 (i 1))

/-- Where each window's block lies at a grid point. -/
theorem idx : ∀ t : Fin cfg0.N, win0_0.index t = ![t.val, 0] ∧ win0_1.index t = ![t.val, 0] ∧ win0_2.index t = ![t.val, 0]
    ∧ win0_3.index t = ![t.val / 16, t.val % 16, 5] ∧ win0_4.index t = ![t.val / 16, t.val % 16, 6]
    ∧ win0_5.index t = ![0, 0] ∧ win0_6.index t = ![0, 0] ∧ win0_7.index t = ![0, 0]
    ∧ win0_10.index t = ![t.val, 0] ∧ win0_11.index t = ![t.val, 0] :=
  (by decide +kernel : ∀ t : Fin grid0.N, _)

/-- The first gate's block, read off the projected tokens. -/
theorem gate3 (c : Dev nD) (t : Fin cfg0.N) (a : Fin 256) (k : Fin 1024) (hr : t.val * 256 + a.val < 16384) :
    gate (X0_3 m c t (ix3 0 a k)) = gcol (V m c main_arg3) 5120 (by omega) ⟨t.val * 256 + a.val, hr⟩ k := by
  have h : (cfg0.win 3).moved (cfg0.grid.coords t) (ix3 0 a k) = true := moved0_3 t _
  unfold gcol X0_3 Pipeline.Window.fill
  rw [dif_pos h]
  refine congrArg gate ?_
  blk_point [iblk, V, idx t]

theorem gate4 (c : Dev nD) (t : Fin cfg0.N) (a : Fin 256) (k : Fin 1024) (hr : t.val * 256 + a.val < 16384) :
    gate (X0_4 m c t (ix3 0 a k)) = gcol (V m c main_arg3) 6144 (by omega) ⟨t.val * 256 + a.val, hr⟩ k := by
  have h : (cfg0.win 4).moved (cfg0.grid.coords t) (ix3 0 a k) = true := moved0_4 t _
  unfold gcol X0_4 Pipeline.Window.fill
  rw [dif_pos h]
  refine congrArg gate ?_
  blk_point [iblk, V, idx t]

/-- The body's sum, at a place of its block, is the array's at the place where it lies. -/
theorem presum_eq (c : Dev nD) (t : Fin cfg0.N) (a : Fin 256) (j : Fin 1024) (hr : t.val * 256 + a.val < 16384) :
    k0_pay2 (F := Ideal) (X0_3 m c t) (iblk m c 1 t) (X0_4 m c t) (iblk m c 2 t) (iblk m c 0 t) (iblk m c 5 t) (ix2 a j)
      = presum (V m c main_arg0) (V m c main_arg1) (V m c main_arg2) (V m c main_arg3) (V m c main_v1) ⟨t.val * 256 + a.val, hr⟩ j := by
  refine (pay2_apply _ _ _ _ _ _ a j).trans ?_
  unfold presum
  simp only [gate3 m c t _ _ hr, gate4 m c t _ _ hr]
  blk_point [iblk, V, idx t]

/-- What the body stores of its first result is the array's block. -/
theorem point (c : Dev nD) (t : Fin cfg0.N) (a : Fin 256) (j : Fin 1024) (hr : t.val * 256 + a.val < 16384) :
    k0_pay3 (F := Ideal) (k0_pay2 (F := Ideal) (X0_3 m c t) (iblk m c 1 t) (X0_4 m c t) (iblk m c 2 t) (iblk m c 0 t) (iblk m c 5 t))
        (iblk m c 6 t) (iblk m c 7 t) (ix2 a j)
      = merged (V m c main_arg0) (V m c main_arg1) (V m c main_arg2) (V m c main_arg3) (V m c main_v1) (V m c main_v7) (V m c main_v8)
          (ix2 ⟨t.val * 256 + a.val, hr⟩ j) := by
  refine (pay3_apply _ _ _ a j).trans ?_
  simp only [presum_eq m c t a _ hr]
  unfold merged
  blk_point [iblk, V, idx t]

/-- … at an index of the block. -/
theorem point' (c : Dev nD) (t : Fin cfg0.N) (y : S256x1024.Idx) (i : S16384x1024.Idx)
    (h0 : (i 0).val = t.val * 256 + (y 0).val) (h1 : (i 1).val = (y 1).val) :
    k0_pay3 (F := Ideal) (k0_pay2 (F := Ideal) (X0_3 m c t) (iblk m c 1 t) (X0_4 m c t) (iblk m c 2 t) (iblk m c 0 t) (iblk m c 5 t))
        (iblk m c 6 t) (iblk m c 7 t) y
      = merged (V m c main_arg0) (V m c main_arg1) (V m c main_arg2) (V m c main_arg3) (V m c main_v1) (V m c main_v7) (V m c main_v8) i := by
  have hr : t.val * 256 + (y 0).val < 16384 := h0 ▸ (i 0).isLt
  have hy : y = ix2 (y 0) (y 1) := by funext a; fin_cases a <;> rfl
  have hi : i = ix2 ⟨t.val * 256 + (y 0).val, hr⟩ (y 1) := by
    funext a; fin_cases a
    · exact Fin.ext h0
    · exact Fin.ext h1
  rw [hy, hi]
  exact point m c t (y 0) (y 1) hr

/-- The first array after the run. -/
theorem first (c : Dev nD) : (dats m 0 c).arrAt 10 (cfgs 0).N
    = merged (V m c main_arg0) (V m c main_arg1) (V m c main_arg2) (V m c main_arg3) (V m c main_v1) (V m c main_v7) (V m c main_v8) := by
  refine (dats m 0 c).arrAt_eq_of_covers 10 _ (by decide +kernel) fun t _ y => ?_
  blk_simp
  rw [after0_10]
  by_cases h : t.val % 64 = 0
  · rw [outsAt0_A m c t h]; frame_out
    exact point' m c t y _ (by blk_simp [idx t]) (by blk_simp [idx t])
  · rw [outsAt0_B m c t h]; frame_out
    exact point' m c t y _ (by blk_simp [idx t]) (by blk_simp [idx t])

/-- The second array after the run: the same values. -/
theorem second (c : Dev nD) : (dats m 0 c).arrAt 11 (cfgs 0).N
    = merged (V m c main_arg0) (V m c main_arg1) (V m c main_arg2) (V m c main_arg3) (V m c main_v1) (V m c main_v7) (V m c main_v8) := by
  refine (dats m 0 c).arrAt_eq_of_covers 11 _ (by decide +kernel) fun t _ y => ?_
  blk_simp
  rw [after0_11]
  by_cases h : t.val % 64 = 0
  · rw [outsAt0_A m c t h]; frame_out
    exact point' m c t y _ (by blk_simp [idx t]) (by blk_simp [idx t])
  · rw [outsAt0_B m c t h]; frame_out
    exact point' m c t y _ (by blk_simp [idx t]) (by blk_simp [idx t])

/-- The weights and the two rows, as the call finds them. -/
theorem V_weights (c : Dev nD) : V m c main_v1
    = (shapeCast S1024x1024 (m ((c : Thread nD τ).loc main_arg4)) shapeCasts_S1x1024x1024_S1024x1024 : FVec Ideal S1024x1024 .f32) := by
  show StableHlo.after hostOps0 (fun b => m (c, b)) (Proc.devRef .tc main_v1) = _
  after_results <;> rfl
theorem V_scale (c : Dev nD) : V m c main_v7 = shapeCast S1x1024 (shapeCast S1024 (m ((c : Thread nD τ).loc main_arg5)) shapeCasts_S1x1024_S1024) shapeCasts_S1024_S1x1024 := by
  show StableHlo.after hostOps0 (fun b => m (c, b)) (Proc.devRef .tc main_v7) = _
  after_results <;> rfl
theorem V_shift (c : Dev nD) : V m c main_v8 = shapeCast S1x1024 (shapeCast S1024 (m ((c : Thread nD τ).loc main_arg6)) shapeCasts_S1x1024_S1024) shapeCasts_S1024_S1x1024 := by
  show StableHlo.after hostOps0 (fun b => m (c, b)) (Proc.devRef .tc main_v8) = _
  after_results <;> rfl

end Cert.PostIdeal.Value

end
-- ==== Proof.Post.Reference.lean ====
/- What the output projection's reference computes, in the kernel's sums. -/
module

public import proofs.«01_k».proof.Proof.Post.Array
public import proofs.«01_k».proof.Proof.Gen.PostRefIdeal.Run

@[expose] public section

set_option maxRecDepth 16384

noncomputable section

open Idealize.ShloMosaic Idealize.ShloMosaic.TcCoe Idealize.SL.Sem Idealize.ShloMosaic.StableHlo

namespace Cert.PostRefIdeal.Value

open Cert.PostRefIdeal Cert.PostRefIdeal.Gen
open Cert.PostIdeal.Value (gate normalized gcol presum merged)

/-- Both branches' gates, token by token. -/
def gates (P : FVec Ideal S4x4096x8064 .f32) : FVec Ideal S4x4096x2048 .f32 :=
  Host.divf (broadcastInDim S4x4096x2048 ![] bcast_S_S4x4096x2048 (constant S_ .f32 0x3F800000#32))
    (addf (broadcastInDim S4x4096x2048 ![] bcast_S_S4x4096x2048 (constant S_ .f32 0x3F800000#32))
      (Host.exp (Host.negf (extractStridedSlice S4x4096x2048 ![0, 0, 5120] P slices_S4x4096x8064_S4x4096x2048_0_0_5120))))

theorem gates_apply (P : FVec Ideal S4x4096x8064 .f32) (b : Fin 4) (t : Fin 4096) (k : Fin 2048) :
    gates P (ix3 b t k) = gate (P (ix3 b t ⟨5120 + k.val, by omega⟩)) := by
  unfold gate
  rw [zero_sub]
  pointwise [gates]

/-- The reference's sum before the normalization. -/
def rsum (X O1 O2 : FVec Ideal S16384x1024 .f32) (P : FVec Ideal S4x4096x8064 .f32) (w : FVec Ideal S1x1024x1024 .f32) : FVec Ideal S16384x1024 .f32 :=
  addf (mulf (broadcastInDim S16384x1024 ![] bcast_S_S16384x1024 (constant S_ .f32 0x3F9837F0#32)) X)
    (Host.dotGeneral dot_S16384x1024_S1024x1024_S16384x1024_1_0_0_1_n_n none
      (addf (mulf (shapeCast S16384x1024 (extractStridedSlice S4x4096x1024 ![0, 0, 0] (gates P) slices_S4x4096x2048_S4x4096x1024_0_0_0) shapeCasts_S4x4096x1024_S16384x1024) O1)
        (mulf (shapeCast S16384x1024 (extractStridedSlice S4x4096x1024 ![0, 0, 1024] (gates P) slices_S4x4096x2048_S4x4096x1024_0_0_1024) shapeCasts_S4x4096x1024_S16384x1024) O2))
      (shapeCast S1024x1024 w shapeCasts_S1x1024x1024_S1024x1024))

/-- … is the kernel's. -/
theorem rsum_apply (X O1 O2 : FVec Ideal S16384x1024 .f32) (P : FVec Ideal S4x4096x8064 .f32) (w : FVec Ideal S1x1024x1024 .f32) (r : Fin 16384) (j : Fin 1024) :
    rsum X O1 O2 P w (ix2 r j) = presum X O1 O2 P (shapeCast S1024x1024 w shapeCasts_S1x1024x1024_S1024x1024 : FVec Ideal S1024x1024 .f32) r j := by
  pointwise [rsum, presum, gcol]
  simp only [gates_apply]
  have e : ∀ k : Fin 1024, (⟨5120 + (1024 + k.val), by omega⟩ : Fin 8064) = ⟨6144 + k.val, by omega⟩ := fun k => Fin.ext (by dsimp only; omega)
  simp only [e]

/-- The reference's normalization. -/
def rnorm (Y : FVec Ideal S16384x1024 .f32) (g b : FVec Ideal S1x1024 .f32) : FVec Ideal S16384x1024 .f32 :=
  have mean : FVec Ideal S16384x1 .f32 := Host.divf (broadcastInDim S16384x1 ![0] bcast_S16384_S16384x1_0
    (Host.reduceAdd Y (constant S_ .f32 0x00000000#32) reducesTo_S16384x1024_S16384_d1 h_S_)) (broadcastInDim S16384x1 ![] bcast_S_S16384x1 (constant S_ .f32 0x44800000#32))
  have yc : FVec Ideal S16384x1024 .f32 := subf Y (broadcastInDim S16384x1024 ![0, 1] bcast_S16384x1_S16384x1024_0_1 mean)
  have var : FVec Ideal S16384x1 .f32 := Host.divf (broadcastInDim S16384x1 ![0] bcast_S16384_S16384x1_0
    (Host.reduceAdd (mulf yc yc) (constant S_ .f32 0x00000000#32) reducesTo_S16384x1024_S16384_d1 h_S_)) (broadcastInDim S16384x1 ![] bcast_S_S16384x1 (constant S_ .f32 0x44800000#32))
  addf (mulf (mulf yc (broadcastInDim S16384x1024 ![0, 1] bcast_S16384x1_S16384x1024_0_1
      (Host.rsqrt (addf var (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 (shapeCast S1024 g shapeCasts_S1x1024_S1024))))
    (broadcastInDim S16384x1024 ![0, 1] bcast_S1x1024_S16384x1024_0_1 (broadcastInDim S1x1024 ![1] bcast_S1024_S1x1024_1 (shapeCast S1024 b shapeCasts_S1x1024_S1024)))

/-- … at an index. -/
theorem rnorm_apply (Y : FVec Ideal S16384x1024 .f32) (g b : FVec Ideal S1x1024 .f32) (r : Fin 16384) (j : Fin 1024) :
    rnorm Y g b (ix2 r j) = normalized (fun k => Y (ix2 r k)) j * g (ix2 0 j) + b (ix2 0 j) := by
  pointwise [rnorm, normalized]

variable (m' : (ℓ : Loc nD τ sig) → Buf (Elt Ideal) ℓ)

/-- The reference's first result, in these terms. -/
theorem res0_eq (c : Dev nD) : res_main_v42 m' c
    = rnorm (rsum (m' ((c.tc : Thread nD τ).loc main_arg0)) (m' ((c.tc : Thread nD τ).loc main_arg1)) (m' ((c.tc : Thread nD τ).loc main_arg2))
        (m' ((c.tc : Thread nD τ).loc main_arg3)) (m' ((c.tc : Thread nD τ).loc main_arg4)))
      (m' ((c.tc : Thread nD τ).loc main_arg5)) (m' ((c.tc : Thread nD τ).loc main_arg6)) := rfl

/-- Its second is the same values. -/
theorem res1_eq (c : Dev nD) : res_main_v43 m' c = res_main_v42 m' c := rfl

end Cert.PostRefIdeal.Value

end
-- ==== Proof.Post.Claim.lean ====
/- The output projection's algebraic claim: the kernel's two arrays are the reference's. -/
module

public import proofs.«01_k».proof.Defs
public import proofs.«01_k».proof.Proof.Post.Reference

@[expose] public section

set_option maxRecDepth 16384

noncomputable section

open Idealize.ShloMosaic Idealize.ShloMosaic.TcCoe Idealize.SL.Sem Idealize.ShloMosaic.StableHlo

namespace Cert.PostIdeal.Value

open Cert.PostIdeal Cert.PostIdeal.Gen
open Cert.PostRefIdeal.Value (rnorm rsum rnorm_apply rsum_apply res0_eq res1_eq)

variable (m : (ℓ : Loc nD τ sig) → Buf (Elt Ideal) ℓ)

/-- A row reshaped there and back is the row. -/
theorem row_eq (g : FVec Ideal S1x1024 .f32) (j : Fin 1024) :
    (shapeCast S1x1024 (shapeCast S1024 g shapeCasts_S1x1024_S1024) shapeCasts_S1024_S1x1024 : FVec Ideal S1x1024 .f32) (ix2 0 j) = g (ix2 0 j) := by
  pointwise

/-- The kernel's array at an index. -/
theorem merged_apply (X O1 O2 : FVec Ideal S16384x1024 .f32) (P : FVec Ideal S4x4096x8064 .f32) (W : FVec Ideal S1024x1024 .bf16)
    (G B : FVec Ideal S1x1024 .f32) (r : Fin 16384) (j : Fin 1024) :
    merged X O1 O2 P W G B (ix2 r j) = normalized (presum X O1 O2 P W r) j * G (ix2 0 j) + B (ix2 0 j) := rfl

/-- The kernel's array is the reference's, from the same arguments. -/
theorem merged_eq (X O1 O2 : FVec Ideal S16384x1024 .f32) (P : FVec Ideal S4x4096x8064 .f32) (w : FVec Ideal S1x1024x1024 .f32)
    (g b : FVec Ideal S1x1024 .f32) :
    merged X O1 O2 P (shapeCast S1024x1024 w shapeCasts_S1x1024x1024_S1024x1024 : FVec Ideal S1024x1024 .f32)
      (shapeCast S1x1024 (shapeCast S1024 g shapeCasts_S1x1024_S1024) shapeCasts_S1024_S1x1024)
      (shapeCast S1x1024 (shapeCast S1024 b shapeCasts_S1x1024_S1024) shapeCasts_S1024_S1x1024)
    = rnorm (rsum X O1 O2 P w) g b := by
  funext i
  obtain ⟨r, j, rfl⟩ : ∃ r j, i = ix2 r j := ⟨i 0, i 1, by funext a; fin_cases a <;> rfl⟩
  refine (merged_apply _ _ _ _ _ _ _ r j).trans (Eq.trans ?_ (rnorm_apply _ g b r j).symm)
  simp only [rsum_apply]
  rw [row_eq, row_eq]

/-- The kernel's array, from its arguments. -/
theorem merged_args (c : Dev nD) :
    merged (V m c main_arg0) (V m c main_arg1) (V m c main_arg2) (V m c main_arg3) (V m c main_v1) (V m c main_v7) (V m c main_v8)
    = rnorm (rsum (m ((c : Thread nD τ).loc main_arg0)) (m ((c : Thread nD τ).loc main_arg1)) (m ((c : Thread nD τ).loc main_arg2))
        (m ((c : Thread nD τ).loc main_arg3)) (m ((c : Thread nD τ).loc main_arg4)))
      (m ((c : Thread nD τ).loc main_arg5)) (m ((c : Thread nD τ).loc main_arg6)) := by
  rw [V_main_arg0, V_main_arg1, V_main_arg2, V_main_arg3, V_weights, V_scale, V_shift]
  exact merged_eq _ _ _ _ _ _ _

/-- The kernel and the reference compute the same two arrays. -/
theorem claim : Cert.algebraic_PostIdeal_PostRefIdeal (hPostIdeal := Cert.PostIdeal.Gen.facts) (hPostRefIdeal := Cert.PostRefIdeal.Gen.facts) := by
  intro m g m' g' _ hm
  let A := fun c : Dev nD => merged (V m c main_arg0) (V m c main_arg1) (V m c main_arg2) (V m c main_arg3) (V m c main_v1) (V m c main_v7) (V m c main_v8)
  refine ⟨fun c => A c, fun c => A c, ?_, ?_⟩
  · refine (θ_run _ _ _).mono (fun r h c => ?_) (run_blocks m g)
    obtain ⟨h1, h2, _, _, _, _, hargs⟩ := h c
    exact ⟨h1.trans (first m c), h2.trans (second m c), hargs⟩
  · refine (θ_run _ _ _).mono (fun r h c => ?_) (Cert.PostRefIdeal.Value.run m' g')
    obtain ⟨h1, h2, hargs⟩ := h c
    obtain ⟨e0, e1, e2, e3, e4, e5, e6, _, _⟩ := hm c
    have hA : Cert.PostRefIdeal.Value.res_main_v42 m' c = A c := by
      refine (res0_eq m' c).trans ?_
      rw [e0, e1, e2, e3, e4, e5, e6]
      exact (merged_args m c).symm
    exact ⟨h1.trans hA, h2.trans ((res1_eq m' c).trans hA), hargs⟩

end Cert.PostIdeal.Value

end
-- ==== Proof.Combine.Gather.lean ====
/- One row's transfer of the gather: what it moves, what it delivers, and the step that issues it. -/
module

public import proofs.«01_k».proof.Proof.Gen.CombineIdeal.Launch
public import proofs.«01_k».proof.Proof.Gen.CombineIdeal.Skeleton
public import Idealize.ShloMosaic.Lib.Pipeline.FrameBody
public import Idealize.ShloMosaic.Lib.Ring
public import Idealize.ShloMosaic.Lib.Batch
public import Idealize.ShloMosaic.Lib.Tactic
public import Idealize.ShloMosaic.Lib.ViewIndex
public import Idealize.ShloMosaic.Lib.ValueIdx
public import Idealize.ShloMosaic.Lib.ValueLayout

@[expose] public section

set_option maxRecDepth 16384

noncomputable section

namespace Cert.CombineIdeal.Run

open Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (Pipeline.UD sig nD τ) ℕ

/-- The experts' rows, left in the large memory, and the scratch that holds the six rows of each token of a block. -/
abbrev ysM : Memref sig .tc .hbm S131072x1024 .f32 := Memref.whole main_arg3
abbrev scM : Memref sig .tc .vmem S6x128x1024 .f32 := Memref.whole cc0_scratch0

abbrev YsBuf (c : Dev nD) : Type := Buf (Elt F) (ysM.view.loc (c : Thread nD τ))
abbrev ScBuf (c : Dev nD) : Type := Buf (Elt F) (scM.view.loc (c : Thread nD τ))

/-- Transfer `t` of a block's 768 is of token `t / 6` and of its expert number `t % 6`; its row of the scratch: -/
theorem row_inb (t : ℕ) (ht : t < 768) : ∀ a, (![t % 6, t / 6, 0] : Fin 3 → ℕ) a + S1x1x1024.size a ≤ S6x128x1024.size a := by
  intro a; fin_cases a
  · show t % 6 + 1 ≤ 6; omega
  · show t / 6 + 1 ≤ 128; omega
  · show 0 + 1024 ≤ 1024; omega
def rowSet (t : Fin 768) : Finset S6x128x1024.Idx := (Rect.unit (s := S6x128x1024) ![t.val % 6, t.val / 6, 0] S1x1x1024.size (row_inb t.val t.isLt)).set

theorem mem_rowSet (t : Fin 768) (y : S6x128x1024.Idx) : y ∈ rowSet t ↔ (y 0).val = t.val % 6 ∧ (y 1).val = t.val / 6 := by
  unfold rowSet
  rw [Rect.mem_set_unit]
  have h2 : (y 2).val < 1024 := (y 2).isLt
  constructor
  · intro H
    have a0 : t.val % 6 ≤ (y 0).val ∧ (y 0).val < t.val % 6 + 1 := H 0
    have a1 : t.val / 6 ≤ (y 1).val ∧ (y 1).val < t.val / 6 + 1 := H 1
    omega
  · intro H a; fin_cases a
    · show t.val % 6 ≤ (y 0).val ∧ (y 0).val < t.val % 6 + 1; omega
    · show t.val / 6 ≤ (y 1).val ∧ (y 1).val < t.val / 6 + 1; omega
    · show 0 ≤ (y 2).val ∧ (y 2).val < 0 + 1024; omega

theorem rowSet_disjoint : ∀ t t' : Fin 768, t ≠ t' → Disjoint (rowSet t) (rowSet t') := fun t t' hne => by
  rw [Finset.disjoint_left]; intro y hy hy'; rw [mem_rowSet] at hy hy'; exact hne (Fin.ext (by omega))

theorem rowSet_cover : Finset.univ.biUnion rowSet = Finset.univ := by
  ext y
  simp only [Finset.mem_biUnion, Finset.mem_univ, true_and, iff_true]
  have h0 : (y 0).val < 6 := (y 0).isLt
  have h1 : (y 1).val < 128 := (y 1).isLt
  exact ⟨⟨6 * (y 1).val + (y 0).val, by omega⟩, (mem_rowSet _ _).mpr (by show _ = (6 * (y 1).val + (y 0).val) % 6 ∧ _ = (6 * (y 1).val + (y 0).val) / 6; omega)⟩

/-- The row of the experts' array with number `n`: its elements. -/
def srcSet (n : Fin 131072) : Finset S131072x1024.Idx := Finset.univ.filter fun y => (y 0).val = n.val

/-- What the scratch holds after the gather: row `(k, r)` is the experts' row with number `sw k r`. -/
def gathered (sw : Fin 6 → Fin 128 → Fin 131072) (ys : S131072x1024.Idx → Elt F .f32) : S6x128x1024.Idx → Elt F .f32 :=
  fun y => ys (ix2 (sw (y 0) (y 1)) (y 2))

/-- The row number of transfer `t`. -/
def rowOf (sw : Fin 6 → Fin 128 → Fin 131072) (t : Fin 768) : Fin 131072 :=
  sw ⟨t.val % 6, Nat.mod_lt _ (by norm_num)⟩ ⟨t.val / 6, by have := t.isLt; omega⟩

/-- Read token number `t` of the experts' rows, one for each transfer: whole, on the elements `S`, and what is left. -/
abbrev tokOn (c : Dev nD) (ys : YsBuf (F := F) c) (S : Finset S131072x1024.Idx) (t : ℕ) : sProp 𝕄 :=
  ysM.view.loc (c : Thread nD τ) ↦[S]{Transfers.shareTokN fullShare t} ys

/-- A row of the scratch held at some contents, and at what the gather leaves there. -/
abbrev rowAny (c : Dev nD) (t : Fin 768) : sProp 𝕄 := iprop(∃ g, scM.view.loc (c : Thread nD τ) ↦[rowSet t]{fullShare} g)

/-- What transfer `t` delivers: its row of the scratch filled, and the row of the experts' array back under the transfer's token. -/
def delivery (c : Dev nD) (sw : Fin 6 → Fin 128 → Fin 131072) (ys : YsBuf (F := F) c) (t : Fin 768) : sProp 𝕄 :=
  iprop((scM.view.loc (c : Thread nD τ) ↦[rowSet t]{fullShare} gathered sw ys) ∗ tokOn c ys (srcSet (rowOf sw t)) t.val)

instance delivery_storable (c : Dev nD) (sw : Fin 6 → Fin 128 → Fin 131072) (ys : YsBuf (F := F) c) (t : Fin 768) :
    BI.Storable (upEmb : UEmb _ 𝕄) (delivery c sw ys t) := by
  unfold delivery; infer_instance

/-- The batch of a block's 768 transfers on the kernel's own semaphore: `j` issued, `u` units waited for. -/
def batchAt (c : Dev nD) (sw : Fin 6 → Fin 128 → Fin 131072) (ys : YsBuf (F := F) c) (j u : ℕ) : sProp 𝕄 :=
  Transfers.Batch (countersEmb (U := Pipeline.UD sig nD τ)) (c : Thread nD τ) (.dma cc0_scratch1.sem) () 128 (delivery c sw ys) j u

/-- The program's own spelling of a row of the scratch and of a row of the experts' array. -/
theorem dst_amount (off : Fin 3 → ℕ) (h : ∀ a, off a + S1x1x1024.size a ≤ S6x128x1024.size a) :
    ((scM.slice (Rect.unit (s := S6x128x1024) off S1x1x1024.size h) (fun _ => rfl)).squeeze S1x1024 squeezes_S1x1x1024_S1x1024).view.dmaCredit = 128 :=
  View.dmaCredit_closed _ S1x1024 rfl cc0_scratch0.idx rfl 128 (by decide)

theorem dst_set (off : Fin 3 → ℕ) (h : ∀ a, off a + S1x1x1024.size a ≤ S6x128x1024.size a) (t : Fin 768) (ht : off = ![t.val % 6, t.val / 6, 0]) :
    ((scM.slice (Rect.unit (s := S6x128x1024) off S1x1x1024.size h) (fun _ => rfl)).squeeze S1x1024 squeezes_S1x1x1024_S1x1024).view.set = rowSet t := by
  subst ht
  exact (View.set_reshape _ _).trans (View.set_slice_whole _ _)

theorem src_set (off : Fin 2 → ℕ) (h : ∀ a, off a + S1x1024.size a ≤ S131072x1024.size a) (n : Fin 131072) (hn : off = ![n.val, 0]) :
    (ysM.slice (Rect.unit (s := S131072x1024) off S1x1024.size h) (fun _ => rfl)).view.set = srcSet n := by
  subst hn
  refine (View.set_slice_whole _ _).trans (Finset.ext fun y => ?_)
  rw [Rect.mem_set_unit]
  have h1 : (y 1).val < 1024 := (y 1).isLt
  unfold srcSet
  rw [Finset.mem_filter]
  constructor
  · intro H
    have a0 : n.val ≤ (y 0).val ∧ (y 0).val < n.val + 1 := H 0
    exact ⟨Finset.mem_univ _, by omega⟩
  · rintro ⟨-, H⟩ a
    fin_cases a
    · show n.val ≤ (y 0).val ∧ (y 0).val < n.val + 1; omega
    · show 0 ≤ (y 1).val ∧ (y 1).val < 0 + 1024; omega

/-- A transfer's payload written over the row agrees, on the row, with what the scratch holds after the gather. -/
theorem landed (c : Dev nD) (sw : Fin 6 → Fin 128 → Fin 131072) (ys : YsBuf (F := F) c) (fd : ScBuf (F := F) c) (t : Fin 768)
    (off : Fin 3 → ℕ) (h : ∀ a, off a + S1x1x1024.size a ≤ S6x128x1024.size a) (ht : off = ![t.val % 6, t.val / 6, 0])
    (offs : Fin 2 → ℕ) (hs : ∀ a, offs a + S1x1024.size a ≤ S131072x1024.size a) (hn : offs = ![(rowOf sw t).val, 0])
    (y : S6x128x1024.Idx) (hy : y ∈ rowSet t) :
    (((scM.slice (Rect.unit (s := S6x128x1024) off S1x1x1024.size h) (fun _ => rfl)).squeeze S1x1024 squeezes_S1x1x1024_S1x1024).view.write (Elt F) fd
      (ReadAs.same.apply ((ysM.slice (Rect.unit (s := S131072x1024) offs S1x1024.size hs) (fun _ => rfl)).view.read (Elt F) ys)) Finset.univ) y = gathered sw ys y := by
  subst ht; subst hn
  rw [← dst_set _ h t rfl] at hy
  obtain ⟨x, -, rfl⟩ := Finset.mem_map.mp hy
  have hm := (dst_set _ h t rfl ▸ hy)
  rw [View.write_emb_of_mem _ _ (Finset.mem_univ _)]
  rw [mem_rowSet] at hm
  obtain ⟨h0, h1⟩ := hm
  have hx : Shape.reshapeEquiv squeezes_S1x1x1024_S1x1024.numel_eq x = ix3 0 (x 0) (x 1) :=
    (congrArg _ (ValueIdx.eq_ix2 x)).trans (ValueIdx.reshapeEquiv_ix2_1ab _ (x 0) (x 1))
  show ys ((Rect.unit (s := S131072x1024) ![(rowOf sw t).val, 0] S1x1024.size hs).emb x) = ys (ix2 (sw _ _) _)
  refine congrArg ys (funext fun a => Fin.ext ?_)
  have hx0 : (x 0).val < 1 := (x 0).isLt
  fin_cases a
  · show (rowOf sw t).val + 1 * (x 0).val = (sw _ _).val
    have e0 : ((scM.slice (Rect.unit (s := S6x128x1024) ![t.val % 6, t.val / 6, 0] S1x1x1024.size h) (fun _ => rfl)).squeeze S1x1024 squeezes_S1x1x1024_S1x1024).view.emb x 0
      = (⟨t.val % 6, Nat.mod_lt _ (by norm_num)⟩ : Fin 6) := Fin.ext h0
    have e1 : ((scM.slice (Rect.unit (s := S6x128x1024) ![t.val % 6, t.val / 6, 0] S1x1x1024.size h) (fun _ => rfl)).squeeze S1x1024 squeezes_S1x1x1024_S1x1024).view.emb x 1
      = (⟨t.val / 6, by have := t.isLt; omega⟩ : Fin 128) := Fin.ext h1
    rw [e0, e1]
    have hx0' : (x 0).val = 0 := by omega
    rw [hx0']
    rfl
  · show 0 + 1 * (x 1).val = ((Rect.unit (s := S6x128x1024) ![t.val % 6, t.val / 6, 0] S1x1x1024.size h).emb (Shape.reshapeEquiv squeezes_S1x1x1024_S1x1024.numel_eq x) 2).val
    rw [hx]
    rfl

set_option maxHeartbeats 1000000 in
/-- One transfer issued: the next of the batch, its token cut to the row it reads and the rest of the token kept. -/
theorem issue_one {α : Type} (c : Dev nD) (sw : Fin 6 → Fin 128 → Fin 131072) (ys : YsBuf (F := F) c) (t : Fin 768)
    (off : Fin 3 → ℕ) (h : ∀ a, off a + S1x1x1024.size a ≤ S6x128x1024.size a) (ht : off = ![t.val % 6, t.val / 6, 0])
    (offs : Fin 2 → ℕ) (hs : ∀ a, offs a + S1x1024.size a ≤ S131072x1024.size a) (hn : offs = ![(rowOf sw t).val, 0])
    {Λ : Labels} {defs : Defs nD τ sig (Elt F) Λ} {𝒱 : Variants}
    {hsrc} {hdst} {hsem} {k : PUnit → Prog (TpuEff nD τ sig (Elt F) Λ .tc) α} {bd} {Q : α → sProp 𝕄} :
    iprop(tokOn c ys Finset.univ t.val ∗ rowAny c t ∗ batchAt c sw ys t.val 0)
      ⊢ iprop((batchAt c sw ys (t.val + 1) 0 ∗ tokOn c ys (Finset.univ \ srcSet (rowOf sw t)) t.val -∗ wp frame (wpE defs 𝒱 (c : Thread nD τ) bd) Set.univ (k ⟨⟩) Q)
          -∗ wp frame (wpE defs 𝒱 (c : Thread nD τ) bd) Set.univ
            (.op (.enqueueDma (ysM.slice (Rect.unit (s := S131072x1024) offs S1x1024.size hs) (fun _ => rfl))
              (.here ((scM.slice (Rect.unit (s := S6x128x1024) off S1x1x1024.size h) (fun _ => rfl)).squeeze S1x1024 squeezes_S1x1x1024_S1x1024))
              (.dma cc0_scratch1.sem) hsrc hdst hsem) k) Q) := by
  iintro ⟨Ht, ⟨%g, Hr⟩, HB⟩ Hk
  ihave Ht' := (pointsTo_split_subset (Finset.subset_univ (srcSet (rowOf sw t)))).1 $$ Ht
  icases Ht' with ⟨Hs, Hrest⟩
  unfold batchAt
  have hD : iprop((((scM.slice (Rect.unit (s := S6x128x1024) off S1x1x1024.size h) (fun _ => rfl)).squeeze S1x1024 squeezes_S1x1x1024_S1x1024).view.loc (c : Thread nD τ) ↦[rowSet t]{fullShare}
        (((scM.slice (Rect.unit (s := S6x128x1024) off S1x1x1024.size h) (fun _ => rfl)).squeeze S1x1024 squeezes_S1x1x1024_S1x1024).view.write (Elt F) g
      (ReadAs.same.apply ((ysM.slice (Rect.unit (s := S131072x1024) offs S1x1024.size hs) (fun _ => rfl)).view.read (Elt F) ys)) Finset.univ))
      ∗ ((ysM.slice (Rect.unit (s := S131072x1024) offs S1x1024.size hs) (fun _ => rfl)).view.loc (c : Thread nD τ) ↦[(ysM.slice (Rect.unit (s := S131072x1024) offs S1x1024.size hs) (fun _ => rfl)).view.set]{Transfers.shareTokN fullShare t.val} ys))
      ⊢ delivery c sw ys ⟨t.val, t.isLt⟩ := by
    rw [src_set offs hs _ hn]
    unfold delivery
    iintro ⟨H1, H2⟩
    isplitl [H1]
    · iapply (Entails.of_eq (pointsTo_congr fun y hy => landed c sw ys g t off h ht offs hs hn y hy)) $$ H1
    iexact H2
  iapply (Transfers.wp_dmaBatch (countersEmb (U := Pipeline.UD sig nD τ)) 𝒱 (c : Thread nD τ) bd (sm := .dma cc0_scratch1.sem) (D := delivery c sw ys)
    (src := ysM.slice (Rect.unit (s := S131072x1024) offs S1x1024.size hs) (fun _ => rfl)) (dst := (scM.slice (Rect.unit (s := S6x128x1024) off S1x1x1024.size h) (fun _ => rfl)).squeeze S1x1024 squeezes_S1x1x1024_S1x1024)
    (Sd := rowSet t) (fs := ys) (fd := g) (q := Transfers.shareTokN fullShare t.val) () 128 (dst_amount off h) (dst_set off h t ht).subset t.isLt (Nat.zero_le _) hD) $$ [Hs Hr HB]
  · rw [src_set offs hs _ hn]
    isplitl [Hs]; · iexact Hs
    isplitl [Hr]; · iexact Hr
    iexact HB
  · iintro HB
    iapply Hk
    isplitl [HB]; · iexact HB
    iexact Hrest

end Cert.CombineIdeal.Run

end
-- ==== Proof.Combine.Block.lean ====
/- The combination's arithmetic: what one grid point computes from its blocks, in plain sums. -/
module

public import proofs.«01_k».proof.Proof.Combine.Run
public import proofs.«01_k».proof.Proof.Post.Block
public import Idealize.ShloMosaic.Lib.Pipeline.Covers

@[expose] public section

set_option maxRecDepth 16384

noncomputable section

namespace Cert.CombineIdeal.Run

open Cert.CombineIdeal Cert.CombineIdeal.Gen
open Idealize.ShloMosaic Idealize.ShloMosaic.TcCoe Idealize.SL.Sem
open Idealize.ShloMosaic.Pipeline (Dat)
open Cert.PostIdeal.Value (gate normalized)

/-- The shared expert's feed-forward of a token by one column of its last matrix. -/
def shared (x : Fin 1024 → EReal) (g u : Fin 1024 → Fin 256 → EReal) (d : Fin 256 → EReal) : EReal :=
  ∑ f : Fin 256, ((∑ k : Fin 1024, x k * g k f) * gate (∑ k : Fin 1024, x k * g k f)) * (∑ k : Fin 1024, x k * u k f) * d f

/-- The scaled token and the shared expert, at a place of the block. -/
theorem pay2_apply (x : Vec Ideal S128x1024 .f32) (wg wu : Vec Ideal S1024x256 .bf16) (wd : Vec Ideal S256x1024 .bf16) (a : Fin 128) (j : Fin 1024) :
    k0_pay2 (F := Ideal) x wg wu wd (ix2 a j)
      = Ideal.ofBits FTy.f32 1066940400#32 * x (ix2 a j) + shared (fun k => x (ix2 a k)) (fun k f => wg (ix2 k f)) (fun k f => wu (ix2 k f)) (fun f => wd (ix2 f j)) := by
  pointwise [k0_pay2, shared, gate]

/-- The sum with the six weighed rows, at a place of the block. -/
theorem pay5_apply (v : FVec Ideal S128x1024 .f32) (w : Vec Ideal S128x8 .f32) (P : Fin 6 → Vec Ideal S1x128x1024 .f32) (a : Fin 128) (j : Fin 1024) :
    k0_pay5 (F := Ideal) v (k0_pay3 (F := Ideal) w) (k0_pay4 (F := Ideal) w) (P 0) (P 1) (P 2) (P 3) (P 4) (P 5) (ix2 a j)
      = v (ix2 a j) + ∑ k : Fin 6, w (ix2 a (Fin.castLE (by norm_num) k)) * P k (ix3 0 a j) := by
  rw [Fin.sum_univ_six]
  simp only [← add_assoc]
  pointwise [k0_pay5, k0_pay4, k0_pay3]
  rfl

/-- The normalization, at a place of the block. -/
theorem pay1_apply (v : FVec Ideal S128x1024 .f32) (g b : Vec Ideal S1x1024 .f32) (a : Fin 128) (j : Fin 1024) :
    k0_pay1 (F := Ideal) v (k0_pay6 (F := Ideal) g) (k0_pay7 (F := Ideal) b)
        (shapeCast S128x1 (multiReduction .add [1] S128 v 0x00000000#32 reduces_S128x1024_S128 (.inl rfl) rfl) shapeCasts_S128_S128x1) (ix2 a j)
      = normalized (fun k => v (ix2 a k)) j * g (ix2 0 j) + b (ix2 0 j) := by
  pointwise [k0_pay1, k0_pay6, k0_pay7, normalized]

/-- What the body stores, at a place of the block: the normalized sum of the scaled token, the shared expert and the six weighed rows. -/
theorem combined_apply (x : Vec Ideal S128x1024 .f32) (w : Vec Ideal S128x8 .f32) (wg wu : Vec Ideal S1024x256 .bf16) (wd : Vec Ideal S256x1024 .bf16) (g b : Vec Ideal S1x1024 .f32)
    (P : Fin 6 → Vec Ideal S1x128x1024 .f32) (a : Fin 128) (j : Fin 1024) :
    combined (F := Ideal) x w wg wu wd g b P (ix2 a j)
      = normalized (fun c => Ideal.ofBits FTy.f32 1066940400#32 * x (ix2 a c)
            + shared (fun k => x (ix2 a k)) (fun k f => wg (ix2 k f)) (fun k f => wu (ix2 k f)) (fun f => wd (ix2 f c))
            + ∑ k : Fin 6, w (ix2 a (Fin.castLE (by norm_num) k)) * P k (ix3 0 a c)) j * g (ix2 0 j) + b (ix2 0 j) := by
  refine (pay1_apply _ g b a j).trans ?_
  simp only [pay5_apply, pay2_apply]

end Cert.CombineIdeal.Run

end
-- ==== Proof.Combine.Array.lean ====
/- The combination's array after the run: every row is the normalized sum of its scaled token, the shared expert and its six
   weighed rows. -/
module

public import proofs.«01_k».proof.Proof.Combine.Block

@[expose] public section

set_option maxRecDepth 16384

noncomputable section

namespace Cert.CombineIdeal.Run

open Cert.CombineIdeal Cert.CombineIdeal.Gen
open Idealize.ShloMosaic Idealize.ShloMosaic.TcCoe Idealize.SL.Sem
open Idealize.ShloMosaic.Pipeline (Dat)
open Cert.PostIdeal.Value (gate normalized)

/-- The row that the slot table names for token `r`'s expert number `k`. -/
def slotRow (S : IVec S8x16384 32) (k : Fin 6) (r : Fin 16384) : Fin 131072 :=
  ⟨(S (ix2 (Fin.castLE (by norm_num) k) r)).toNat % 131072, Nat.mod_lt _ (by norm_num)⟩

/-- The sum that is normalized. -/
def presum (X : FVec Ideal S16384x1024 .f32) (S : IVec S8x16384 32) (W : FVec Ideal S16384x8 .f32) (Y : FVec Ideal S131072x1024 .f32)
    (G U : FVec Ideal S1024x256 .f32) (D : FVec Ideal S256x1024 .f32) (r : Fin 16384) (j : Fin 1024) : EReal :=
  Ideal.ofBits FTy.f32 1066940400#32 * X (ix2 r j)
    + shared (fun k => X (ix2 r k)) (fun k f => G (ix2 k f)) (fun k f => U (ix2 k f)) (fun f => D (ix2 f j))
    + ∑ k : Fin 6, W (ix2 r (Fin.castLE (by norm_num) k)) * Y (ix2 (slotRow S k r) j)

/-- The normalized sums, scaled and shifted. -/
def result (X : FVec Ideal S16384x1024 .f32) (S : IVec S8x16384 32) (W : FVec Ideal S16384x8 .f32) (Y : FVec Ideal S131072x1024 .f32)
    (G U : FVec Ideal S1024x256 .f32) (D : FVec Ideal S256x1024 .f32) (g b : FVec Ideal S1x1024 .f32) : FVec Ideal S16384x1024 .f32 :=
  fun i => normalized (presum X S W Y G U D (i 0)) (i 1) * g (ix2 0 (i 1)) + b (ix2 0 (i 1))

/-- Where each window's block lies at a grid point. -/
theorem idx : ∀ t : Fin cfg0.N, win0_0.index t = ![0, t.val] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![t.val, 0] :=
  (by decide +kernel : ∀ t : Fin grid0.N, _)

section
variable {F : FTy → Type} [FloatOps F] (m : (ℓ : Loc nD τ sig) → Buf (Elt F) ℓ)

/-- The slot table's block is its columns of the point's tokens. -/
theorem slot_at (c : Dev nD) (t : Fin cfg0.N) (k : Fin 8) (a : Fin 128) (hr : t.val * 128 + a.val < 16384) :
    (iblk m c 0 t : Vec F S8x128 .i32) (ix2 k a) = (V m c main_arg1 : IVec S8x16384 32) (ix2 k ⟨t.val * 128 + a.val, hr⟩) := by
  blk_ext [iblk, V, idx t]

theorem N_eq : cfg0.N = 128 := N_0

/-- A token's row within the array. -/
theorem row_lt (t : Fin cfg0.N) (a : Fin 128) : t.val * 128 + a.val < 16384 := by
  have h := t.isLt; have := N_eq; omega

/-- Where every word of the six rows is below the number of the experts' rows, every block names rows that are there. -/
theorem inRange_of_lt (h : ∀ (c : Dev nD) (k : Fin 6) (r : Fin 16384), ((m ((c : Thread nD τ).loc main_arg1) : IVec S8x16384 32) (ix2 (Fin.castLE (by norm_num) k) r)).toNat < 131072) :
    InRange m := fun c t => names_swOf _ fun k a => by
  exact lt_of_eq_of_lt (congrArg BitVec.toNat ((slot_at m c t (Fin.castLE (by norm_num) k) a (row_lt t a)).trans (congrFun (V_main_arg1 m c) _))) (h c k _)

theorem swOf_block (c : Dev nD) (t : Fin cfg0.N) (k : Fin 6) (a : Fin 128) :
    swOf (iblk m c 0 t : Vec F S8x128 .i32) k a = slotRow (V m c main_arg1) k ⟨t.val * 128 + a.val, row_lt t a⟩ :=
  Fin.ext (congrArg (fun w : BitVec 32 => w.toNat % 131072) (slot_at m c t _ a (row_lt t a)))

end

variable (m : (ℓ : Loc nD τ sig) → Buf (Elt Ideal) ℓ)

/-- What the body leaves in a point's block is the array's block. -/
theorem point (c : Dev nD) (t : Fin cfg0.N) (a : Fin 128) (j : Fin 1024) :
    oblk m c t (ix2 a j)
      = result (V m c main_arg0) (V m c main_arg1) (V m c main_v0) (V m c main_arg3) (V m c main_v2) (V m c main_v4) (V m c main_v6) (V m c main_v9) (V m c main_v10)
          (ix2 ⟨t.val * 128 + a.val, row_lt t a⟩ j) := by
  have hr := row_lt t a
  unfold oblk
  refine (combined_apply _ _ _ _ _ _ _ _ a j).trans ?_
  have e : ∀ (k : Fin 6) (c' : Fin 1024), planeOf (swOf (iblk m c 0 t : Vec Ideal S8x128 .i32)) (V m c main_arg3) k (ix3 0 a c')
      = (V m c main_arg3 : FVec Ideal S131072x1024 .f32) (ix2 (slotRow (V m c main_arg1) k ⟨t.val * 128 + a.val, hr⟩) c') := fun k c' =>
    congrArg (fun s => (V m c main_arg3 : FVec Ideal S131072x1024 .f32) (ix2 s c')) (swOf_block m c t k a)
  simp only [e]
  unfold result presum
  blk_point [iblk, V, idx t]
  rfl

/-- … at an index of the block. -/
theorem point' (c : Dev nD) (t : Fin cfg0.N) (y : S128x1024.Idx) (i : S16384x1024.Idx)
    (h0 : (i 0).val = t.val * 128 + (y 0).val) (h1 : (i 1).val = (y 1).val) :
    oblk m c t y
      = result (V m c main_arg0) (V m c main_arg1) (V m c main_v0) (V m c main_arg3) (V m c main_v2) (V m c main_v4) (V m c main_v6) (V m c main_v9) (V m c main_v10) i := by
  have hy : y = ix2 (y 0) (y 1) := by funext a; fin_cases a <;> rfl
  have hi : i = ix2 ⟨t.val * 128 + (y 0).val, row_lt t (y 0)⟩ (y 1) := by
    funext a; fin_cases a
    · exact Fin.ext h0
    · exact Fin.ext h1
  rw [hy, hi]
  exact point m c t (y 0) (y 1)

/-- The array after the run. -/
theorem final (c : Dev nD) : (dats m 0 c).arrAt 8 cfg0.N
    = result (V m c main_arg0) (V m c main_arg1) (V m c main_v0) (V m c main_arg3) (V m c main_v2) (V m c main_v4) (V m c main_v6) (V m c main_v9) (V m c main_v10) := by
  refine (dats m 0 c).arrAt_eq_of_covers 8 _ (by decide +kernel) fun t _ y => ?_
  blk_simp
  rw [after0_8]
  exact point' m c t y _ (by blk_simp [idx t]) (by blk_simp [idx t])

/-! ## What the call finds in the arrays that the host prepares -/

theorem V_wts (c : Dev nD) : V m c main_v0 = transpose S16384x8 [1, 0] (m ((c : Thread nD τ).loc main_arg2)) transposes_S8x16384_S16384x8_1_0 := by
  show StableHlo.after hostOps0 (fun b => m (c, b)) (Proc.devRef .tc main_v0) = _
  after_results <;> rfl
theorem V_gate (c : Dev nD) : V m c main_v2 = (shapeCast S1024x256 (m ((c : Thread nD τ).loc main_arg4)) shapeCasts_S1x1024x256_S1024x256 : FVec Ideal S1024x256 .f32) := by
  show StableHlo.after hostOps0 (fun b => m (c, b)) (Proc.devRef .tc main_v2) = _
  after_results <;> rfl
theorem V_up (c : Dev nD) : V m c main_v4 = (shapeCast S1024x256 (m ((c : Thread nD τ).loc main_arg5)) shapeCasts_S1x1024x256_S1024x256 : FVec Ideal S1024x256 .f32) := by
  show StableHlo.after hostOps0 (fun b => m (c, b)) (Proc.devRef .tc main_v4) = _
  after_results <;> rfl
theorem V_down (c : Dev nD) : V m c main_v6 = (shapeCast S256x1024 (m ((c : Thread nD τ).loc main_arg6)) shapeCasts_S1x256x1024_S256x1024 : FVec Ideal S256x1024 .f32) := by
  show StableHlo.after hostOps0 (fun b => m (c, b)) (Proc.devRef .tc main_v6) = _
  after_results <;> rfl
theorem V_scale (c : Dev nD) : V m c main_v9 = shapeCast S1x1024 (shapeCast S1024 (m ((c : Thread nD τ).loc main_arg7)) shapeCasts_S1x1024_S1024) shapeCasts_S1024_S1x1024 := by
  show StableHlo.after hostOps0 (fun b => m (c, b)) (Proc.devRef .tc main_v9) = _
  after_results <;> rfl
theorem V_shift (c : Dev nD) : V m c main_v10 = shapeCast S1x1024 (shapeCast S1024 (m ((c : Thread nD τ).loc main_arg8)) shapeCasts_S1x1024_S1024) shapeCasts_S1024_S1x1024 := by
  show StableHlo.after hostOps0 (fun b => m (c, b)) (Proc.devRef .tc main_v10) = _
  after_results <;> rfl

end Cert.CombineIdeal.Run

end
-- ==== Proof.Combine.Range.lean ====
/- The slot tables that the precondition admits: every block of them names rows that are there. -/
module

public import proofs.«01_k».proof.Proof.Combine.Array
public import proofs.«01_k».proof.Proof.Gen.Pre_slot_range
public import Idealize.ShloMosaic.Lib.ReduceAll
public import Idealize.ShloMosaic.Lib.WordCmp

@[expose] public section

set_option maxRecDepth 16384

noncomputable section

namespace Cert.CombineIdeal.Run

open Cert.CombineIdeal Cert.CombineIdeal.Gen
open Idealize.ShloMosaic Idealize.ShloMosaic.TcCoe Idealize.SL.Sem

variable {F : FTy → Type} [FloatOps F]

/-- A word that is at least 0 and below `n`, both signed, is below it read unsigned. -/
theorem toNat_lt_of_signed (n : ℕ) (hn : n < 2147483648) (w : BitVec 32) (h0 : IntOp.cmpi .sge w 0#32 = 1#1) (h1 : IntOp.cmpi .slt w (BitVec.ofNat 32 n) = 1#1) : w.toNat < n := by
  rw [WordCmp.cmpi_sge_eq, WordCmp.ofBool_decide_eq_one_iff] at h0
  rw [WordCmp.cmpi_slt_eq, WordCmp.ofBool_decide_eq_one_iff] at h1
  have e0 : (0#32).toInt = 0 := by decide
  have e2 : (BitVec.ofNat 32 n).toNat = n := by rw [BitVec.toNat_ofNat]; omega
  have e1 : (BitVec.ofNat 32 n).toInt = n := by rw [BitVec.toInt_eq_toNat_of_lt (by omega), e2]
  rw [e0] at h0; rw [e1] at h1
  rw [BitVec.toInt_eq_toNat_cond] at h0 h1
  have := w.isLt
  split at h0 <;> omega

/-- Under the precondition every entry of the slot table's first six rows is below the number of the experts' rows. -/
theorem slot_lt (x0 : FVec F S16384x1024 .f32) (S : IVec S8x16384 32) (x2 : FVec F S8x16384 .f32) (x3 : FVec F S131072x1024 .f32) (x4 x5 : FVec F S1x1024x256 .f32)
    (x6 : FVec F S1x256x1024 .f32) (x7 x8 : FVec F S1x1024 .f32)
    (h : Cert.Pre_slot_range.fn (F := F) x0 S x2 x3 x4 x5 x6 x7 x8 = fun _ => 1#1) (k : Fin 6) (r : Fin 16384) : (S (ix2 (Fin.castLE (by norm_num) k) r)).toNat < 131072 := by
  haveI : Subsingleton Cert.Pre_slot_range.S_.Idx := ⟨fun a b => funext fun i => i.elim0⟩
  have e := Host.reduce_andi_all _ _ _ _ _ (congrFun h (fun i => i.elim0)) (ix2 k r)
  obtain ⟨e0, e1⟩ := IntOp.andi_eq_one.1 e
  have hk : extractStridedSlice Cert.Pre_slot_range.S6x16384 ![0, 0] S Cert.Pre_slot_range.Facts.slices_S8x16384_S6x16384_0_0 (ix2 k r) = S (ix2 (Fin.castLE (by norm_num) k) r) := by
    refine congrArg S (funext fun a => Fin.ext ?_)
    match a with
    | 0 => show 0 + k.val = k.val; omega
    | 1 => show 0 + r.val = r.val; omega
  rw [← hk]
  exact toNat_lt_of_signed 131072 (by norm_num) _ e0 e1

/-- Every block of a launch's slot table names rows that are there, from the precondition at its memory. -/
theorem inRange_of_pre (m : (ℓ : Loc nD τ sig) → Buf (Elt F) ℓ)
    (h : ∀ c : Dev nD, Cert.Pre_slot_range.fn (F := F) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) = fun _ => 1#1) : InRange m :=
  inRange_of_lt m fun c k r => slot_lt _ _ _ _ _ _ _ _ _ (h c) k r

end Cert.CombineIdeal.Run

end
-- ==== Proof.Combine.Reference.lean ====
/- What the combination's reference computes, in the kernel's sums. -/
module

public import proofs.«01_k».proof.Proof.Combine.Array
public import proofs.«01_k».proof.Proof.Gen.CombineRefIdeal.Run
public import Idealize.ShloMosaic.Lib.WordCmp

@[expose] public section

set_option maxRecDepth 16384

noncomputable section

namespace Cert.CombineRefIdeal.Value

open Idealize.ShloMosaic Idealize.ShloMosaic.TcCoe Idealize.SL.Sem
open Cert.CombineRefIdeal Cert.CombineRefIdeal.Gen
open Cert.PostIdeal.Value (gate normalized)
open Cert.CombineIdeal.Run (shared slotRow presum)

/-! ## Rows named by a table -/

section Rows
variable {α : Type}

/-- The dimension numbers of `y[s]` for an array `y` of `N` rows and a table `s` of `A` by `B` indices. -/
abbrev rowDims (N C A B : Nat) (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The gather of whole rows, read at an index: the row that the clamped index names. -/
theorem gather_rows {N C A B w : Nat} (hN : 0 < N) (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (j : Fin C) :
    Host.gather (rowDims N C A B wf) x idx (ix3 a b j) = x (ix2 ⟨min (idx (ix3 a b 0)).toInt.toNat (N - 1), by omega⟩ j) := by
  unfold Host.gather
  congr 1
  funext i
  refine Fin.ext ?_
  show (rowDims N C A B wf).start (ix3 a b j) idx i + (rowDims N C A B wf).batchCoord (ix3 a b j) i + (rowDims N C A B wf).offCoord (ix3 a b j) i = _
  rw [GatherDims.batchCoord_eq_zero _ _ _ List.not_mem_nil, Nat.add_zero]
  have h01 : i = 0 ∨ i = 1 := by
    match i with
    | ⟨0, _⟩ => exact .inl rfl
    | ⟨1, _⟩ => exact .inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N C A B wf).startIndexMap from List.mem_singleton.mpr rfl)]
    have hsi : (rowDims N C A B wf).siIdx (ix3 a b j) ⟨List.idxOf (0 : Fin 2) (rowDims N C A B wf).startIndexMap,
        List.idxOf_lt_length_iff.2 (List.mem_singleton.mpr rfl)⟩ = ix3 a b 0 := by
      funext k; refine Fin.ext ?_
      match k with
      | ⟨0, _⟩ => rfl
      | ⟨1, _⟩ => rfl
      | ⟨2, _⟩ => rfl
    rw [hsi]
    rfl
  · unfold GatherDims.start GatherDims.offCoord
    rw [dif_neg (show (1 : Fin 2) ∉ (rowDims N C A B wf).startIndexMap by simp),
      dif_pos ((GatherDims.mem_sKept _ _).mpr ⟨by simp, List.not_mem_nil⟩), Nat.zero_add]
    rfl

end Rows

/-! ## The parts of the result -/

/-- The slot table's first six rows. -/
abbrev six (S : IVec S8x16384 32) : IVec S6x16384 32 := extractStridedSlice S6x16384 ![0, 0] S slices_S8x16384_S6x16384_0_0

/-- The table's entries as the gather's indices: a negative one counted from the end. -/
def wrapped (S : IVec S8x16384 32) : IVec S6x16384x1 32 :=
  broadcastInDim S6x16384x1 ![0, 1] bcast_S6x16384_S6x16384x1_0_1 (select (cmpi .slt (six S) (broadcastInDim S6x16384 ![] bcast_S_S6x16384 (constantI S_ 32 0#32)))
    (addi (six S) (broadcastInDim S6x16384 ![] bcast_S_S6x16384 (constantI S_ 32 131072#32))) (six S))

/-- The experts' rows of the six tables. -/
def picked (S : IVec S8x16384 32) (Y : FVec Ideal S131072x1024 .f32) : FVec Ideal S6x16384x1024 .f32 :=
  Host.gather gather_S131072x1024_S6x16384x1_S6x16384x1024_2_0_n_n_0_2_11024 Y (wrapped S)

/-- The weighed sum of the rows. -/
def routedSum (W : FVec Ideal S8x16384 .f32) (R : FVec Ideal S6x16384x1024 .f32) : FVec Ideal S16384x1024 .f32 :=
  Host.reduceAdd (mulf (broadcastInDim S6x16384x1024 ![0, 1, 2] bcast_S6x16384x1_S6x16384x1024_0_1_2
      (broadcastInDim S6x16384x1 ![0, 1] bcast_S6x16384_S6x16384x1_0_1 (extractStridedSlice S6x16384 ![0, 0] W slices_S8x16384_S6x16384_0_0))) R)
    (constant S_ .f32 0x00000000#32) reducesTo_S6x16384x1024_S16384x1024_d0 h_S_

/-- The shared expert of every token. -/
def sharedAll (X : FVec Ideal S16384x1024 .f32) (g u : FVec Ideal S1x1024x256 .f32) (d : FVec Ideal S1x256x1024 .f32) : FVec Ideal S16384x1024 .f32 :=
  have gx : FVec Ideal S16384x256 .f32 := Host.dotGeneral dot_S16384x1024_S1024x256_S16384x256_1_0_0_1_n_n none X (shapeCast S1024x256 g shapeCasts_S1x1024x256_S1024x256)
  have one : FVec Ideal S16384x256 .f32 := broadcastInDim S16384x256 ![] bcast_S_S16384x256 (constant S_ .f32 0x3F800000#32)
  Host.dotGeneral dot_S16384x256_S256x1024_S16384x1024_1_0_0_1_n_n none
    (mulf (mulf gx (Host.divf one (addf one (Host.exp (Host.negf gx)))))
      (Host.dotGeneral dot_S16384x1024_S1024x256_S16384x256_1_0_0_1_n_n none X (shapeCast S1024x256 u shapeCasts_S1x1024x256_S1024x256)))
    (shapeCast S256x1024 d shapeCasts_S1x256x1024_S256x1024)

/-- The sum before the normalization. -/
def rsum (X R H : FVec Ideal S16384x1024 .f32) : FVec Ideal S16384x1024 .f32 :=
  addf (mulf (broadcastInDim S16384x1024 ![] bcast_S_S16384x1024 (constant S_ .f32 0x3F9837F0#32)) X) (addf R H)

/-- The normalization of every row. -/
def rnorm (Y : FVec Ideal S16384x1024 .f32) (g b : FVec Ideal S1x1024 .f32) : FVec Ideal S16384x1024 .f32 :=
  have mean : FVec Ideal S16384x1 .f32 := Host.divf (broadcastInDim S16384x1 ![0] bcast_S16384_S16384x1_0
    (Host.reduceAdd Y (constant S_ .f32 0x00000000#32) reducesTo_S16384x1024_S16384_d1 h_S_)) (broadcastInDim S16384x1 ![] bcast_S_S16384x1 (constant S_ .f32 0x44800000#32))
  have yc : FVec Ideal S16384x1024 .f32 := subf Y (broadcastInDim S16384x1024 ![0, 1] bcast_S16384x1_S16384x1024_0_1 mean)
  have var : FVec Ideal S16384x1 .f32 := Host.divf (broadcastInDim S16384x1 ![0] bcast_S16384_S16384x1_0
    (Host.reduceAdd (mulf yc yc) (constant S_ .f32 0x00000000#32) reducesTo_S16384x1024_S16384_d1 h_S_)) (broadcastInDim S16384x1 ![] bcast_S_S16384x1 (constant S_ .f32 0x44800000#32))
  addf (mulf (mulf yc (broadcastInDim S16384x1024 ![0, 1] bcast_S16384x1_S16384x1024_0_1
      (Host.rsqrt (addf var (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 (shapeCast S1024 g shapeCasts_S1x1024_S1024))))
    (broadcastInDim S16384x1024 ![0, 1] bcast_S1x1024_S16384x1024_0_1 (broadcastInDim S1x1024 ![1] bcast_S1024_S1x1024_1 (shapeCast S1024 b shapeCasts_S1x1024_S1024)))

/-- The run's result, in these terms. -/
theorem res_eq (m : (ℓ : Loc nD τ sig) → Buf (Elt Ideal) ℓ) (c : Dev nD) : res_out0 (F := Ideal) m c
    = rnorm (rsum (m ((c.tc : Thread nD τ).loc main_arg0))
        (routedSum (m ((c.tc : Thread nD τ).loc main_arg2)) (picked (m ((c.tc : Thread nD τ).loc main_arg1)) (m ((c.tc : Thread nD τ).loc main_arg3))))
        (sharedAll (m ((c.tc : Thread nD τ).loc main_arg0)) (m ((c.tc : Thread nD τ).loc main_arg4)) (m ((c.tc : Thread nD τ).loc main_arg5)) (m ((c.tc : Thread nD τ).loc main_arg6))))
      (m ((c.tc : Thread nD τ).loc main_arg7)) (m ((c.tc : Thread nD τ).loc main_arg8)) := rfl

/-! ## The parts at an index -/

theorem wrapped_at (S : IVec S8x16384 32) (k : Fin 6) (r : Fin 16384) (h : (S (ix2 (Fin.castLE (by norm_num) k) r)).toNat < 131072) :
    wrapped S (ix3 k r 0) = S (ix2 (Fin.castLE (by norm_num) k) r) := by
  have key : Scalar.select (IntOp.cmpi CmpIPredicate.slt (S (ix2 (Fin.castLE (by norm_num) k) r)) 0#32) (IntOp.addi (S (ix2 (Fin.castLE (by norm_num) k) r)) 131072#32) (S (ix2 (Fin.castLE (by norm_num) k) r))
      = S (ix2 (Fin.castLE (by norm_num) k) r) := by
    have e : ¬ (S (ix2 (Fin.castLE (by norm_num) k) r)).toInt < (0#32).toInt := by
      rw [BitVec.toInt_eq_toNat_of_lt (by omega), BitVec.toInt_zero]; omega
    unfold Scalar.select
    rw [WordCmp.cmpi_slt_eq, if_neg]
    show ¬ _ = 1#1
    rw [WordCmp.ofBool_decide_eq_one_iff]; exact e
  refine Eq.trans ?_ key
  pointwise [wrapped]
  rfl

theorem picked_at (S : IVec S8x16384 32) (Y : FVec Ideal S131072x1024 .f32) (k : Fin 6) (r : Fin 16384) (j : Fin 1024) (h : (S (ix2 (Fin.castLE (by norm_num) k) r)).toNat < 131072) :
    picked S Y (ix3 k r j) = Y (ix2 (slotRow S k r) j) := by
  refine (gather_rows (by decide) _ Y (wrapped S) k r j).trans ?_
  congr 2
  refine Fin.ext ?_
  show min (wrapped S (ix3 k r 0)).toInt.toNat (131072 - 1) = (S (ix2 (Fin.castLE _ k) r)).toNat % 131072
  rw [wrapped_at S k r h, BitVec.toInt_eq_toNat_of_lt (by omega), Int.toNat_natCast, Nat.mod_eq_of_lt h]
  omega

theorem routedSum_apply (W : FVec Ideal S8x16384 .f32) (R : FVec Ideal S6x16384x1024 .f32) (r : Fin 16384) (j : Fin 1024) :
    routedSum W R (ix2 r j) = ∑ k : Fin 6, W (ix2 (Fin.castLE (by norm_num) k) r) * R (ix3 k r j) := by
  pointwise [routedSum]
  rfl

theorem sharedAll_apply (X : FVec Ideal S16384x1024 .f32) (g u : FVec Ideal S1x1024x256 .f32) (d : FVec Ideal S1x256x1024 .f32) (r : Fin 16384) (j : Fin 1024) :
    sharedAll X g u d (ix2 r j) = shared (fun k => X (ix2 r k)) (fun k f => g (ix3 0 k f)) (fun k f => u (ix3 0 k f)) (fun f => d (ix3 0 f j)) := by
  unfold shared gate
  simp only [zero_sub]
  pointwise [sharedAll]

theorem rsum_apply (X R H : FVec Ideal S16384x1024 .f32) (r : Fin 16384) (j : Fin 1024) :
    rsum X R H (ix2 r j) = Ideal.ofBits FTy.f32 1066940400#32 * X (ix2 r j) + (R (ix2 r j) + H (ix2 r j)) := by
  pointwise [rsum]

theorem rnorm_apply (Y : FVec Ideal S16384x1024 .f32) (g b : FVec Ideal S1x1024 .f32) (r : Fin 16384) (j : Fin 1024) :
    rnorm Y g b (ix2 r j) = normalized (fun k => Y (ix2 r k)) j * g (ix2 0 j) + b (ix2 0 j) := by
  pointwise [rnorm, normalized]

/-- The reference's array is the kernel's, where the slots are in range: the kernel adds the shared expert before the six rows, the reference after. -/
theorem value (X : FVec Ideal S16384x1024 .f32) (S : IVec S8x16384 32) (W : FVec Ideal S8x16384 .f32) (Y : FVec Ideal S131072x1024 .f32)
    (G U : FVec Ideal S1x1024x256 .f32) (D : FVec Ideal S1x256x1024 .f32) (g b : FVec Ideal S1x1024 .f32)
    (h : ∀ (k : Fin 6) (r : Fin 16384), (S (ix2 (Fin.castLE (by norm_num) k) r)).toNat < 131072) (r : Fin 16384) (j : Fin 1024) :
    rnorm (rsum X (routedSum W (picked S Y)) (sharedAll X G U D)) g b (ix2 r j)
      = Cert.CombineIdeal.Run.result X S (transpose Cert.CombineIdeal.S16384x8 [1, 0] W Cert.CombineIdeal.Facts₀.transposes_S8x16384_S16384x8_1_0) Y
          (shapeCast S1024x256 G shapeCasts_S1x1024x256_S1024x256) (shapeCast S1024x256 U shapeCasts_S1x1024x256_S1024x256) (shapeCast S256x1024 D shapeCasts_S1x256x1024_S256x1024)
          (shapeCast S1x1024 (shapeCast S1024 g shapeCasts_S1x1024_S1024) Cert.CombineIdeal.Facts₀.shapeCasts_S1024_S1x1024)
          (shapeCast S1x1024 (shapeCast S1024 b shapeCasts_S1x1024_S1024) Cert.CombineIdeal.Facts₀.shapeCasts_S1024_S1x1024) (ix2 r j) := by
  refine (rnorm_apply _ g b r j).trans ?_
  simp only [rsum_apply, routedSum_apply, sharedAll_apply, picked_at S Y _ _ _ (h _ _)]
  unfold Cert.CombineIdeal.Run.result presum
  pointwise []
  simp only [add_assoc, add_comm (shared _ _ _ _)]

end Cert.CombineRefIdeal.Value

end
-- ==== Proof.Combine.Claim.lean ====
/- The combination's claims: the kernel's frames under the slots' range, its reference's frames, and that both compute the
   same function over the extended reals. -/
module

public import proofs.«01_k».proof.Defs
public import proofs.«01_k».proof.Proof.Combine.Range
public import proofs.«01_k».proof.Proof.Combine.Reference
public import proofs.«01_k».proof.Proof.Gen.Combine.Skeleton

@[expose] public section

set_option maxRecDepth 16384

noncomputable section

namespace Cert.Combine.Claims

open Idealize.ShloMosaic Idealize.ShloMosaic.TcCoe Idealize.SL.Sem
open Cert.CombineIdeal.Gen Cert.Combine.Gen

/-! ## The kernel at the bits is the kernel at the ideal instance, read at the bits -/

section Transfer
variable {F : FTy → Type} [FloatOps F]

/-- The two prints' bodies are one. -/
theorem bodies_eq : (@Cert.Combine.defs₀ F _ _) = (@Cert.CombineIdeal.defs₀ F _ _) :=
  congrArg Defs.onTc (funext fun l => funext fun a => match l, a with
    | 0, (_, _) => rfl
    | ⟨_ + 1, h⟩, _ => absurd h (Nat.not_lt.2 (Nat.le_add_left _ _)))

/-- So are their body tables. -/
theorem defs_eq : (@Cert.Combine.defs F _ _) = (@Cert.CombineIdeal.defs F _ _) :=
  congrArg (Pipeline.defs Cert.CombineIdeal.pcfgs) bodies_eq

set_option maxHeartbeats 4000000 in
/-- So are their entry programs. -/
theorem main_eq : (@Cert.Combine.main F _ _) = (@Cert.CombineIdeal.main F _ _) := rfl

end Transfer

/-- The kernel runs from slots in range and leaves its arguments alone. -/
theorem frame : Cert.quiescent_Combine (hCombine := Cert.Combine.Gen.facts) (hPre_slot_range := Cert.Pre_slot_range.Gen.facts) := by
  intro m ρ hpre
  rw [defs_eq, main_eq]
  exact (θ_run _ _ _).mono (fun r h => ⟨fun c => (h.1 c).1, h.2⟩)
    (Cert.CombineIdeal.Run.run_all (F := Bits) m ρ (Cert.CombineIdeal.Run.inRange_of_pre (F := Bits) m hpre))

/-- So does the idealized kernel. -/
theorem frameIdeal : Cert.quiescent_CombineIdeal (hCombineIdeal := Cert.CombineIdeal.Gen.facts) (hPre_slot_range := Cert.Pre_slot_range.Gen.facts) := by
  intro m ρ hpre
  exact (θ_run _ _ _).mono (fun r h => ⟨fun c => (h.1 c).1, h.2⟩)
    (Cert.CombineIdeal.Run.run_all (F := Ideal) m ρ (Cert.CombineIdeal.Run.inRange_of_pre (F := Ideal) m hpre))

/-- The reference runs and leaves its arguments alone; it declares no semaphore. -/
theorem frameRef : Cert.quiescent_CombineRefIdeal (hCombineRefIdeal := Cert.CombineRefIdeal.Gen.facts) := fun m ρ _ =>
  (θ_run Cert.CombineRefIdeal.defs _ _).mono (fun r h => ⟨fun c => (h c).2, Idealize.ShloMosaic.sem_eq_zero_of_no_sems (by decide) r.2⟩)
    (Cert.CombineRefIdeal.Value.run (F := Ideal) m ρ)

/-- In particular from slots in range. -/
theorem frameRef_pre : Cert.quiescent_CombineRefIdeal_pre_slot_range (hCombineRefIdeal := Cert.CombineRefIdeal.Gen.facts)
    (hPre_slot_range := Cert.Pre_slot_range.Gen.facts) := fun m ρ _ => frameRef m ρ trivial

/-- The kernel and the reference compute the same array. -/
theorem algebraic : Cert.algebraic_CombineIdeal_CombineRefIdeal (hCombineIdeal := Cert.CombineIdeal.Gen.facts) (hCombineRefIdeal := Cert.CombineRefIdeal.Gen.facts)
    (hPre_slot_range := Cert.Pre_slot_range.Gen.facts) := by
  intro m g m' g' hpre hm
  have hlt := Cert.CombineIdeal.Run.slot_lt _ _ _ _ _ _ _ _ _ (hpre 0)
  refine ⟨fun c => (Cert.CombineIdeal.Run.dats (F := Ideal) m 0 c).arrAt 8 Cert.CombineIdeal.cfg0.N, ?_, ?_⟩
  · refine (θ_run _ _ _).mono (fun r h c => ?_) (Cert.CombineIdeal.Run.run_all (F := Ideal) m g (Cert.CombineIdeal.Run.inRange_of_pre (F := Ideal) m hpre))
    exact ⟨(h.1 c).2, (h.1 c).1⟩
  · refine (θ_run _ _ _).mono (fun r h c => ?_) (Cert.CombineRefIdeal.Value.run (F := Ideal) m' g')
    obtain rfl : c = 0 := Subsingleton.elim _ _
    refine ⟨(h 0).1.trans ?_, (h 0).2⟩
    obtain ⟨e0, e1, e2, e3, e4, e5, e6, e7, e8⟩ := hm 0
    refine Eq.trans ?_ (Cert.CombineIdeal.Run.final m 0).symm
    rw [Cert.CombineIdeal.Run.V_main_arg0, Cert.CombineIdeal.Run.V_main_arg1, Cert.CombineIdeal.Run.V_main_arg3, Cert.CombineIdeal.Run.V_wts, Cert.CombineIdeal.Run.V_gate,
      Cert.CombineIdeal.Run.V_up, Cert.CombineIdeal.Run.V_down, Cert.CombineIdeal.Run.V_scale, Cert.CombineIdeal.Run.V_shift]
    refine (Cert.CombineRefIdeal.Value.res_eq m' 0).trans ?_
    rw [e0, e1, e2, e3, e4, e5, e6, e7, e8]
    funext i
    have hi : i = ix2 (i 0) (i 1) := funext fun a => by
      match a with
      | 0 => rfl
      | 1 => rfl
    rw [hi]
    exact Cert.CombineRefIdeal.Value.value _ _ _ _ _ _ _ _ _ hlt (i 0) (i 1)

end Cert.Combine.Claims

end
-- ==== Proof.SCombine.Gather.lean ====
/- The sample's gather: what one row's transfer moves, what it delivers, and the step that issues it. -/
module

public import proofs.«01_k».proof.Proof.Gen.SCombineIdeal.Launch
public import proofs.«01_k».proof.Proof.Gen.SCombineIdeal.Skeleton
public import proofs.«01_k».proof.Proof.Combine.Body
public import Idealize.ShloMosaic.Lib.Pipeline.FrameBody
public import Idealize.ShloMosaic.Lib.Ring
public import Idealize.ShloMosaic.Lib.Batch
public import Idealize.ShloMosaic.Lib.Tactic
public import Idealize.ShloMosaic.Lib.ViewIndex
public import Idealize.ShloMosaic.Lib.ValueIdx
public import Idealize.ShloMosaic.Lib.ValueLayout

@[expose] public section

set_option maxRecDepth 16384

noncomputable section

namespace Cert.SCombineIdeal.Run

open Cert.SCombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Cert.CombineIdeal.Run (rowSet mem_rowSet rowSet_disjoint rowSet_cover)

variable {F : FTy → Type} [FloatOps F]

local notation "𝕄" => MT nD τ sig Unit (Elt F) ℕ (Pipeline.UD sig nD τ) ℕ

/-- The experts' rows, left in the large memory, and the scratch that holds the six rows of each token of a block. -/
abbrev ysM : Memref sig .tc .hbm S4864x1024 .f32 := Memref.whole main_arg3
abbrev scM : Memref sig .tc .vmem S6x128x1024 .f32 := Memref.whole cc0_scratch0

abbrev YsBuf (c : Dev nD) : Type := Buf (Elt F) (ysM.view.loc (c : Thread nD τ))
abbrev ScBuf (c : Dev nD) : Type := Buf (Elt F) (scM.view.loc (c : Thread nD τ))

/-- The row of the experts' array with number `n`: its elements. -/
def srcSet (n : Fin 4864) : Finset S4864x1024.Idx := Finset.univ.filter fun y => (y 0).val = n.val

/-- What the scratch holds after the gather: row `(k, r)` is the experts' row with number `sw k r`. -/
def gathered (sw : Fin 6 → Fin 128 → Fin 4864) (ys : S4864x1024.Idx → Elt F .f32) : S6x128x1024.Idx → Elt F .f32 :=
  fun y => ys (ix2 (sw (y 0) (y 1)) (y 2))

/-- The row number of transfer `t`. -/
def rowOf (sw : Fin 6 → Fin 128 → Fin 4864) (t : Fin 768) : Fin 4864 :=
  sw ⟨t.val % 6, Nat.mod_lt _ (by norm_num)⟩ ⟨t.val / 6, by have := t.isLt; omega⟩

/-- Read token number `t` of the experts' rows, one for each transfer: whole, on the elements `S`, and what is left. -/
abbrev tokOn (c : Dev nD) (ys : YsBuf (F := F) c) (S : Finset S4864x1024.Idx) (t : ℕ) : sProp 𝕄 :=
  ysM.view.loc (c : Thread nD τ) ↦[S]{Transfers.shareTokN fullShare t} ys

/-- A row of the scratch held at some contents, and at what the gather leaves there. -/
abbrev rowAny (c : Dev nD) (t : Fin 768) : sProp 𝕄 := iprop(∃ g, scM.view.loc (c : Thread nD τ) ↦[rowSet t]{fullShare} g)

/-- What transfer `t` delivers: its row of the scratch filled, and the row of the experts' array back under the transfer's token. -/
def delivery (c : Dev nD) (sw : Fin 6 → Fin 128 → Fin 4864) (ys : YsBuf (F := F) c) (t : Fin 768) : sProp 𝕄 :=
  iprop((scM.view.loc (c : Thread nD τ) ↦[rowSet t]{fullShare} gathered sw ys) ∗ tokOn c ys (srcSet (rowOf sw t)) t.val)

instance delivery_storable (c : Dev nD) (sw : Fin 6 → Fin 128 → Fin 4864) (ys : YsBuf (F := F) c) (t : Fin 768) :
    BI.Storable (upEmb : UEmb _ 𝕄) (delivery c sw ys t) := by
  unfold delivery; infer_instance

/-- The batch of a block's 768 transfers on the kernel's own semaphore: `j` issued, `u` units waited for. -/
def batchAt (c : Dev nD) (sw : Fin 6 → Fin 128 → Fin 4864) (ys : YsBuf (F := F) c) (j u : ℕ) : sProp 𝕄 :=
  Transfers.Batch (countersEmb (U := Pipeline.UD sig nD τ)) (c : Thread nD τ) (.dma cc0_scratch1.sem) () 128 (delivery c sw ys) j u

/-- The program's own spelling of a row of the scratch and of a row of the experts' array. -/
theorem dst_amount (off : Fin 3 → ℕ) (h : ∀ a, off a + S1x1x1024.size a ≤ S6x128x1024.size a) :
    ((scM.slice (Rect.unit (s := S6x128x1024) off S1x1x1024.size h) (fun _ => rfl)).squeeze S1x1024 squeezes_S1x1x1024_S1x1024).view.dmaCredit = 128 :=
  View.dmaCredit_closed _ S1x1024 rfl cc0_scratch0.idx rfl 128 (by decide)

theorem dst_set (off : Fin 3 → ℕ) (h : ∀ a, off a + S1x1x1024.size a ≤ S6x128x1024.size a) (t : Fin 768) (ht : off = ![t.val % 6, t.val / 6, 0]) :
    ((scM.slice (Rect.unit (s := S6x128x1024) off S1x1x1024.size h) (fun _ => rfl)).squeeze S1x1024 squeezes_S1x1x1024_S1x1024).view.set = rowSet t := by
  subst ht
  exact (View.set_reshape _ _).trans (View.set_slice_whole _ _)

theorem src_set (off : Fin 2 → ℕ) (h : ∀ a, off a + S1x1024.size a ≤ S4864x1024.size a) (n : Fin 4864) (hn : off = ![n.val, 0]) :
    (ysM.slice (Rect.unit (s := S4864x1024) off S1x1024.size h) (fun _ => rfl)).view.set = srcSet n := by
  subst hn
  refine (View.set_slice_whole _ _).trans (Finset.ext fun y => ?_)
  rw [Rect.mem_set_unit]
  have h1 : (y 1).val < 1024 := (y 1).isLt
  unfold srcSet
  rw [Finset.mem_filter]
  constructor
  · intro H
    have a0 : n.val ≤ (y 0).val ∧ (y 0).val < n.val + 1 := H 0
    exact ⟨Finset.mem_univ _, by omega⟩
  · rintro ⟨-, H⟩ a
    fin_cases a
    · show n.val ≤ (y 0).val ∧ (y 0).val < n.val + 1; omega
    · show 0 ≤ (y 1).val ∧ (y 1).val < 0 + 1024; omega

/-- A transfer's payload written over the row agrees, on the row, with what the scratch holds after the gather. -/
theorem landed (c : Dev nD) (sw : Fin 6 → Fin 128 → Fin 4864) (ys : YsBuf (F := F) c) (fd : ScBuf (F := F) c) (t : Fin 768)
    (off : Fin 3 → ℕ) (h : ∀ a, off a + S1x1x1024.size a ≤ S6x128x1024.size a) (ht : off = ![t.val % 6, t.val / 6, 0])
    (offs : Fin 2 → ℕ) (hs : ∀ a, offs a + S1x1024.size a ≤ S4864x1024.size a) (hn : offs = ![(rowOf sw t).val, 0])
    (y : S6x128x1024.Idx) (hy : y ∈ rowSet t) :
    (((scM.slice (Rect.unit (s := S6x128x1024) off S1x1x1024.size h) (fun _ => rfl)).squeeze S1x1024 squeezes_S1x1x1024_S1x1024).view.write (Elt F) fd
      (ReadAs.same.apply ((ysM.slice (Rect.unit (s := S4864x1024) offs S1x1024.size hs) (fun _ => rfl)).view.read (Elt F) ys)) Finset.univ) y = gathered sw ys y := by
  subst ht; subst hn
  rw [← dst_set _ h t rfl] at hy
  obtain ⟨x, -, rfl⟩ := Finset.mem_map.mp hy
  have hm := (dst_set _ h t rfl ▸ hy)
  rw [View.write_emb_of_mem _ _ (Finset.mem_univ _)]
  rw [mem_rowSet] at hm
  obtain ⟨h0, h1⟩ := hm
  have hx : Shape.reshapeEquiv squeezes_S1x1x1024_S1x1024.numel_eq x = ix3 0 (x 0) (x 1) :=
    (congrArg _ (ValueIdx.eq_ix2 x)).trans (ValueIdx.reshapeEquiv_ix2_1ab _ (x 0) (x 1))
  show ys ((Rect.unit (s := S4864x1024) ![(rowOf sw t).val, 0] S1x1024.size hs).emb x) = ys (ix2 (sw _ _) _)
  refine congrArg ys (funext fun a => Fin.ext ?_)
  have hx0 : (x 0).val < 1 := (x 0).isLt
  fin_cases a
  · show (rowOf sw t).val + 1 * (x 0).val = (sw _ _).val
    have e0 : ((scM.slice (Rect.unit (s := S6x128x1024) ![t.val % 6, t.val / 6, 0] S1x1x1024.size h) (fun _ => rfl)).squeeze S1x1024 squeezes_S1x1x1024_S1x1024).view.emb x 0
      = (⟨t.val % 6, Nat.mod_lt _ (by norm_num)⟩ : Fin 6) := Fin.ext h0
    have e1 : ((scM.slice (Rect.unit (s := S6x128x1024) ![t.val % 6, t.val / 6, 0] S1x1x1024.size h) (fun _ => rfl)).squeeze S1x1024 squeezes_S1x1x1024_S1x1024).view.emb x 1
      = (⟨t.val / 6, by have := t.isLt; omega⟩ : Fin 128) := Fin.ext h1
    rw [e0, e1]
    have hx0' : (x 0).val = 0 := by omega
    rw [hx0']
    rfl
  · show 0 + 1 * (x 1).val = ((Rect.unit (s := S6x128x1024) ![t.val % 6, t.val / 6, 0] S1x1x1024.size h).emb (Shape.reshapeEquiv squeezes_S1x1x1024_S1x1024.numel_eq x) 2).val
    rw [hx]
    rfl

set_option maxHeartbeats 1000000 in
/-- One transfer issued: the next of the batch, its token cut to the row it reads and the rest of the token kept. -/
theorem issue_one {α : Type} (c : Dev nD) (sw : Fin 6 → Fin 128 → Fin 4864) (ys : YsBuf (F := F) c) (t : Fin 768)
    (off : Fin 3 → ℕ) (h : ∀ a, off a + S1x1x1024.size a ≤ S6x128x1024.size a) (ht : off = ![t.val % 6, t.val / 6, 0])
    (offs : Fin 2 → ℕ) (hs : ∀ a, offs a + S1x1024.size a ≤ S4864x1024.size a) (hn : offs = ![(rowOf sw t).val, 0])
    {Λ : Labels} {defs : Defs nD τ sig (Elt F) Λ} {𝒱 : Variants}
    {hsrc} {hdst} {hsem} {k : PUnit → Prog (TpuEff nD τ sig (Elt F) Λ .tc) α} {bd} {Q : α → sProp 𝕄} :
    iprop(tokOn c ys Finset.univ t.val ∗ rowAny c t ∗ batchAt c sw ys t.val 0)
      ⊢ iprop((batchAt c sw ys (t.val + 1) 0 ∗ tokOn c ys (Finset.univ \ srcSet (rowOf sw t)) t.val -∗ wp frame (wpE defs 𝒱 (c : Thread nD τ) bd) Set.univ (k ⟨⟩) Q)
          -∗ wp frame (wpE defs 𝒱 (c : Thread nD τ) bd) Set.univ
            (.op (.enqueueDma (ysM.slice (Rect.unit (s := S4864x1024) offs S1x1024.size hs) (fun _ => rfl))
              (.here ((scM.slice (Rect.unit (s := S6x128x1024) off S1x1x1024.size h) (fun _ => rfl)).squeeze S1x1024 squeezes_S1x1x1024_S1x1024))
              (.dma cc0_scratch1.sem) hsrc hdst hsem) k) Q) := by
  iintro ⟨Ht, ⟨%g, Hr⟩, HB⟩ Hk
  ihave Ht' := (pointsTo_split_subset (Finset.subset_univ (srcSet (rowOf sw t)))).1 $$ Ht
  icases Ht' with ⟨Hs, Hrest⟩
  unfold batchAt
  have hD : iprop((((scM.slice (Rect.unit (s := S6x128x1024) off S1x1x1024.size h) (fun _ => rfl)).squeeze S1x1024 squeezes_S1x1x1024_S1x1024).view.loc (c : Thread nD τ) ↦[rowSet t]{fullShare}
        (((scM.slice (Rect.unit (s := S6x128x1024) off S1x1x1024.size h) (fun _ => rfl)).squeeze S1x1024 squeezes_S1x1x1024_S1x1024).view.write (Elt F) g
      (ReadAs.same.apply ((ysM.slice (Rect.unit (s := S4864x1024) offs S1x1024.size hs) (fun _ => rfl)).view.read (Elt F) ys)) Finset.univ))
      ∗ ((ysM.slice (Rect.unit (s := S4864x1024) offs S1x1024.size hs) (fun _ => rfl)).view.loc (c : Thread nD τ) ↦[(ysM.slice (Rect.unit (s := S4864x1024) offs S1x1024.size hs) (fun _ => rfl)).view.set]{Transfers.shareTokN fullShare t.val} ys))
      ⊢ delivery c sw ys ⟨t.val, t.isLt⟩ := by
    rw [src_set offs hs _ hn]
    unfold delivery
    iintro ⟨H1, H2⟩
    isplitl [H1]
    · iapply (Entails.of_eq (pointsTo_congr fun y hy => landed c sw ys g t off h ht offs hs hn y hy)) $$ H1
    iexact H2
  iapply (Transfers.wp_dmaBatch (countersEmb (U := Pipeline.UD sig nD τ)) 𝒱 (c : Thread nD τ) bd (sm := .dma cc0_scratch1.sem) (D := delivery c sw ys)
    (src := ysM.slice (Rect.unit (s := S4864x1024) offs S1x1024.size hs) (fun _ => rfl)) (dst := (scM.slice (Rect.unit (s := S6x128x1024) off S1x1x1024.size h) (fun _ => rfl)).squeeze S1x1024 squeezes_S1x1x1024_S1x1024)
    (Sd := rowSet t) (fs := ys) (fd := g) (q := Transfers.shareTokN fullShare t.val) () 128 (dst_amount off h) (dst_set off h t ht).subset t.isLt (Nat.zero_le _) hD) $$ [Hs Hr HB]
  · rw [src_set offs hs _ hn]
    isplitl [Hs]; · iexact Hs
    isplitl [Hr]; · iexact Hr
    iexact HB
  · iintro HB
    iapply Hk
    isplitl [HB]; · iexact HB
    iexact Hrest

end Cert.SCombineIdeal.Run

end
-- ==== Proof.SCombine.Issue.lean ====
/- The sample's gather, first loop: one token a trip, six transfers issued, one for each of the token's experts. -/
module

public import proofs.«01_k».proof.Proof.SCombine.Gather

@[expose] public section

set_option maxRecDepth 16384

noncomputable section

namespace Cert.SCombineIdeal.Run

open Cert.SCombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Cert.CombineIdeal.Run (rowSet row_at range_last)

variable {F : FTy → Type} [FloatOps F]

local notation "𝕄" => MT nD τ sig Unit (Elt F) ℕ (Pipeline.UD sig nD τ) ℕ

/-- The word that the body reads of the slot block at `(k, r)`. -/
theorem slot_word (arg1 : Memref sig .tc .smem S8x128 .i32) (f : arg1.view.ty.Contents (Elt F)) (x0 : Vec F S8x128 .i32) (hf : arg1.view.read (Elt F) f = x0)
    (o : Fin 2 → ℕ) (h : ∀ a, o a + S1x1.size a ≤ S8x128.size a) (k : Fin 8) (r : Fin 128) (ho : o = ![k.val, r.val]) :
    View.readAt (Elt F) arg1.view (Rect.unit (s := S8x128) o S1x1.size h).toLoadRect f (Shape.Idx.first (numel1_S1x1 ▸ Nat.one_pos)) = x0 (ix2 k r) := by
  subst ho; subst hf
  rw [View.readAt_apply]
  exact congrArg (arg1.view.read (Elt F) f) (funext fun a => Fin.ext (by fin_cases a <;> rfl))

/-- The slot block names, for expert number `k` of token `r`, the row `sw k r`. -/
def Names (sw : Fin 6 → Fin 128 → Fin 4864) (x0 : Vec F S8x128 .i32) : Prop :=
  ∀ (k : Fin 6) (r : Fin 128), (x0 (ix2 (Fin.castLE (by norm_num) k) r) : BitVec 32).toNat = (sw k r).val

theorem trips1 : k0_t1_loop.trips = 128 := by decide +kernel
theorem trips2 : k0_t2_loop.trips = 128 := by decide +kernel

theorem slot_off : ∀ r : Fin k0_t1_loop.trips, k0_off1 r = ![0, r.val] ∧ k0_off4 r = ![1, r.val] ∧ k0_off7 r = ![2, r.val] ∧ k0_off10 r = ![3, r.val]
    ∧ k0_off13 r = ![4, r.val] ∧ k0_off16 r = ![5, r.val] := by decide +kernel
theorem row_off : ∀ r : Fin k0_t1_loop.trips, k0_off2 r = ![0, r.val, 0] ∧ k0_off5 r = ![1, r.val, 0] ∧ k0_off8 r = ![2, r.val, 0] ∧ k0_off11 r = ![3, r.val, 0]
    ∧ k0_off14 r = ![4, r.val, 0] ∧ k0_off17 r = ![5, r.val, 0] := by decide +kernel

/-- A row number in the experts' array is one the body's assumption admits. -/
theorem src_inb (v : BitVec 32) (n : Fin 4864) (h : v.toNat = n.val) : ∀ a, (![v.toNat, 0] : Fin 2 → ℕ) a + S1x1024.size a ≤ S4864x1024.size a := by
  intro a
  have := n.isLt
  fin_cases a
  · show v.toNat + 1 ≤ 4864; omega
  · show 0 + 1024 ≤ 1024; omega

/-- Before trip `r` of the first loop: `6 r` transfers issued; the scratch's rows and the read tokens from `6 r` on in hand, and of the tokens used what the
    transfers did not take; the slot block. -/
def issueAt (c : Dev nD) (sw : Fin 6 → Fin 128 → Fin 4864) (ys : YsBuf (F := F) c) (arg1 : Memref sig .tc .smem S8x128 .i32) (x0 : Vec F S8x128 .i32) (r : ℕ) (_ : Unit) : sProp 𝕄 :=
  iprop(batchAt c sw ys (6 * r) 0 ∗ bigSep (Ring.rangeSet 768 (6 * r) 768) (rowAny c) ∗ bigSep (Ring.rangeSet 768 (6 * r) 768) (fun t => tokOn c ys Finset.univ t.val)
    ∗ bigSep (Ring.rangeSet 768 0 (6 * r)) (fun t => tokOn c ys (Finset.univ \ srcSet (rowOf sw t)) t.val)
    ∗ owns (c : Thread nD τ) arg1 fullShare x0)

/-- Transfer `6 r + k` reads the row of token `r`'s expert number `k`. -/
theorem rowOf_at (sw : Fin 6 → Fin 128 → Fin 4864) (t : Fin 768) (k : Fin 6) (r : Fin 128) (h : t.val = 6 * r.val + k.val) : rowOf sw t = sw k r := by
  have hk := k.isLt
  unfold rowOf
  exact congrArg₂ sw (Fin.ext (show t.val % 6 = k.val by omega)) (Fin.ext (show t.val / 6 = r.val by omega))

variable (c : Dev nD) (sw : Fin 6 → Fin 128 → Fin 4864) (ys : YsBuf (F := F) c)

set_option maxHeartbeats 4000000 in
theorem issue_step (x0 : Vec F S8x128 .i32) (hsw : Names sw x0)
    (i : grid0.Coords) (arg1 : Memref sig .tc .smem S8x128 .i32) (harg1 : arg1.IsWhole) (arg2 : Memref sig .tc .vmem S128x1024 .f32) (harg2 : arg2.IsWhole) (arg3 : Memref sig .tc .vmem S128x8 .f32) (harg3 : arg3.IsWhole) (arg5 : Memref sig .tc .vmem S1024x256 .bf16) (harg5 : arg5.IsWhole) (arg6 : Memref sig .tc .vmem S1024x256 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole)
    (r : Fin k0_t1_loop.trips) (acc : Unit) :
    issueAt c sw ys arg1 x0 r.val acc ⊢ wp frame (wpE (defs₀ (F := F)) Variants.none (c : Thread nD τ) none) Set.univ
      (k0_t1_body i arg1 harg1 arg2 harg2 arg3 harg3 ysM (Memref.isWhole_whole _) arg5 harg5 arg6 harg6 arg7 harg7 arg8 harg8 arg9 harg9 arg10 harg10 scM (Memref.isWhole_whole _) cc0_scratch1 r acc)
      (issueAt c sw ys arg1 x0 (r.val + 1)) := by
  have hr : r.val < 128 := trips1 ▸ r.isLt
  obtain ⟨o0, o1, o2, o3, o4, o5⟩ := slot_off r
  obtain ⟨p0, p1, p2, p3, p4, p5⟩ := row_off r
  unfold issueAt
  rw [Ring.bigSep_rangeSet_head (Φ := rowAny c) (lo := 6 * r.val) (by omega) (by omega), Ring.bigSep_rangeSet_head (Φ := rowAny c) (lo := 6 * r.val + 1) (by omega) (by omega),
    Ring.bigSep_rangeSet_head (Φ := rowAny c) (lo := 6 * r.val + 1 + 1) (by omega) (by omega), Ring.bigSep_rangeSet_head (Φ := rowAny c) (lo := 6 * r.val + 1 + 1 + 1) (by omega) (by omega),
    Ring.bigSep_rangeSet_head (Φ := rowAny c) (lo := 6 * r.val + 1 + 1 + 1 + 1) (by omega) (by omega), Ring.bigSep_rangeSet_head (Φ := rowAny c) (lo := 6 * r.val + 1 + 1 + 1 + 1 + 1) (by omega) (by omega),
    Ring.bigSep_rangeSet_head (Φ := fun t => tokOn c ys Finset.univ t.val) (lo := 6 * r.val) (by omega) (by omega), Ring.bigSep_rangeSet_head (Φ := fun t => tokOn c ys Finset.univ t.val) (lo := 6 * r.val + 1) (by omega) (by omega),
    Ring.bigSep_rangeSet_head (Φ := fun t => tokOn c ys Finset.univ t.val) (lo := 6 * r.val + 1 + 1) (by omega) (by omega), Ring.bigSep_rangeSet_head (Φ := fun t => tokOn c ys Finset.univ t.val) (lo := 6 * r.val + 1 + 1 + 1) (by omega) (by omega),
    Ring.bigSep_rangeSet_head (Φ := fun t => tokOn c ys Finset.univ t.val) (lo := 6 * r.val + 1 + 1 + 1 + 1) (by omega) (by omega), Ring.bigSep_rangeSet_head (Φ := fun t => tokOn c ys Finset.univ t.val) (lo := 6 * r.val + 1 + 1 + 1 + 1 + 1) (by omega) (by omega)]
  unfold owns
  iintro ⟨HB, ⟨R0, R1, R2, R3, R4, R5, HR⟩, ⟨T0, T1, T2, T3, T4, T5, HT⟩, HU, ⟨%f, %hf, HS⟩⟩
  have w0 := (congrArg BitVec.toNat (slot_word arg1 f x0 hf _ (k0_off1_inb r) 0 ⟨r.val, hr⟩ o0)).trans (hsw 0 ⟨r.val, hr⟩)
  have c0 : k0_chk1 (View.readAt (Elt F) arg1.view (Rect.unit (s := S8x128) (k0_off1 r) S1x1.size (k0_off1_inb r)).toLoadRect f (Shape.Idx.first (numel1_S1x1 ▸ Nat.one_pos))) := src_inb _ _ w0
  have w1 := (congrArg BitVec.toNat (slot_word arg1 f x0 hf _ (k0_off4_inb r) 1 ⟨r.val, hr⟩ o1)).trans (hsw 1 ⟨r.val, hr⟩)
  have c1 : k0_chk2 (View.readAt (Elt F) arg1.view (Rect.unit (s := S8x128) (k0_off4 r) S1x1.size (k0_off4_inb r)).toLoadRect f (Shape.Idx.first (numel1_S1x1 ▸ Nat.one_pos))) := src_inb _ _ w1
  have w2 := (congrArg BitVec.toNat (slot_word arg1 f x0 hf _ (k0_off7_inb r) 2 ⟨r.val, hr⟩ o2)).trans (hsw 2 ⟨r.val, hr⟩)
  have c2 : k0_chk3 (View.readAt (Elt F) arg1.view (Rect.unit (s := S8x128) (k0_off7 r) S1x1.size (k0_off7_inb r)).toLoadRect f (Shape.Idx.first (numel1_S1x1 ▸ Nat.one_pos))) := src_inb _ _ w2
  have w3 := (congrArg BitVec.toNat (slot_word arg1 f x0 hf _ (k0_off10_inb r) 3 ⟨r.val, hr⟩ o3)).trans (hsw 3 ⟨r.val, hr⟩)
  have c3 : k0_chk4 (View.readAt (Elt F) arg1.view (Rect.unit (s := S8x128) (k0_off10 r) S1x1.size (k0_off10_inb r)).toLoadRect f (Shape.Idx.first (numel1_S1x1 ▸ Nat.one_pos))) := src_inb _ _ w3
  have w4 := (congrArg BitVec.toNat (slot_word arg1 f x0 hf _ (k0_off13_inb r) 4 ⟨r.val, hr⟩ o4)).trans (hsw 4 ⟨r.val, hr⟩)
  have c4 : k0_chk5 (View.readAt (Elt F) arg1.view (Rect.unit (s := S8x128) (k0_off13 r) S1x1.size (k0_off13_inb r)).toLoadRect f (Shape.Idx.first (numel1_S1x1 ▸ Nat.one_pos))) := src_inb _ _ w4
  have w5 := (congrArg BitVec.toNat (slot_word arg1 f x0 hf _ (k0_off16_inb r) 5 ⟨r.val, hr⟩ o5)).trans (hsw 5 ⟨r.val, hr⟩)
  have c5 : k0_chk6 (View.readAt (Elt F) arg1.view (Rect.unit (s := S8x128) (k0_off16 r) S1x1.size (k0_off16_inb r)).toLoadRect f (Shape.Idx.first (numel1_S1x1 ▸ Nat.one_pos))) := src_inb _ _ w5
  unfold k0_t1_body
  simp only [k0_part1_eq_skeleton]
  unfold k0_part1_skel
  sl_exec
  iapply (issue_one c sw ys ⟨6 * r.val, by omega⟩ (k0_off2 r) _ (p0.trans (row_at _ 0 ⟨r.val, hr⟩ rfl)) _ _
    (show (![_, 0] : Fin 2 → ℕ) = _ by rw [rowOf_at sw _ 0 ⟨r.val, hr⟩ rfl]; exact congrArg (fun n => ![n, 0]) w0)) $$ [T0 R0 HB]
  · isplitl [T0]; · iexact T0
    isplitl [R0]; · iexact R0
    iexact HB
  iintro ⟨HB, U0⟩
  sl_exec
  iapply (issue_one c sw ys ⟨6 * r.val + 1, by omega⟩ (k0_off5 r) _ (p1.trans (row_at _ 1 ⟨r.val, hr⟩ rfl)) _ _
    (show (![_, 0] : Fin 2 → ℕ) = _ by rw [rowOf_at sw _ 1 ⟨r.val, hr⟩ rfl]; exact congrArg (fun n => ![n, 0]) w1)) $$ [T1 R1 HB]
  · isplitl [T1]; · iexact T1
    isplitl [R1]; · iexact R1
    iexact HB
  iintro ⟨HB, U1⟩
  sl_exec
  iapply (issue_one c sw ys ⟨6 * r.val + 1 + 1, by omega⟩ (k0_off8 r) _ (p2.trans (row_at _ 2 ⟨r.val, hr⟩ rfl)) _ _
    (show (![_, 0] : Fin 2 → ℕ) = _ by rw [rowOf_at sw _ 2 ⟨r.val, hr⟩ rfl]; exact congrArg (fun n => ![n, 0]) w2)) $$ [T2 R2 HB]
  · isplitl [T2]; · iexact T2
    isplitl [R2]; · iexact R2
    iexact HB
  iintro ⟨HB, U2⟩
  sl_exec
  iapply (issue_one c sw ys ⟨6 * r.val + 1 + 1 + 1, by omega⟩ (k0_off11 r) _ (p3.trans (row_at _ 3 ⟨r.val, hr⟩ rfl)) _ _
    (show (![_, 0] : Fin 2 → ℕ) = _ by rw [rowOf_at sw _ 3 ⟨r.val, hr⟩ rfl]; exact congrArg (fun n => ![n, 0]) w3)) $$ [T3 R3 HB]
  · isplitl [T3]; · iexact T3
    isplitl [R3]; · iexact R3
    iexact HB
  iintro ⟨HB, U3⟩
  sl_exec
  iapply (issue_one c sw ys ⟨6 * r.val + 1 + 1 + 1 + 1, by omega⟩ (k0_off14 r) _ (p4.trans (row_at _ 4 ⟨r.val, hr⟩ rfl)) _ _
    (show (![_, 0] : Fin 2 → ℕ) = _ by rw [rowOf_at sw _ 4 ⟨r.val, hr⟩ rfl]; exact congrArg (fun n => ![n, 0]) w4)) $$ [T4 R4 HB]
  · isplitl [T4]; · iexact T4
    isplitl [R4]; · iexact R4
    iexact HB
  iintro ⟨HB, U4⟩
  sl_exec
  iapply (issue_one c sw ys ⟨6 * r.val + 1 + 1 + 1 + 1 + 1, by omega⟩ (k0_off17 r) _ (p5.trans (row_at _ 5 ⟨r.val, hr⟩ rfl)) _ _
    (show (![_, 0] : Fin 2 → ℕ) = _ by rw [rowOf_at sw _ 5 ⟨r.val, hr⟩ rfl]; exact congrArg (fun n => ![n, 0]) w5)) $$ [T5 R5 HB]
  · isplitl [T5]; · iexact T5
    isplitl [R5]; · iexact R5
    iexact HB
  iintro ⟨HB, U5⟩
  sl_exec
  sl_step
  rw [show 6 * (r.val + 1) = 6 * r.val + 1 + 1 + 1 + 1 + 1 + 1 by omega]
  isplitl [HB]; · iexact HB
  isplitl [HR]; · iexact HR
  isplitl [HT]; · iexact HT
  isplitl [HU U0 U1 U2 U3 U4 U5]
  · rw [range_last (fun t => tokOn c ys (Finset.univ \ srcSet (rowOf sw t)) t.val) (6 * r.val + 1 + 1 + 1 + 1 + 1) (by omega), range_last _ (6 * r.val + 1 + 1 + 1 + 1) (by omega), range_last _ (6 * r.val + 1 + 1 + 1) (by omega),
      range_last _ (6 * r.val + 1 + 1) (by omega), range_last _ (6 * r.val + 1) (by omega), range_last _ (6 * r.val) (by omega)]
    isplitl [U5]; · iexact U5
    isplitl [U4]; · iexact U4
    isplitl [U3]; · iexact U3
    isplitl [U2]; · iexact U2
    isplitl [U1]; · iexact U1
    isplitl [U0]; · iexact U0
    iexact HU
  iexists f; iframe HS; ipureintro; exact hf

/-! ## The second loop -/

/-- Before trip `r` of the second loop: the waits so far recorded; and, while trips remain, the whole batch issued and `6 r` rows waited for, after the last the
    semaphore at zero and everything delivered. -/
def drainAt (r : ℕ) (_ : Unit) : sProp 𝕄 :=
  iprop((∃ W, owes (c : Thread nD τ) 0 W)
    ∗ (if r < 128 then Transfers.Batch (countersEmb (U := Pipeline.UD sig nD τ)) (c : Thread nD τ) (.dma cc0_scratch1.sem) () 128 (delivery c sw ys) 768 (768 * r)
       else iprop(semVal ((c : Thread nD τ), SemLoc.dma cc0_scratch1.sem) 0 ∗ bigSep Finset.univ (delivery c sw ys))))

set_option maxHeartbeats 4000000 in
theorem drain_step
    (i : grid0.Coords) (arg1 : Memref sig .tc .smem S8x128 .i32) (harg1 : arg1.IsWhole) (arg2 : Memref sig .tc .vmem S128x1024 .f32) (harg2 : arg2.IsWhole) (arg3 : Memref sig .tc .vmem S128x8 .f32) (harg3 : arg3.IsWhole) (arg5 : Memref sig .tc .vmem S1024x256 .bf16) (harg5 : arg5.IsWhole) (arg6 : Memref sig .tc .vmem S1024x256 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole)
    (r : Fin k0_t2_loop.trips) (acc : Unit) :
    drainAt c sw ys r.val acc ⊢ wp frame (wpE (defs₀ (F := F)) Variants.none (c : Thread nD τ) none) Set.univ
      (k0_t2_body i arg1 harg1 arg2 harg2 arg3 harg3 ysM (Memref.isWhole_whole _) arg5 harg5 arg6 harg6 arg7 harg7 arg8 harg8 arg9 harg9 arg10 harg10 scM (Memref.isWhole_whole _) cc0_scratch1 r acc)
      (drainAt c sw ys (r.val + 1)) := by
  have hr : r.val < 128 := trips2 ▸ r.isLt
  unfold drainAt
  simp only [if_pos hr]
  unfold k0_t2_body
  rcases Nat.lt_or_ge (r.val + 1) 128 with h1 | h1
  · simp only [if_pos h1]
    iintro ⟨⟨%W, HO⟩, HB⟩
    sl_exec
    sl_step
    isplitl [HO]; · iexists _; iexact HO
    rw [show 768 * (r.val + 1) = 768 * r.val + 128 + 128 + 128 + 128 + 128 + 128 by omega]
    iexact HB
  · simp only [if_neg (Nat.not_lt.mpr h1)]
    iintro ⟨⟨%W, HO⟩, HB⟩
    sl_exec
    sl_step
    isplitl [HO]; · iexists _; iexact HO
    isplitl [HB]; · iexact HB
    iexact HB_all

end Cert.SCombineIdeal.Run

end
-- ==== Proof.SCombine.Body.lean ====
/- The body of the sample's combination, run once: the gather's rows joined into the whole scratch, and what the body stores. -/
module

public import proofs.«01_k».proof.Proof.SCombine.Issue
public import Idealize.ShloMosaic.Lib.VecWindow

@[expose] public section

set_option maxRecDepth 16384

noncomputable section

namespace Cert.SCombineIdeal.Run

open Cert.SCombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Cert.CombineIdeal.Run (rowSet rowSet_disjoint rowSet_cover combined)

variable {F : FTy → Type} [FloatOps F]

local notation "𝕄" => MT nD τ sig Unit (Elt F) ℕ (Pipeline.UD sig nD τ) ℕ

/-- The whole scratch is its 768 rows; -/
theorem scratch_rows (c : Dev nD) (f : ScBuf (F := F) c) :
    (scM.view.loc (c : Thread nD τ) ↦{fullShare} f : sProp 𝕄) ⊢ bigSep Finset.univ (rowAny c) := by
  refine (Entails.of_eq (Ring.pointsTo_blocks (ℓ := scM.view.loc (c : Thread nD τ)) (q := fullShare) rowSet rowSet_disjoint rowSet_cover f)).trans (BI.bigSep_mono fun t _ => ?_)
  show (scM.view.loc (c : Thread nD τ) ↦[rowSet t]{fullShare} f : sProp 𝕄) ⊢ rowAny c t
  unfold rowAny
  iintro H; iexists f; iexact H

/-- the experts' rows whole are 768 read tokens and what is left; -/
theorem rows_tokens (c : Dev nD) (ys : YsBuf (F := F) c) :
    (ysM.view.loc (c : Thread nD τ) ↦{fullShare} ys : sProp 𝕄)
      ⊢ iprop((ysM.view.loc (c : Thread nD τ) ↦[Finset.univ]{Transfers.shareDrop fullShare 768} ys) ∗ bigSep (Ring.rangeSet 768 0 768) (fun t => tokOn c ys Finset.univ t.val)) := by
  refine (Transfers.pointsTo_toks_range fullShare 768).1.trans ?_
  rw [Ring.bigSep_rangeSet_eq_range (NB := 768) (lo := 0) (hi := 768) (Φ := fun t => tokOn c ys Finset.univ t.val) le_rfl (fun t => tokOn c ys Finset.univ t) (fun k hk => by show tokOn c ys Finset.univ k = tokOn c ys Finset.univ (0 + k); rw [Nat.zero_add])]

/-- and with everything delivered the scratch is whole again, gathered, and the experts' rows as they were. -/
theorem delivered (c : Dev nD) (sw : Fin 6 → Fin 128 → Fin 4864) (ys : YsBuf (F := F) c) :
    (iprop(bigSep Finset.univ (delivery c sw ys) ∗ bigSep (Ring.rangeSet 768 0 768) (fun t => tokOn c ys (Finset.univ \ srcSet (rowOf sw t)) t.val)
        ∗ (ysM.view.loc (c : Thread nD τ) ↦[Finset.univ]{Transfers.shareDrop fullShare 768} ys)) : sProp 𝕄)
      ⊢ iprop((scM.view.loc (c : Thread nD τ) ↦{fullShare} gathered sw ys) ∗ (ysM.view.loc (c : Thread nD τ) ↦{fullShare} ys)) := by
  unfold delivery
  rw [Ring.rangeSet_univ]
  iintro ⟨HD, HU, HR⟩
  ihave HD' := (show bigSep Finset.univ (fun t : Fin 768 => (iprop((scM.view.loc (c : Thread nD τ) ↦[rowSet t]{fullShare} gathered sw ys) ∗ tokOn c ys (srcSet (rowOf sw t)) t.val) : sProp 𝕄))
      ⊢ iprop(bigSep Finset.univ (fun t : Fin 768 => scM.view.loc (c : Thread nD τ) ↦[rowSet t]{fullShare} gathered sw ys) ∗ bigSep Finset.univ (fun t : Fin 768 => tokOn c ys (srcSet (rowOf sw t)) t.val))
    from Entails.of_eq (BI.bigSep_sep _ _ _)) $$ HD
  icases HD' with ⟨HS, HT⟩
  isplitl [HS]
  · iapply (Entails.of_eq (Ring.pointsTo_blocks (ℓ := scM.view.loc (c : Thread nD τ)) (q := fullShare) rowSet rowSet_disjoint rowSet_cover (gathered sw ys)).symm)
    iexact HS
  ihave HTU := (show (iprop(bigSep Finset.univ (fun t : Fin 768 => tokOn c ys (srcSet (rowOf sw t)) t.val) ∗ bigSep Finset.univ (fun t : Fin 768 => tokOn c ys (Finset.univ \ srcSet (rowOf sw t)) t.val)) : sProp 𝕄)
      ⊢ bigSep Finset.univ (fun t : Fin 768 => iprop(tokOn c ys (srcSet (rowOf sw t)) t.val ∗ tokOn c ys (Finset.univ \ srcSet (rowOf sw t)) t.val)) from Entails.of_eq (BI.bigSep_sep _ _ _).symm) $$ [HT HU]
  · isplitl [HT]; · iexact HT
    iexact HU
  ihave HV := (show (bigSep Finset.univ (fun t : Fin 768 => iprop(tokOn c ys (srcSet (rowOf sw t)) t.val ∗ tokOn c ys (Finset.univ \ srcSet (rowOf sw t)) t.val)) : sProp 𝕄)
      ⊢ bigSep Finset.univ (fun t : Fin 768 => tokOn c ys Finset.univ t.val) from BI.bigSep_mono fun t _ => (pointsTo_split_subset (Finset.subset_univ _)).2) $$ HTU
  ihave HW := (show (bigSep Finset.univ (fun t : Fin 768 => tokOn c ys Finset.univ t.val) : sProp 𝕄) ⊢ bigSep (Finset.range 768) (fun t => tokOn c ys Finset.univ t) from Entails.of_eq (by
    rw [← Ring.rangeSet_univ]
    exact Ring.bigSep_rangeSet_eq_range (NB := 768) (lo := 0) (hi := 768) (Φ := fun t => tokOn c ys Finset.univ t.val) le_rfl (fun t => tokOn c ys Finset.univ t) (fun k hk => by show tokOn c ys Finset.univ k = tokOn c ys Finset.univ (0 + k); rw [Nat.zero_add]))) $$ HV
  iapply (Transfers.pointsTo_toks_range fullShare 768).2
  isplitl [HR]; · iexact HR
  iexact HW

/-- The rows gathered for the tokens' expert number `k`. -/
def planeOf (sw : Fin 6 → Fin 128 → Fin 4864) (ys : S4864x1024.Idx → Elt F .f32) (k : Fin 6) : Vec F S1x128x1024 .f32 := fun y => ys (ix2 (sw k (y 1)) (y 2))

theorem read_plane (c : Dev nD) (sw : Fin 6 → Fin 128 → Fin 4864) (ys : YsBuf (F := F) c) (k : Fin 6)
    (h : ∀ a, (![k.val, 0, 0] : Fin 3 → ℕ) a + S1x128x1024.size a ≤ S6x128x1024.size a) :
    View.readAt (Elt F) scM.view (Rect.unit (s := S6x128x1024) ![k.val, 0, 0] S1x128x1024.size h).toLoadRect (gathered sw ys) = planeOf sw ys k := by
  funext y
  show ys (ix2 (sw _ _) _) = ys (ix2 (sw _ _) _)
  have h0 : (y 0).val < 1 := (y 0).isLt
  have e0 : (Rect.unit (s := S6x128x1024) ![k.val, 0, 0] S1x128x1024.size h).emb y 0 = k := Fin.ext (by show k.val + 1 * (y 0).val = k.val; omega)
  have e1 : (Rect.unit (s := S6x128x1024) ![k.val, 0, 0] S1x128x1024.size h).emb y 1 = y 1 := Fin.ext (by show 0 + 1 * (y 1).val = (y 1).val; omega)
  have e2 : (Rect.unit (s := S6x128x1024) ![k.val, 0, 0] S1x128x1024.size h).emb y 2 = y 2 := Fin.ext (by show 0 + 1 * (y 2).val = (y 2).val; omega)
  exact congrArg ys (congrArg₂ (ix2 (n0 := 4864) (n1 := 1024)) (congrArg₂ sw e0 e1) e2)

set_option maxHeartbeats 4000000 in
theorem body_run (c : Dev nD) (sw : Fin 6 → Fin 128 → Fin 4864) (ys : YsBuf (F := F) c) (x0 : Vec F S8x128 .i32) (hsw : Names sw x0)
    (x : Vec F S128x1024 .f32) (w : Vec F S128x8 .f32) (wg wu : Vec F S1024x256 .bf16) (wd : Vec F S256x1024 .bf16) (g b : Vec F S1x1024 .f32)
    (i : grid0.Coords) (arg1 : Memref sig .tc .smem S8x128 .i32) (harg1 : arg1.IsWhole) (arg2 : Memref sig .tc .vmem S128x1024 .f32) (harg2 : arg2.IsWhole) (arg3 : Memref sig .tc .vmem S128x8 .f32) (harg3 : arg3.IsWhole) (arg5 : Memref sig .tc .vmem S1024x256 .bf16) (harg5 : arg5.IsWhole) (arg6 : Memref sig .tc .vmem S1024x256 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole)
    (W : Waits sig Unit) (K : PUnit → sProp 𝕄) :
    iprop(owns (c : Thread nD τ) arg1 fullShare x0 ∗ owns (c : Thread nD τ) arg2 fullShare x ∗ owns (c : Thread nD τ) arg3 fullShare w
        ∗ owns (c : Thread nD τ) arg5 fullShare wg ∗ owns (c : Thread nD τ) arg6 fullShare wu ∗ owns (c : Thread nD τ) arg7 fullShare wd
        ∗ owns (c : Thread nD τ) arg8 fullShare g ∗ owns (c : Thread nD τ) arg9 fullShare b ∗ (∃ d, owns (c : Thread nD τ) arg10 fullShare d)
        ∗ (∃ d, scM.view.loc (c : Thread nD τ) ↦{fullShare} d) ∗ (ysM.view.loc (c : Thread nD τ) ↦{fullShare} ys)
        ∗ semVal ((c : Thread nD τ), SemLoc.dma cc0_scratch1.sem) 0 ∗ owes (c : Thread nD τ) 0 W
        ∗ (iprop(owns (c : Thread nD τ) arg1 fullShare x0 ∗ owns (c : Thread nD τ) arg2 fullShare x ∗ owns (c : Thread nD τ) arg3 fullShare w
            ∗ owns (c : Thread nD τ) arg5 fullShare wg ∗ owns (c : Thread nD τ) arg6 fullShare wu ∗ owns (c : Thread nD τ) arg7 fullShare wd
            ∗ owns (c : Thread nD τ) arg8 fullShare g ∗ owns (c : Thread nD τ) arg9 fullShare b ∗ owns (c : Thread nD τ) arg10 fullShare (combined x w wg wu wd g b (planeOf sw ys))
            ∗ (∃ d, scM.view.loc (c : Thread nD τ) ↦{fullShare} d) ∗ (ysM.view.loc (c : Thread nD τ) ↦{fullShare} ys)
            ∗ semVal ((c : Thread nD τ), SemLoc.dma cc0_scratch1.sem) 0 ∗ (∃ W, owes (c : Thread nD τ) 0 W)) -∗ K ⟨⟩))
      ⊢ wp frame (wpE (defs₀ (F := F)) Variants.none c none) Set.univ (cc0_moe_combine_ln i arg1 harg1 arg2 harg2 arg3 harg3 ysM (Memref.isWhole_whole _) arg5 harg5 arg6 harg6 arg7 harg7 arg8 harg8 arg9 harg9 arg10 harg10 scM (Memref.isWhole_whole _) cc0_scratch1) K := by
  simp only [cc0_moe_combine_ln_eq_skeleton]; unfold cc0_moe_combine_ln_skel
  simp only [k0_part2_eq_skeleton, k0_part3_eq_skeleton]; unfold k0_part2_skel k0_part3_skel
  iintro ⟨H1, H2, H3, H5, H6, H7, H8, H9, H10, ⟨%d, HSc⟩, HYs, Hc, HO, Hk⟩
  ihave HRows := (scratch_rows c d) $$ HSc
  ihave HYs' := (rows_tokens c ys) $$ HYs
  icases HYs' with ⟨HRest, HTok⟩
  imod (Transfers.batch_alloc' (Lvl := ℕ) (countersEmb (U := Pipeline.UD sig nD τ)) (c : Thread nD τ) () 128 (delivery c sw ys) (sm := .dma cc0_scratch1.sem) (E := Set.univ)) $$ Hc with HB
  simp only [bind_assoc]
  sl_for (issueAt c sw ys arg1 x0) $$ [HB HRows HTok H1]
  · intro k acc; exact issue_step c sw ys x0 hsw i arg1 harg1 arg2 harg2 arg3 harg3 arg5 harg5 arg6 harg6 arg7 harg7 arg8 harg8 arg9 harg9 arg10 harg10 k acc
  · unfold issueAt batchAt
    isplitl [HB]; · iexact HB
    isplitl [HRows]
    · iapply (Entails.of_eq (congrArg (fun S => bigSep S (rowAny c)) (Ring.rangeSet_univ (NB := 768)).symm))
      iexact HRows
    isplitl [HTok]; · iexact HTok
    isplitr
    · iapply (Entails.of_eq (Ring.bigSep_rangeSet_empty (NB := 768) (Φ := fun t => tokOn c ys (Finset.univ \ srcSet (rowOf sw t)) t.val) (le_refl 0)).symm)
      iempintro
    iexact H1
  iintro %acc HI
  ihave HI' := (show issueAt c sw ys arg1 x0 k0_t1_loop.trips acc ⊢ iprop(Transfers.Batch (countersEmb (U := Pipeline.UD sig nD τ)) (c : Thread nD τ) (.dma cc0_scratch1.sem) () 128 (delivery c sw ys) 768 0
      ∗ bigSep (Ring.rangeSet 768 0 768) (fun t => tokOn c ys (Finset.univ \ srcSet (rowOf sw t)) t.val) ∗ owns (c : Thread nD τ) arg1 fullShare x0) from by
    rw [trips1]
    unfold issueAt batchAt
    iintro ⟨HB, -, -, HU, H1⟩
    isplitl [HB]; · iexact HB
    isplitl [HU]; · iexact HU
    iexact H1) $$ HI
  icases HI' with ⟨HB, HU, H1⟩
  unfold owns
  icases H2 with ⟨%f2, %hf2, H2⟩; icases H3 with ⟨%f3, %hf3, H3⟩; icases H5 with ⟨%f5, %hf5, H5⟩; icases H6 with ⟨%f6, %hf6, H6⟩; icases H7 with ⟨%f7, %hf7, H7⟩
  icases H8 with ⟨%f8, %hf8, H8⟩; icases H9 with ⟨%f9, %hf9, H9⟩; icases H10 with ⟨%d10, %f10, -, H10⟩
  sl_exec
  sl_for (drainAt c sw ys) $$ [HB HO]
  · intro k acc; exact drain_step c sw ys i arg1 harg1 arg2 harg2 arg3 harg3 arg5 harg5 arg6 harg6 arg7 harg7 arg8 harg8 arg9 harg9 arg10 harg10 k acc
  · unfold drainAt
    rw [if_pos (by norm_num)]
    isplitl [HO]; · iexists _; iexact HO
    iexact HB
  iintro %acc HL
  ihave HL' := (show drainAt c sw ys k0_t2_loop.trips acc ⊢ iprop((∃ W, owes (c : Thread nD τ) 0 W) ∗ semVal ((c : Thread nD τ), SemLoc.dma cc0_scratch1.sem) 0 ∗ bigSep Finset.univ (delivery c sw ys)) from by
    rw [trips2]
    unfold drainAt
    rw [if_neg (Nat.lt_irrefl _)]) $$ HL
  icases HL' with ⟨⟨%W', HO⟩, Hc, HD⟩
  ihave HJ := (delivered c sw ys) $$ [HD HU HRest]
  · isplitl [HD]; · iexact HD
    isplitl [HU]; · iexact HU
    iexact HRest
  icases HJ with ⟨HSc, HYs⟩
  sl_exec
  sl_step
  iapply Hk
  isplitl [H1]; · iexact H1
  isplitl [H2]; · iexists _; iframe H2; ipureintro; exact hf2
  isplitl [H3]; · iexists _; iframe H3; ipureintro; exact hf3
  isplitl [H5]; · iexists _; iframe H5; ipureintro; exact hf5
  isplitl [H6]; · iexists _; iframe H6; ipureintro; exact hf6
  isplitl [H7]; · iexists _; iframe H7; ipureintro; exact hf7
  isplitl [H8]; · iexists _; iframe H8; ipureintro; exact hf8
  isplitl [H9]; · iexists _; iframe H9; ipureintro; exact hf9
  isplitl [H10]
  · iexists _; iframe H10; ipureintro
    rw [View.read_writes_full]
    dsimp only
    have e0 := read_plane c sw ys 0 inb_S6x128x1024_S1x128x1024_0_0_0
    have e1 := read_plane c sw ys 1 inb_S6x128x1024_S1x128x1024_1_0_0
    have e2 := read_plane c sw ys 2 inb_S6x128x1024_S1x128x1024_2_0_0
    have e3 := read_plane c sw ys 3 inb_S6x128x1024_S1x128x1024_3_0_0
    have e4 := read_plane c sw ys 4 inb_S6x128x1024_S1x128x1024_4_0_0
    have e5 := read_plane c sw ys 5 inb_S6x128x1024_S1x128x1024_5_0_0
    unfold combined
    rw [← e0, ← e1, ← e2, ← e3, ← e4, ← e5, ← hf2, ← hf3, ← hf5, ← hf6, ← hf7, ← hf8, ← hf9]
    rw [View.readAt_full, View.readAt_full, View.readAt_full, View.readAt_full, View.readAt_full, View.readAt_full, View.readAt_full]
    rfl
  isplitl [HSc]; · iexists _; iexact HSc
  isplitl [HYs]; · iexact HYs
  isplitl [Hc]; · iexact Hc
  iexists _; iexact HO

end Cert.SCombineIdeal.Run

end
-- ==== Proof.SCombine.Run.lean ====
/- The run of the sample's combination: after it each block of the result holds what its point stores, and the arguments end as they began. -/
module

public import proofs.«01_k».proof.Proof.SCombine.Body
public import Idealize.ShloMosaic.Lib.Claim

@[expose] public section

set_option maxRecDepth 16384

noncomputable section

namespace Cert.SCombineIdeal.Run

open Cert.SCombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Cert.CombineIdeal.Run (combined)
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch -/

/-- Core `c`'s buffers at the region's entry: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that no host operation writes is found as launched. -/
theorem V_arg (c : Dev nD) (b : Ref sig .tc) (h : (hostOps0 (F := F)).Forall fun op => Proc.devRef .tc b ∉ op.writes) :
    V m c b = m ((c : Thread nD τ).loc b) :=
  StableHlo.after_of_forall_not_mem (b := Proc.devRef .tc b) _ _ (List.forall_iff_forall_mem.mp h)

/-- In particular one that is none of the arrays that they make. -/
theorem V_kept (c : Dev nD) (b : Ref sig .tc) (h : ∀ r ∈ [main_v0, main_v1, main_v2, main_v3, main_v4, main_v5, main_v6, main_v7, main_v8, main_v9, main_v10], b ≠ r) :
    V m c b = m ((c : Thread nD τ).loc b) :=
  V_arg m c b (by
    simp only [hostOps0, List.Forall, StableHlo.unary_writes, StableHlo.reshape_writes, Finset.mem_singleton]
    repeat' apply And.intro
    all_goals exact StableHlo.devRef_ne_of_ne (h _ (by simp)))

theorem V_main_arg0 (c : Dev nD) : V m c main_arg0 = m ((c : Thread nD τ).loc main_arg0) := V_kept m c _ (by decide)
theorem V_main_arg1 (c : Dev nD) : V m c main_arg1 = m ((c : Thread nD τ).loc main_arg1) := V_kept m c _ (by decide)
theorem V_main_arg2 (c : Dev nD) : V m c main_arg2 = m ((c : Thread nD τ).loc main_arg2) := V_kept m c _ (by decide)
theorem V_main_arg3 (c : Dev nD) : V m c main_arg3 = m ((c : Thread nD τ).loc main_arg3) := V_kept m c _ (by decide)
theorem V_main_arg4 (c : Dev nD) : V m c main_arg4 = m ((c : Thread nD τ).loc main_arg4) := V_kept m c _ (by decide)
theorem V_main_arg5 (c : Dev nD) : V m c main_arg5 = m ((c : Thread nD τ).loc main_arg5) := V_kept m c _ (by decide)
theorem V_main_arg6 (c : Dev nD) : V m c main_arg6 = m ((c : Thread nD τ).loc main_arg6) := V_kept m c _ (by decide)
theorem V_main_arg7 (c : Dev nD) : V m c main_arg7 = m ((c : Thread nD τ).loc main_arg7) := V_kept m c _ (by decide)
theorem V_main_arg8 (c : Dev nD) : V m c main_arg8 = m ((c : Thread nD τ).loc main_arg8) := V_kept m c _ (by decide)

/-- The body's one DMA cell. -/
abbrev osem0 : Fin 1 → SemLoc sig := fun j => (![SemLoc.dma 9] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch1.sem) 0 := by
  rw [Pipeline.ownSems0_eq_of_list c osem0 [0] (by decide) (by decide)]; rfl

/-- The operand that the body's transfers read: the experts' rows. -/
def H0 : Finset (Ref sig .tc) := {main_arg3}
theorem H0_sub : H0 ⊆ Pipeline.restRefs sig spec0 := by decide
theorem hbmPts0_eq (c : Dev nD) :
    (bigSep H0 (fun b => ((c : Thread nD τ).loc b) ↦{fullShare} V m c b) : sProp 𝕄) = (ysM.view.loc (c : Thread nD τ) ↦{fullShare} V m c main_arg3) := by
  rw [BI.bigSep_eq_bigSepL_of_eq [main_arg3] (by decide) (by decide)]; rfl

/-- What is held between the points: the scratch at anything, the generator register, the DMA cell at zero and the experts' rows. -/
theorem PhiD0_eq (c : Dev nD) :
    (Pipeline.ΦD osem0 spec0 H0 (V m) c : sProp 𝕄)
      = iprop((∃ d, scM.view.loc (c : Thread nD τ) ↦{fullShare} d) ∗ (∃ r, prngReg c r)
          ∗ semVal ((c : Thread nD τ), SemLoc.dma cc0_scratch1.sem) 0 ∗ (ysM.view.loc (c : Thread nD τ) ↦{fullShare} V m c main_arg3)) := by
  rw [Pipeline.ΦD_eq, scopedRest0_eq, ownSems00_eq, hbmPts0_eq]

/-! ## The windows' blocks -/

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms (w : Fin 9) (t : Fin cfg0.N) := (spec0 w).stage (cfg0.slots t w)

/-- The rows that a block of the slot table names. -/
def swOf (x0 : Vec F S8x128 .i32) : Fin 6 → Fin 128 → Fin 4864 :=
  fun k r => ⟨(x0 (ix2 (Fin.castLE (by norm_num) k) r) : BitVec 32).toNat % 4864, Nat.mod_lt _ (by norm_num)⟩

/-- Where every word of the block is below the number of rows, the block names those rows. -/
theorem names_swOf (x0 : Vec F S8x128 .i32) (h : ∀ (k : Fin 6) (r : Fin 128), (x0 (ix2 (Fin.castLE (by norm_num) k) r) : BitVec 32).toNat < 4864) :
    Names (swOf x0) x0 := fun k r => (Nat.mod_eq_of_lt (h k r)).symm

/-- The body at point `t`. -/
abbrev bodyAt0 (t : Fin cfg0.N) : Prog (TpuEff nD τ sig (Elt F) Λ₀ .tc) PUnit :=
  cc0_moe_combine_ln (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) ysM (Memref.isWhole_whole _) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7))
    (win0_8.stage (cfg0.slots t 8)) (hstage0_8 ((cfg0.slots t 8).cast nbuf0_8)) scM (Memref.isWhole_whole _) cc0_scratch1

/-- What the body leaves in the output block of point `t`. -/
def oblk (c : Dev nD) (t : Fin cfg0.N) : Vec F S128x1024 .f32 :=
  combined (iblk m c 1 t) (iblk m c 2 t) (iblk m c 3 t) (iblk m c 4 t) (iblk m c 5 t) (iblk m c 6 t) (iblk m c 7 t) (planeOf (swOf (iblk m c 0 t)) (V m c main_arg3))

/-- The pipeline's proof data on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => oblk m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]; try rfl
theorem after0_1 (c : Dev nD) (t : Fin cfg0.N) : (dats m 0 c).after 1 t = iblk m c 1 t := by dsimp only [dats]; try rfl
theorem after0_2 (c : Dev nD) (t : Fin cfg0.N) : (dats m 0 c).after 2 t = iblk m c 2 t := by dsimp only [dats]; try rfl
theorem after0_3 (c : Dev nD) (t : Fin cfg0.N) : (dats m 0 c).after 3 t = iblk m c 3 t := by dsimp only [dats]; try rfl
theorem after0_4 (c : Dev nD) (t : Fin cfg0.N) : (dats m 0 c).after 4 t = iblk m c 4 t := by dsimp only [dats]; try rfl
theorem after0_5 (c : Dev nD) (t : Fin cfg0.N) : (dats m 0 c).after 5 t = iblk m c 5 t := by dsimp only [dats]; try rfl
theorem after0_6 (c : Dev nD) (t : Fin cfg0.N) : (dats m 0 c).after 6 t = iblk m c 6 t := by dsimp only [dats]; try rfl
theorem after0_7 (c : Dev nD) (t : Fin cfg0.N) : (dats m 0 c).after 7 t = iblk m c 7 t := by dsimp only [dats]; try rfl
theorem after0_8 (c : Dev nD) (t : Fin cfg0.N) : (dats m 0 c).after 8 t = oblk m c t := by dsimp only [dats]; try rfl

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms 0 t) fullShare ((dats m 0 c).before 0 t d))
    ∗ (∃ d, owns (c : Thread nD τ) (ms 1 t) fullShare ((dats m 0 c).before 1 t d))
    ∗ (∃ d, owns (c : Thread nD τ) (ms 2 t) fullShare ((dats m 0 c).before 2 t d))
    ∗ (∃ d, owns (c : Thread nD τ) (ms 3 t) fullShare ((dats m 0 c).before 3 t d))
    ∗ (∃ d, owns (c : Thread nD τ) (ms 4 t) fullShare ((dats m 0 c).before 4 t d))
    ∗ (∃ d, owns (c : Thread nD τ) (ms 5 t) fullShare ((dats m 0 c).before 5 t d))
    ∗ (∃ d, owns (c : Thread nD τ) (ms 6 t) fullShare ((dats m 0 c).before 6 t d))
    ∗ (∃ d, owns (c : Thread nD τ) (ms 7 t) fullShare ((dats m 0 c).before 7 t d))
    ∗ (∃ d, owns (c : Thread nD τ) (ms 8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms 0 t) fullShare ((dats m 0 c).after 0 t)
    ∗ owns (c : Thread nD τ) (ms 1 t) fullShare ((dats m 0 c).after 1 t)
    ∗ owns (c : Thread nD τ) (ms 2 t) fullShare ((dats m 0 c).after 2 t)
    ∗ owns (c : Thread nD τ) (ms 3 t) fullShare ((dats m 0 c).after 3 t)
    ∗ owns (c : Thread nD τ) (ms 4 t) fullShare ((dats m 0 c).after 4 t)
    ∗ owns (c : Thread nD τ) (ms 5 t) fullShare ((dats m 0 c).after 5 t)
    ∗ owns (c : Thread nD τ) (ms 6 t) fullShare ((dats m 0 c).after 6 t)
    ∗ owns (c : Thread nD τ) (ms 7 t) fullShare ((dats m 0 c).after 7 t)
    ∗ owns (c : Thread nD τ) (ms 8 t) fullShare ((dats m 0 c).after 8 t))

/-- Every block of the slot table names rows that are there. -/
abbrev InRange : Prop := ∀ (c : Dev nD) (t : Fin cfg0.N), Names (swOf (iblk m c 0 t)) (iblk m c 0 t)

theorem sound_body (hS : InRange m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl, after0_0, after0_1, after0_2, after0_3, after0_4, after0_5, after0_6, after0_7, after0_8]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold oblk
  iintro ⟨⟨HSc, Hg, Hq, Hy⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (swOf (iblk m c 0 t)) (V m c main_arg3) (iblk m c 0 t) (hS c t) (iblk m c 1 t) (iblk m c 2 t) (iblk m c 3 t) (iblk m c 4 t) (iblk m c 5 t) (iblk m c 6 t) (iblk m c 7 t) (grid0.coords t) _ _ _ _ _ _ _ _ _ _ _ _ _ _ _ _ _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HSc]; · iexact HSc
  isplitl [Hy]; · iexact Hy
  isplitl [Hq]; · iexact Hq
  isplitl [HW]; · iexact HW
  iintro ⟨H0, H1, H2, H3, H4, H5, H6, H7, H8, HSc, Hy, Hq, ⟨%W', HW'⟩⟩
  isplitl [HSc Hg Hq Hy]
  · isplitl [HSc]; · iexact HSc
    isplitl [Hg]; · iexact Hg
    isplitl [Hq]; · iexact Hq
    iexact Hy
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (hS : InRange m) (c : Dev nD) : BodyObligation (dats (F := F) m 0 c) (defs₀ (F := F)) Variants.none () Set.univ := fun t => by
  rw [bigSep_W0, bigSep_W0, defs₀_row]
  exact triple_restated (sound_body m hS c t) rfl .rfl fun _ => .rfl

/-! ## The run and the frame -/

set_option backward.isDefEq.respectTransparency.types false in
/-- The run: every array ends at what the proof data names, every other buffer as it began, every semaphore at zero. -/
theorem run_main (hS : InRange m) : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hS c).loose) (hshare := fun c => (dats m 0 c).share_full fun _ => rfl)
    (howed := fun _ _ => rfl) (V := V m) (hmain := hmain m Variants.none) (hA := A_eq m) (hin := fun _ => .rfl) (hout := fun _ => .rfl)

/-- The arguments end as they began, and the result array at what the proof data names. -/
theorem run_all (hS : InRange m) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.mem ((c.tc : Thread nD τ).loc main_v11) = (dats m 0 c).arrAt 8 cfg0.N)
      ∧ r.2.sem = fun _ => 0) :=
  (θ_run defs _ _).mono (fun r h => ⟨fun c => ⟨⟨
      ((h.1 c).1 1 |>.trans ((dats m 0 c).arrAt_in 1 rfl _)).trans (V_main_arg0 m c),
      ((h.1 c).1 0 |>.trans ((dats m 0 c).arrAt_in 0 rfl _)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c),
      ((h.1 c).2 main_arg5 (by decide : main_arg5 ∈ Pipeline.restRefs sig spec0)).trans (V_main_arg5 m c),
      ((h.1 c).2 main_arg6 (by decide : main_arg6 ∈ Pipeline.restRefs sig spec0)).trans (V_main_arg6 m c),
      ((h.1 c).2 main_arg7 (by decide : main_arg7 ∈ Pipeline.restRefs sig spec0)).trans (V_main_arg7 m c),
      ((h.1 c).2 main_arg8 (by decide : main_arg8 ∈ Pipeline.restRefs sig spec0)).trans (V_main_arg8 m c)⟩, (h.1 c).1 8⟩, h.2⟩) (run_main m ρ hS)

end Cert.SCombineIdeal.Run

end
-- ==== Proof.SCombine.Array.lean ====
/- The sample's combined array after the run: every row is the normalized sum of its scaled token, the shared expert and its six
   weighed rows. -/
module

public import proofs.«01_k».proof.Proof.SCombine.Run
public import proofs.«01_k».proof.Proof.Combine.Block

@[expose] public section

set_option maxRecDepth 16384

noncomputable section

namespace Cert.SCombineIdeal.Run

open Cert.SCombineIdeal Cert.SCombineIdeal.Gen
open Idealize.ShloMosaic Idealize.ShloMosaic.TcCoe Idealize.SL.Sem
open Idealize.ShloMosaic.Pipeline (Dat)
open Cert.PostIdeal.Value (gate normalized)
open Cert.CombineIdeal.Run (shared combined_apply)

/-- The row that the slot table names for token `r`'s expert number `k`. -/
def slotRow (S : IVec S8x128 32) (k : Fin 6) (r : Fin 128) : Fin 4864 :=
  ⟨(S (ix2 (Fin.castLE (by norm_num) k) r)).toNat % 4864, Nat.mod_lt _ (by norm_num)⟩

/-- The sum that is normalized. -/
def presum (X : FVec Ideal S128x1024 .f32) (S : IVec S8x128 32) (W : FVec Ideal S128x8 .f32) (Y : FVec Ideal S4864x1024 .f32)
    (G U : FVec Ideal S1024x256 .f32) (D : FVec Ideal S256x1024 .f32) (r : Fin 128) (j : Fin 1024) : EReal :=
  Ideal.ofBits FTy.f32 1066940400#32 * X (ix2 r j)
    + shared (fun k => X (ix2 r k)) (fun k f => G (ix2 k f)) (fun k f => U (ix2 k f)) (fun f => D (ix2 f j))
    + ∑ k : Fin 6, W (ix2 r (Fin.castLE (by norm_num) k)) * Y (ix2 (slotRow S k r) j)

/-- The normalized sums, scaled and shifted. -/
def result (X : FVec Ideal S128x1024 .f32) (S : IVec S8x128 32) (W : FVec Ideal S128x8 .f32) (Y : FVec Ideal S4864x1024 .f32)
    (G U : FVec Ideal S1024x256 .f32) (D : FVec Ideal S256x1024 .f32) (g b : FVec Ideal S1x1024 .f32) : FVec Ideal S128x1024 .f32 :=
  fun i => normalized (presum X S W Y G U D (i 0)) (i 1) * g (ix2 0 (i 1)) + b (ix2 0 (i 1))

/-- Where each window's block lies at a grid point. -/
theorem idx : ∀ t : Fin cfg0.N, win0_0.index t = ![0, t.val] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![t.val, 0] :=
  (by decide +kernel : ∀ t : Fin grid0.N, _)

section
variable {F : FTy → Type} [FloatOps F] (m : (ℓ : Loc nD τ sig) → Buf (Elt F) ℓ)

/-- The slot table's block is its columns of the point's tokens. -/
theorem slot_at (c : Dev nD) (t : Fin cfg0.N) (k : Fin 8) (a : Fin 128) (hr : t.val * 128 + a.val < 128) :
    (iblk m c 0 t : Vec F S8x128 .i32) (ix2 k a) = (V m c main_arg1 : IVec S8x128 32) (ix2 k ⟨t.val * 128 + a.val, hr⟩) := by
  blk_ext [iblk, V, idx t]

theorem N_eq : cfg0.N = 1 := N_0

/-- A token's row within the array. -/
theorem row_lt (t : Fin cfg0.N) (a : Fin 128) : t.val * 128 + a.val < 128 := by
  have h := t.isLt; have := N_eq; omega

/-- Where every word of the six rows is below the number of the experts' rows, every block names rows that are there. -/
theorem inRange_of_lt (h : ∀ (c : Dev nD) (k : Fin 6) (r : Fin 128), ((m ((c : Thread nD τ).loc main_arg1) : IVec S8x128 32) (ix2 (Fin.castLE (by norm_num) k) r)).toNat < 4864) :
    InRange m := fun c t => names_swOf _ fun k a => by
  exact lt_of_eq_of_lt (congrArg BitVec.toNat ((slot_at m c t (Fin.castLE (by norm_num) k) a (row_lt t a)).trans (congrFun (V_main_arg1 m c) _))) (h c k _)

theorem swOf_block (c : Dev nD) (t : Fin cfg0.N) (k : Fin 6) (a : Fin 128) :
    swOf (iblk m c 0 t : Vec F S8x128 .i32) k a = slotRow (V m c main_arg1) k ⟨t.val * 128 + a.val, row_lt t a⟩ :=
  Fin.ext (congrArg (fun w : BitVec 32 => w.toNat % 4864) (slot_at m c t _ a (row_lt t a)))

end

variable (m : (ℓ : Loc nD τ sig) → Buf (Elt Ideal) ℓ)

/-- What the body leaves in a point's block is the array's block. -/
theorem point (c : Dev nD) (t : Fin cfg0.N) (a : Fin 128) (j : Fin 1024) :
    oblk m c t (ix2 a j)
      = result (V m c main_arg0) (V m c main_arg1) (V m c main_v0) (V m c main_arg3) (V m c main_v2) (V m c main_v4) (V m c main_v6) (V m c main_v9) (V m c main_v10)
          (ix2 ⟨t.val * 128 + a.val, row_lt t a⟩ j) := by
  have hr := row_lt t a
  unfold oblk
  refine (combined_apply _ _ _ _ _ _ _ _ a j).trans ?_
  have e : ∀ (k : Fin 6) (c' : Fin 1024), planeOf (swOf (iblk m c 0 t : Vec Ideal S8x128 .i32)) (V m c main_arg3) k (ix3 0 a c')
      = (V m c main_arg3 : FVec Ideal S4864x1024 .f32) (ix2 (slotRow (V m c main_arg1) k ⟨t.val * 128 + a.val, hr⟩) c') := fun k c' =>
    congrArg (fun s => (V m c main_arg3 : FVec Ideal S4864x1024 .f32) (ix2 s c')) (swOf_block m c t k a)
  simp only [e]
  unfold result presum
  blk_point [iblk, V, idx t]
  rfl

/-- … at an index of the block. -/
theorem point' (c : Dev nD) (t : Fin cfg0.N) (y : S128x1024.Idx) (i : S128x1024.Idx)
    (h0 : (i 0).val = t.val * 128 + (y 0).val) (h1 : (i 1).val = (y 1).val) :
    oblk m c t y
      = result (V m c main_arg0) (V m c main_arg1) (V m c main_v0) (V m c main_arg3) (V m c main_v2) (V m c main_v4) (V m c main_v6) (V m c main_v9) (V m c main_v10) i := by
  have hy : y = ix2 (y 0) (y 1) := by funext a; fin_cases a <;> rfl
  have hi : i = ix2 ⟨t.val * 128 + (y 0).val, row_lt t (y 0)⟩ (y 1) := by
    funext a; fin_cases a
    · exact Fin.ext h0
    · exact Fin.ext h1
  rw [hy, hi]
  exact point m c t (y 0) (y 1)

/-- The array after the run. -/
theorem final (c : Dev nD) : (dats m 0 c).arrAt 8 cfg0.N
    = result (V m c main_arg0) (V m c main_arg1) (V m c main_v0) (V m c main_arg3) (V m c main_v2) (V m c main_v4) (V m c main_v6) (V m c main_v9) (V m c main_v10) := by
  refine (dats m 0 c).arrAt_eq_of_covers 8 _ (by decide +kernel) fun t _ y => ?_
  blk_simp
  rw [after0_8]
  exact point' m c t y _ (by blk_simp [idx t]) (by blk_simp [idx t])

/-! ## What the call finds in the arrays that the host prepares -/

theorem V_wts (c : Dev nD) : V m c main_v0 = transpose S128x8 [1, 0] (m ((c : Thread nD τ).loc main_arg2)) transposes_S8x128_S128x8_1_0 := by
  show StableHlo.after hostOps0 (fun b => m (c, b)) (Proc.devRef .tc main_v0) = _
  after_results <;> rfl
theorem V_gate (c : Dev nD) : V m c main_v2 = (shapeCast S1024x256 (m ((c : Thread nD τ).loc main_arg4)) shapeCasts_S1x1024x256_S1024x256 : FVec Ideal S1024x256 .f32) := by
  show StableHlo.after hostOps0 (fun b => m (c, b)) (Proc.devRef .tc main_v2) = _
  after_results <;> rfl
theorem V_up (c : Dev nD) : V m c main_v4 = (shapeCast S1024x256 (m ((c : Thread nD τ).loc main_arg5)) shapeCasts_S1x1024x256_S1024x256 : FVec Ideal S1024x256 .f32) := by
  show StableHlo.after hostOps0 (fun b => m (c, b)) (Proc.devRef .tc main_v4) = _
  after_results <;> rfl
theorem V_down (c : Dev nD) : V m c main_v6 = (shapeCast S256x1024 (m ((c : Thread nD τ).loc main_arg6)) shapeCasts_S1x256x1024_S256x1024 : FVec Ideal S256x1024 .f32) := by
  show StableHlo.after hostOps0 (fun b => m (c, b)) (Proc.devRef .tc main_v6) = _
  after_results <;> rfl
theorem V_scale (c : Dev nD) : V m c main_v9 = shapeCast S1x1024 (shapeCast S1024 (m ((c : Thread nD τ).loc main_arg7)) shapeCasts_S1x1024_S1024) shapeCasts_S1024_S1x1024 := by
  show StableHlo.after hostOps0 (fun b => m (c, b)) (Proc.devRef .tc main_v9) = _
  after_results <;> rfl
theorem V_shift (c : Dev nD) : V m c main_v10 = shapeCast S1x1024 (shapeCast S1024 (m ((c : Thread nD τ).loc main_arg8)) shapeCasts_S1x1024_S1024) shapeCasts_S1024_S1x1024 := by
  show StableHlo.after hostOps0 (fun b => m (c, b)) (Proc.devRef .tc main_v10) = _
  after_results <;> rfl

end Cert.SCombineIdeal.Run

end
-- ==== Proof.SCombine.Range.lean ====
/- The sample's slot tables that the precondition admits: every block of them names rows that are there. -/
module

public import proofs.«01_k».proof.Proof.SCombine.Array
public import proofs.«01_k».proof.Proof.Combine.Range
public import proofs.«01_k».proof.Proof.Gen.Pre_sample_slot_range
public import Idealize.ShloMosaic.Lib.ReduceAll
public import Idealize.ShloMosaic.Lib.WordCmp

@[expose] public section

set_option maxRecDepth 16384

noncomputable section

namespace Cert.SCombineIdeal.Run

open Cert.SCombineIdeal Cert.SCombineIdeal.Gen
open Idealize.ShloMosaic Idealize.ShloMosaic.TcCoe Idealize.SL.Sem

variable {F : FTy → Type} [FloatOps F]

/-- Under the precondition every entry of the slot table's first six rows is below the number of the experts' rows. -/
theorem slot_lt (x0 : FVec F S128x1024 .f32) (S : IVec S8x128 32) (x2 : FVec F S8x128 .f32) (x3 : FVec F S4864x1024 .f32) (x4 x5 : FVec F S1x1024x256 .f32)
    (x6 : FVec F S1x256x1024 .f32) (x7 x8 : FVec F S1x1024 .f32)
    (h : Cert.Pre_sample_slot_range.fn (F := F) x0 S x2 x3 x4 x5 x6 x7 x8 = fun _ => 1#1) (k : Fin 6) (r : Fin 128) : (S (ix2 (Fin.castLE (by norm_num) k) r)).toNat < 4864 := by
  haveI : Subsingleton Cert.Pre_sample_slot_range.S_.Idx := ⟨fun a b => funext fun i => i.elim0⟩
  have e := Host.reduce_andi_all _ _ _ _ _ (congrFun h (fun i => i.elim0)) (ix2 k r)
  obtain ⟨e0, e1⟩ := IntOp.andi_eq_one.1 e
  have hk : extractStridedSlice Cert.Pre_sample_slot_range.S6x128 ![0, 0] S Cert.Pre_sample_slot_range.Facts.slices_S8x128_S6x128_0_0 (ix2 k r) = S (ix2 (Fin.castLE (by norm_num) k) r) := by
    refine congrArg S (funext fun a => Fin.ext ?_)
    match a with
    | 0 => show 0 + k.val = k.val; omega
    | 1 => show 0 + r.val = r.val; omega
  rw [← hk]
  exact Cert.CombineIdeal.Run.toNat_lt_of_signed 4864 (by norm_num) _ e0 e1

/-- Every block of a launch's slot table names rows that are there, from the precondition at its memory. -/
theorem inRange_of_pre (m : (ℓ : Loc nD τ sig) → Buf (Elt F) ℓ)
    (h : ∀ c : Dev nD, Cert.Pre_sample_slot_range.fn (F := F) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) = fun _ => 1#1) : InRange m :=
  inRange_of_lt m fun c k r => slot_lt _ _ _ _ _ _ _ _ _ (h c) k r

end Cert.SCombineIdeal.Run

end
-- ==== Proof.SCombine.Reference.lean ====
/- What the reference of the sample's combination computes, in the kernel's sums. -/
module

public import proofs.«01_k».proof.Proof.SCombine.Array
public import proofs.«01_k».proof.Proof.Combine.Reference
public import proofs.«01_k».proof.Proof.Gen.SCombineRefIdeal.Run
public import Idealize.ShloMosaic.Lib.WordCmp

@[expose] public section

set_option maxRecDepth 16384

noncomputable section

namespace Cert.SCombineRefIdeal.Value

open Idealize.ShloMosaic Idealize.ShloMosaic.TcCoe Idealize.SL.Sem
open Cert.SCombineRefIdeal Cert.SCombineRefIdeal.Gen
open Cert.PostIdeal.Value (gate normalized)
open Cert.CombineIdeal.Run (shared)
open Cert.CombineRefIdeal.Value (gather_rows)
open Cert.SCombineIdeal.Run (slotRow presum)

/-! ## The parts of the result -/

/-- The slot table's first six rows. -/
abbrev six (S : IVec S8x128 32) : IVec S6x128 32 := extractStridedSlice S6x128 ![0, 0] S slices_S8x128_S6x128_0_0

/-- The table's entries as the gather's indices: a negative one counted from the end. -/
def wrapped (S : IVec S8x128 32) : IVec S6x128x1 32 :=
  broadcastInDim S6x128x1 ![0, 1] bcast_S6x128_S6x128x1_0_1 (select (cmpi .slt (six S) (broadcastInDim S6x128 ![] bcast_S_S6x128 (constantI S_ 32 0#32)))
    (addi (six S) (broadcastInDim S6x128 ![] bcast_S_S6x128 (constantI S_ 32 4864#32))) (six S))

/-- The experts' rows of the six tables. -/
def picked (S : IVec S8x128 32) (Y : FVec Ideal S4864x1024 .f32) : FVec Ideal S6x128x1024 .f32 :=
  Host.gather gather_S4864x1024_S6x128x1_S6x128x1024_2_0_n_n_0_2_11024 Y (wrapped S)

/-- The weighed sum of the rows. -/
def routedSum (W : FVec Ideal S8x128 .f32) (R : FVec Ideal S6x128x1024 .f32) : FVec Ideal S128x1024 .f32 :=
  Host.reduceAdd (mulf (broadcastInDim S6x128x1024 ![0, 1, 2] bcast_S6x128x1_S6x128x1024_0_1_2
      (broadcastInDim S6x128x1 ![0, 1] bcast_S6x128_S6x128x1_0_1 (extractStridedSlice S6x128 ![0, 0] W slices_S8x128_S6x128_0_0))) R)
    (constant S_ .f32 0x00000000#32) reducesTo_S6x128x1024_S128x1024_d0 h_S_

/-- The shared expert of every token. -/
def sharedAll (X : FVec Ideal S128x1024 .f32) (g u : FVec Ideal S1x1024x256 .f32) (d : FVec Ideal S1x256x1024 .f32) : FVec Ideal S128x1024 .f32 :=
  have gx : FVec Ideal S128x256 .f32 := Host.dotGeneral dot_S128x1024_S1024x256_S128x256_1_0_0_1_n_n none X (shapeCast S1024x256 g shapeCasts_S1x1024x256_S1024x256)
  have one : FVec Ideal S128x256 .f32 := broadcastInDim S128x256 ![] bcast_S_S128x256 (constant S_ .f32 0x3F800000#32)
  Host.dotGeneral dot_S128x256_S256x1024_S128x1024_1_0_0_1_n_n none
    (mulf (mulf gx (Host.divf one (addf one (Host.exp (Host.negf gx)))))
      (Host.dotGeneral dot_S128x1024_S1024x256_S128x256_1_0_0_1_n_n none X (shapeCast S1024x256 u shapeCasts_S1x1024x256_S1024x256)))
    (shapeCast S256x1024 d shapeCasts_S1x256x1024_S256x1024)

/-- The sum before the normalization. -/
def rsum (X R H : FVec Ideal S128x1024 .f32) : FVec Ideal S128x1024 .f32 :=
  addf (mulf (broadcastInDim S128x1024 ![] bcast_S_S128x1024 (constant S_ .f32 0x3F9837F0#32)) X) (addf R H)

/-- The normalization of every row. -/
def rnorm (Y : FVec Ideal S128x1024 .f32) (g b : FVec Ideal S1x1024 .f32) : FVec Ideal S128x1024 .f32 :=
  have mean : FVec Ideal S128x1 .f32 := Host.divf (broadcastInDim S128x1 ![0] bcast_S128_S128x1_0
    (Host.reduceAdd Y (constant S_ .f32 0x00000000#32) reducesTo_S128x1024_S128_d1 h_S_)) (broadcastInDim S128x1 ![] bcast_S_S128x1 (constant S_ .f32 0x44800000#32))
  have yc : FVec Ideal S128x1024 .f32 := subf Y (broadcastInDim S128x1024 ![0, 1] bcast_S128x1_S128x1024_0_1 mean)
  have var : FVec Ideal S128x1 .f32 := Host.divf (broadcastInDim S128x1 ![0] bcast_S128_S128x1_0
    (Host.reduceAdd (mulf yc yc) (constant S_ .f32 0x00000000#32) reducesTo_S128x1024_S128_d1 h_S_)) (broadcastInDim S128x1 ![] bcast_S_S128x1 (constant S_ .f32 0x44800000#32))
  addf (mulf (mulf yc (broadcastInDim S128x1024 ![0, 1] bcast_S128x1_S128x1024_0_1
      (Host.rsqrt (addf var (broadcastInDim S128x1 ![] bcast_S_S128x1 (constant S_ .f32 0x3727C5AC#32))))))
    (broadcastInDim S128x1024 ![0, 1] bcast_S1x1024_S128x1024_0_1 (broadcastInDim S1x1024 ![1] bcast_S1024_S1x1024_1 (shapeCast S1024 g shapeCasts_S1x1024_S1024))))
    (broadcastInDim S128x1024 ![0, 1] bcast_S1x1024_S128x1024_0_1 (broadcastInDim S1x1024 ![1] bcast_S1024_S1x1024_1 (shapeCast S1024 b shapeCasts_S1x1024_S1024)))

/-- The run's result, in these terms. -/
theorem res_eq (m : (ℓ : Loc nD τ sig) → Buf (Elt Ideal) ℓ) (c : Dev nD) : res_out0 (F := Ideal) m c
    = rnorm (rsum (m ((c.tc : Thread nD τ).loc main_arg0))
        (routedSum (m ((c.tc : Thread nD τ).loc main_arg2)) (picked (m ((c.tc : Thread nD τ).loc main_arg1)) (m ((c.tc : Thread nD τ).loc main_arg3))))
        (sharedAll (m ((c.tc : Thread nD τ).loc main_arg0)) (m ((c.tc : Thread nD τ).loc main_arg4)) (m ((c.tc : Thread nD τ).loc main_arg5)) (m ((c.tc : Thread nD τ).loc main_arg6))))
      (m ((c.tc : Thread nD τ).loc main_arg7)) (m ((c.tc : Thread nD τ).loc main_arg8)) := rfl

/-! ## The parts at an index -/

theorem wrapped_at (S : IVec S8x128 32) (k : Fin 6) (r : Fin 128) (h : (S (ix2 (Fin.castLE (by norm_num) k) r)).toNat < 4864) :
    wrapped S (ix3 k r 0) = S (ix2 (Fin.castLE (by norm_num) k) r) := by
  have key : Scalar.select (IntOp.cmpi CmpIPredicate.slt (S (ix2 (Fin.castLE (by norm_num) k) r)) 0#32) (IntOp.addi (S (ix2 (Fin.castLE (by norm_num) k) r)) 4864#32) (S (ix2 (Fin.castLE (by norm_num) k) r))
      = S (ix2 (Fin.castLE (by norm_num) k) r) := by
    have e : ¬ (S (ix2 (Fin.castLE (by norm_num) k) r)).toInt < (0#32).toInt := by
      rw [BitVec.toInt_eq_toNat_of_lt (by omega), BitVec.toInt_zero]; omega
    unfold Scalar.select
    rw [WordCmp.cmpi_slt_eq, if_neg]
    show ¬ _ = 1#1
    rw [WordCmp.ofBool_decide_eq_one_iff]; exact e
  refine Eq.trans ?_ key
  pointwise [wrapped]
  rfl

theorem picked_at (S : IVec S8x128 32) (Y : FVec Ideal S4864x1024 .f32) (k : Fin 6) (r : Fin 128) (j : Fin 1024) (h : (S (ix2 (Fin.castLE (by norm_num) k) r)).toNat < 4864) :
    picked S Y (ix3 k r j) = Y (ix2 (slotRow S k r) j) := by
  refine (gather_rows (by decide) _ Y (wrapped S) k r j).trans ?_
  congr 2
  refine Fin.ext ?_
  show min (wrapped S (ix3 k r 0)).toInt.toNat (4864 - 1) = (S (ix2 (Fin.castLE _ k) r)).toNat % 4864
  rw [wrapped_at S k r h, BitVec.toInt_eq_toNat_of_lt (by omega), Int.toNat_natCast, Nat.mod_eq_of_lt h]
  omega

theorem routedSum_apply (W : FVec Ideal S8x128 .f32) (R : FVec Ideal S6x128x1024 .f32) (r : Fin 128) (j : Fin 1024) :
    routedSum W R (ix2 r j) = ∑ k : Fin 6, W (ix2 (Fin.castLE (by norm_num) k) r) * R (ix3 k r j) := by
  pointwise [routedSum]
  rfl

theorem sharedAll_apply (X : FVec Ideal S128x1024 .f32) (g u : FVec Ideal S1x1024x256 .f32) (d : FVec Ideal S1x256x1024 .f32) (r : Fin 128) (j : Fin 1024) :
    sharedAll X g u d (ix2 r j) = shared (fun k => X (ix2 r k)) (fun k f => g (ix3 0 k f)) (fun k f => u (ix3 0 k f)) (fun f => d (ix3 0 f j)) := by
  unfold shared gate
  simp only [zero_sub]
  pointwise [sharedAll]

theorem rsum_apply (X R H : FVec Ideal S128x1024 .f32) (r : Fin 128) (j : Fin 1024) :
    rsum X R H (ix2 r j) = Ideal.ofBits FTy.f32 1066940400#32 * X (ix2 r j) + (R (ix2 r j) + H (ix2 r j)) := by
  pointwise [rsum]

theorem rnorm_apply (Y : FVec Ideal S128x1024 .f32) (g b : FVec Ideal S1x1024 .f32) (r : Fin 128) (j : Fin 1024) :
    rnorm Y g b (ix2 r j) = normalized (fun k => Y (ix2 r k)) j * g (ix2 0 j) + b (ix2 0 j) := by
  pointwise [rnorm, normalized]

/-- The reference's array is the kernel's, where the slots are in range: the kernel adds the shared expert before the six rows, the reference after. -/
theorem value (X : FVec Ideal S128x1024 .f32) (S : IVec S8x128 32) (W : FVec Ideal S8x128 .f32) (Y : FVec Ideal S4864x1024 .f32)
    (G U : FVec Ideal S1x1024x256 .f32) (D : FVec Ideal S1x256x1024 .f32) (g b : FVec Ideal S1x1024 .f32)
    (h : ∀ (k : Fin 6) (r : Fin 128), (S (ix2 (Fin.castLE (by norm_num) k) r)).toNat < 4864) (r : Fin 128) (j : Fin 1024) :
    rnorm (rsum X (routedSum W (picked S Y)) (sharedAll X G U D)) g b (ix2 r j)
      = Cert.SCombineIdeal.Run.result X S (transpose Cert.SCombineIdeal.S128x8 [1, 0] W Cert.SCombineIdeal.Facts₀.transposes_S8x128_S128x8_1_0) Y
          (shapeCast S1024x256 G shapeCasts_S1x1024x256_S1024x256) (shapeCast S1024x256 U shapeCasts_S1x1024x256_S1024x256) (shapeCast S256x1024 D shapeCasts_S1x256x1024_S256x1024)
          (shapeCast S1x1024 (shapeCast S1024 g shapeCasts_S1x1024_S1024) Cert.SCombineIdeal.Facts₀.shapeCasts_S1024_S1x1024)
          (shapeCast S1x1024 (shapeCast S1024 b shapeCasts_S1x1024_S1024) Cert.SCombineIdeal.Facts₀.shapeCasts_S1024_S1x1024) (ix2 r j) := by
  refine (rnorm_apply _ g b r j).trans ?_
  simp only [rsum_apply, routedSum_apply, sharedAll_apply, picked_at S Y _ _ _ (h _ _)]
  unfold Cert.SCombineIdeal.Run.result presum
  pointwise []
  simp only [add_assoc, add_comm (shared _ _ _ _)]

end Cert.SCombineRefIdeal.Value

end
-- ==== Proof.SCombine.Claim.lean ====
/- The claims of the sample's combination: the kernel's frames under the slots' range, its reference's frames, and that both compute the
   same function over the extended reals. -/
module

public import proofs.«01_k».proof.Defs
public import proofs.«01_k».proof.Proof.SCombine.Range
public import proofs.«01_k».proof.Proof.SCombine.Reference
public import proofs.«01_k».proof.Proof.Gen.SCombine.Skeleton

@[expose] public section

set_option maxRecDepth 16384

noncomputable section

namespace Cert.SCombine.Claims

open Idealize.ShloMosaic Idealize.ShloMosaic.TcCoe Idealize.SL.Sem
open Cert.SCombineIdeal.Gen Cert.SCombine.Gen

/-! ## The kernel at the bits is the kernel at the ideal instance, read at the bits -/

section Transfer
variable {F : FTy → Type} [FloatOps F]

/-- The two prints' bodies are one. -/
theorem bodies_eq : (@Cert.SCombine.defs₀ F _ _) = (@Cert.SCombineIdeal.defs₀ F _ _) :=
  congrArg Defs.onTc (funext fun l => funext fun a => match l, a with
    | 0, (_, _) => rfl
    | ⟨_ + 1, h⟩, _ => absurd h (Nat.not_lt.2 (Nat.le_add_left _ _)))

/-- So are their body tables. -/
theorem defs_eq : (@Cert.SCombine.defs F _ _) = (@Cert.SCombineIdeal.defs F _ _) :=
  congrArg (Pipeline.defs Cert.SCombineIdeal.pcfgs) bodies_eq

set_option maxHeartbeats 4000000 in
/-- So are their entry programs. -/
theorem main_eq : (@Cert.SCombine.main F _ _) = (@Cert.SCombineIdeal.main F _ _) := rfl

end Transfer

/-- The kernel runs from slots in range and leaves its arguments alone. -/
theorem frame : Cert.quiescent_SCombine (hSCombine := Cert.SCombine.Gen.facts) (hPre_sample_slot_range := Cert.Pre_sample_slot_range.Gen.facts) := by
  intro m ρ hpre
  rw [defs_eq, main_eq]
  exact (θ_run _ _ _).mono (fun r h => ⟨fun c => (h.1 c).1, h.2⟩)
    (Cert.SCombineIdeal.Run.run_all (F := Bits) m ρ (Cert.SCombineIdeal.Run.inRange_of_pre (F := Bits) m hpre))

/-- So does the idealized kernel. -/
theorem frameIdeal : Cert.quiescent_SCombineIdeal (hSCombineIdeal := Cert.SCombineIdeal.Gen.facts) (hPre_sample_slot_range := Cert.Pre_sample_slot_range.Gen.facts) := by
  intro m ρ hpre
  exact (θ_run _ _ _).mono (fun r h => ⟨fun c => (h.1 c).1, h.2⟩)
    (Cert.SCombineIdeal.Run.run_all (F := Ideal) m ρ (Cert.SCombineIdeal.Run.inRange_of_pre (F := Ideal) m hpre))

/-- The reference runs and leaves its arguments alone; it declares no semaphore. -/
theorem frameRef : Cert.quiescent_SCombineRefIdeal (hSCombineRefIdeal := Cert.SCombineRefIdeal.Gen.facts) := fun m ρ _ =>
  (θ_run Cert.SCombineRefIdeal.defs _ _).mono (fun r h => ⟨fun c => (h c).2, Idealize.ShloMosaic.sem_eq_zero_of_no_sems (by decide) r.2⟩)
    (Cert.SCombineRefIdeal.Value.run (F := Ideal) m ρ)

/-- In particular from slots in range. -/
theorem frameRef_pre : Cert.quiescent_SCombineRefIdeal_pre_sample_slot_range (hSCombineRefIdeal := Cert.SCombineRefIdeal.Gen.facts)
    (hPre_sample_slot_range := Cert.Pre_sample_slot_range.Gen.facts) := fun m ρ _ => frameRef m ρ trivial

/-- The kernel and the reference compute the same array. -/
theorem algebraic : Cert.algebraic_SCombineIdeal_SCombineRefIdeal (hSCombineIdeal := Cert.SCombineIdeal.Gen.facts) (hSCombineRefIdeal := Cert.SCombineRefIdeal.Gen.facts)
    (hPre_sample_slot_range := Cert.Pre_sample_slot_range.Gen.facts) := by
  intro m g m' g' hpre hm
  have hlt := Cert.SCombineIdeal.Run.slot_lt _ _ _ _ _ _ _ _ _ (hpre 0)
  refine ⟨fun c => (Cert.SCombineIdeal.Run.dats (F := Ideal) m 0 c).arrAt 8 Cert.SCombineIdeal.cfg0.N, ?_, ?_⟩
  · refine (θ_run _ _ _).mono (fun r h c => ?_) (Cert.SCombineIdeal.Run.run_all (F := Ideal) m g (Cert.SCombineIdeal.Run.inRange_of_pre (F := Ideal) m hpre))
    exact ⟨(h.1 c).2, (h.1 c).1⟩
  · refine (θ_run _ _ _).mono (fun r h c => ?_) (Cert.SCombineRefIdeal.Value.run (F := Ideal) m' g')
    obtain rfl : c = 0 := Subsingleton.elim _ _
    refine ⟨(h 0).1.trans ?_, (h 0).2⟩
    obtain ⟨e0, e1, e2, e3, e4, e5, e6, e7, e8⟩ := hm 0
    refine Eq.trans ?_ (Cert.SCombineIdeal.Run.final m 0).symm
    rw [Cert.SCombineIdeal.Run.V_main_arg0, Cert.SCombineIdeal.Run.V_main_arg1, Cert.SCombineIdeal.Run.V_main_arg3, Cert.SCombineIdeal.Run.V_wts, Cert.SCombineIdeal.Run.V_gate,
      Cert.SCombineIdeal.Run.V_up, Cert.SCombineIdeal.Run.V_down, Cert.SCombineIdeal.Run.V_scale, Cert.SCombineIdeal.Run.V_shift]
    refine (Cert.SCombineRefIdeal.Value.res_eq m' 0).trans ?_
    rw [e0, e1, e2, e3, e4, e5, e6, e7, e8]
    funext i
    have hi : i = ix2 (i 0) (i 1) := funext fun a => by
      match a with
      | 0 => rfl
      | 1 => rfl
    rw [hi]
    exact Cert.SCombineRefIdeal.Value.value _ _ _ _ _ _ _ _ _ hlt (i 0) (i 1)

end Cert.SCombine.Claims

end
-- ==== Proof.lean ====
/- The proof of the certificate's claims: the projections of the prompt and of the sample, the routed experts, the
   output projection with its normalization, and the combination of the experts' rows for the prompt and for the sample. Each part is proved in its own modules,
   under Proof/Proj, Proof/SProj, Proof/Experts, Proof/Post, Proof/Combine and Proof/SCombine; this file only assembles them. -/
module

public import proofs.«01_k».proof.Defs
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.Pre_expert_range
public import proofs.«01_k».proof.Proof.Gen.SProj
public import proofs.«01_k».proof.Proof.Gen.SProj.Skeleton
public import proofs.«01_k».proof.Proof.Gen.SProj.Launch
public import proofs.«01_k».proof.Proof.Gen.SProj.Points
public import proofs.«01_k».proof.Proof.Gen.SProj.Frame
public import proofs.«01_k».proof.Proof.Gen.SProjIdeal
public import proofs.«01_k».proof.Proof.Gen.SProjIdeal.Skeleton
public import proofs.«01_k».proof.Proof.Gen.SProjIdeal.Launch
public import proofs.«01_k».proof.Proof.Gen.SProjIdeal.Points
public import proofs.«01_k».proof.Proof.Gen.SProjIdeal.Frame
public import proofs.«01_k».proof.Proof.Gen.SProjRefIdeal
public import proofs.«01_k».proof.Proof.Gen.SProjRefIdeal.Run
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.PostRefIdeal.Run
public import proofs.«01_k».proof.Proof.Gen.PostIdeal.Value
public import proofs.«01_k».proof.Proof.Gen.Combine
public import proofs.«01_k».proof.Proof.Gen.Combine.Skeleton
public import proofs.«01_k».proof.Proof.Gen.Combine.Launch
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineRefIdeal
public import proofs.«01_k».proof.Proof.Gen.CombineRefIdeal.Run
public import proofs.«01_k».proof.Proof.Gen.Pre_slot_range
public import proofs.«01_k».proof.Proof.Gen.SCombine
public import proofs.«01_k».proof.Proof.Gen.SCombine.Skeleton
public import proofs.«01_k».proof.Proof.Gen.SCombine.Launch
public import proofs.«01_k».proof.Proof.Gen.SCombineIdeal
public import proofs.«01_k».proof.Proof.Gen.SCombineIdeal.Skeleton
public import proofs.«01_k».proof.Proof.Gen.SCombineIdeal.Launch
public import proofs.«01_k».proof.Proof.Gen.SCombineRefIdeal
public import proofs.«01_k».proof.Proof.Gen.SCombineRefIdeal.Run
public import proofs.«01_k».proof.Proof.Gen.Pre_sample_slot_range
public import proofs.«01_k».proof.Proof.Proj.Claim
public import proofs.«01_k».proof.Proof.Experts.Claim
public import proofs.«01_k».proof.Proof.SProj.Claim
public import proofs.«01_k».proof.Proof.Post.Claim
public import proofs.«01_k».proof.Proof.Combine.Claim
public import proofs.«01_k».proof.Proof.SCombine.Claim
public import Idealize.ShloMosaic.Adequacy
public import Idealize.ShloMosaic.Init

@[expose] public section

noncomputable section

namespace Cert.Proof

open Idealize.ShloMosaic Idealize.SL.Sem Cert.Proj

/-- The projection's reference runs and leaves its arguments alone; it declares no semaphore. -/
theorem projRef_frame : Cert.quiescent_ProjRefIdeal (hProjRefIdeal := Cert.ProjRefIdeal.Gen.facts) := fun m ρ _ =>
  (θ_run Cert.ProjRefIdeal.defs _ _).mono (fun r h => ⟨fun c => (h c).2.2.2.2.2,
      Idealize.ShloMosaic.sem_eq_zero_of_no_sems (by decide) r.2⟩)
    (Cert.ProjRefIdeal.Value.run (F := Ideal) m ρ)

/-- So does the sample projection's. -/
theorem sprojRef_frame : Cert.quiescent_SProjRefIdeal (hSProjRefIdeal := Cert.SProjRefIdeal.Gen.facts) := fun m ρ _ =>
  (θ_run Cert.SProjRefIdeal.defs _ _).mono (fun r h => ⟨fun c => (h c).2.2.2.2.2,
      Idealize.ShloMosaic.sem_eq_zero_of_no_sems (by decide) r.2⟩)
    (Cert.SProjRefIdeal.Value.run (F := Ideal) m ρ)

/-- So does the output projection's. -/
theorem postRef_frame : Cert.quiescent_PostRefIdeal (hPostRefIdeal := Cert.PostRefIdeal.Gen.facts) := fun m ρ _ =>
  (θ_run Cert.PostRefIdeal.defs _ _).mono (fun r h => ⟨fun c => (h c).2.2,
      Idealize.ShloMosaic.sem_eq_zero_of_no_sems (by decide) r.2⟩)
    (Cert.PostRefIdeal.Value.run (F := Ideal) m ρ)

/-- Every claim of the certificate. -/
theorem claim : Cert.Claim := ⟨Cert.Proj.Gen.facts, Cert.ProjIdeal.Gen.facts, Cert.ProjRefIdeal.Gen.facts, Cert.Experts.Gen.facts, Cert.ExpertsIdeal.Gen.facts,
  Cert.ExpertsRefIdeal.Gen.facts, Cert.SProj.Gen.facts, Cert.SProjIdeal.Gen.facts, Cert.SProjRefIdeal.Gen.facts, Cert.Post.Gen.facts, Cert.PostIdeal.Gen.facts, Cert.PostRefIdeal.Gen.facts,
  Cert.Combine.Gen.facts, Cert.CombineIdeal.Gen.facts, Cert.CombineRefIdeal.Gen.facts, Cert.SCombine.Gen.facts, Cert.SCombineIdeal.Gen.facts, Cert.SCombineRefIdeal.Gen.facts,
  Cert.Pre_expert_range.Gen.facts, Cert.Pre_slot_range.Gen.facts, Cert.Pre_sample_slot_range.Gen.facts, by
  exact ⟨fun m ρ _ => Cert.Proj.Gen.frame m ρ, fun m ρ _ => Cert.ProjIdeal.Gen.frame m ρ, projRef_frame,
    Cert.Experts.Claims.frame, Cert.Experts.Claims.frameIdeal, Cert.Experts.Claims.frameRef, Cert.Experts.Claims.frameRef_pre,
    fun m ρ _ => Cert.SProj.Gen.frame m ρ, fun m ρ _ => Cert.SProjIdeal.Gen.frame m ρ, sprojRef_frame,
    fun m ρ _ => Cert.Post.Gen.frame m ρ, fun m ρ _ => Cert.PostIdeal.Gen.frame m ρ, postRef_frame,
    Cert.Combine.Claims.frame, Cert.Combine.Claims.frameIdeal, Cert.Combine.Claims.frameRef, Cert.Combine.Claims.frameRef_pre,
    Cert.SCombine.Claims.frame, Cert.SCombine.Claims.frameIdeal, Cert.SCombine.Claims.frameRef, Cert.SCombine.Claims.frameRef_pre,
    trivial, Cert.ProjIdeal.Value.claim, trivial, Cert.Experts.Claims.algebraic, trivial, Cert.SProjIdeal.Value.claim,
    trivial, Cert.PostIdeal.Value.claim, trivial, Cert.Combine.Claims.algebraic,
    trivial, Cert.SCombine.Claims.algebraic⟩⟩

end Cert.Proof

end
